-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_chosen [hPre_chosen : Cert.Pre_chosen.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_chosen.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_chosen [hPre_chosen : Cert.Pre_chosen.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_chosen.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_boxes [hPre_boxes : Cert.Pre_boxes.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_boxes.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1))).1 = (fun _ => 1#1)
    ∧ (Cert.Pre_boxes.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1))).2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_boxes [hPre_boxes : Cert.Pre_boxes.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_boxes.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1))).1 = (fun _ => 1#1)
    ∧ (Cert.Pre_boxes.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_chosen [hKernel3Ideal : Cert.Kernel3Ideal.Facts] [hPre_chosen : Cert.Pre_chosen.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_chosen m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_chosen [hReference3Ideal : Cert.Reference3Ideal.Facts] [hPre_chosen : Cert.Pre_chosen.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_chosen m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Kernel4Ideal_pre_boxes [hKernel4Ideal : Cert.Kernel4Ideal.Facts] [hPre_boxes : Cert.Pre_boxes.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_boxes m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Reference4Ideal_pre_boxes [hReference4Ideal : Cert.Reference4Ideal.Facts] [hPre_boxes : Cert.Pre_boxes.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_boxes m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v14)) (v2 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_v16) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v41)) (v1 : (c : Dev Cert.Kernel2Ideal.nD) → Buf (Elt Ideal) ((c.tc : Thread Cert.Kernel2Ideal.nD Cert.Kernel2Ideal.τ).loc Cert.Kernel2Ideal.main_v54)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v41) = v0 c
          ∧ r.2.mem ((c.tc : Thread Cert.Kernel2Ideal.nD Cert.Kernel2Ideal.τ).loc Cert.Kernel2Ideal.main_v54) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v26) = v0 c
          ∧ r.2.mem ((c.tc : Thread Cert.Reference2Ideal.nD Cert.Reference2Ideal.τ).loc Cert.Reference2Ideal.main_v75) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal_pre_chosen [hKernel3Ideal : Cert.Kernel3Ideal.Facts] [hReference3Ideal : Cert.Reference3Ideal.Facts] [hPre_chosen : Cert.Pre_chosen.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_chosen m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v46)) (v1 : (c : Dev Cert.Kernel3Ideal.nD) → Buf (Elt Ideal) ((c.tc : Thread Cert.Kernel3Ideal.nD Cert.Kernel3Ideal.τ).loc Cert.Kernel3Ideal.main_v48)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v46) = v0 c
          ∧ r.2.mem ((c.tc : Thread Cert.Kernel3Ideal.nD Cert.Kernel3Ideal.τ).loc Cert.Kernel3Ideal.main_v48) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v88) = v0 c
          ∧ r.2.mem ((c.tc : Thread Cert.Reference3Ideal.nD Cert.Reference3Ideal.τ).loc Cert.Reference3Ideal.main_v35) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_boxes [hKernel4Ideal : Cert.Kernel4Ideal.Facts] [hReference4Ideal : Cert.Reference4Ideal.Facts] [hPre_boxes : Cert.Pre_boxes.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_boxes m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v30)) (v1 : (c : Dev Cert.Kernel4Ideal.nD) → Buf (Elt Ideal) ((c.tc : Thread Cert.Kernel4Ideal.nD Cert.Kernel4Ideal.τ).loc Cert.Kernel4Ideal.main_v32)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v30) = v0 c
          ∧ r.2.mem ((c.tc : Thread Cert.Kernel4Ideal.nD Cert.Kernel4Ideal.τ).loc Cert.Kernel4Ideal.main_v32) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v70) = v0 c
          ∧ r.2.mem ((c.tc : Thread Cert.Reference4Ideal.nD Cert.Reference4Ideal.τ).loc Cert.Reference4Ideal.main_v73) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_tame : Cert.Pre_tame.Facts) (hPre_chosen : Cert.Pre_chosen.Facts) (hPre_boxes : Cert.Pre_boxes.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_chosen (hKernel3Ideal := hKernel3Ideal) (hPre_chosen := hPre_chosen)
    ∧ quiescent_Reference3Ideal (hReference3Ideal := hReference3Ideal)
    ∧ quiescent_Reference3Ideal_pre_chosen (hReference3Ideal := hReference3Ideal) (hPre_chosen := hPre_chosen)
    ∧ quiescent_Kernel4 (hKernel4 := hKernel4)
    ∧ quiescent_Kernel4Ideal (hKernel4Ideal := hKernel4Ideal)
    ∧ quiescent_Kernel4Ideal_pre_boxes (hKernel4Ideal := hKernel4Ideal) (hPre_boxes := hPre_boxes)
    ∧ quiescent_Reference4Ideal (hReference4Ideal := hReference4Ideal)
    ∧ quiescent_Reference4Ideal_pre_boxes (hReference4Ideal := hReference4Ideal) (hPre_boxes := hPre_boxes)
    ∧ preserves_Kernel_KernelIdeal
    ∧ algebraic_KernelIdeal_ReferenceIdeal_pre_tame (hKernelIdeal := hKernelIdeal) (hReferenceIdeal := hReferenceIdeal) (hPre_tame := hPre_tame)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_chosen (hKernel3Ideal := hKernel3Ideal) (hReference3Ideal := hReference3Ideal) (hPre_chosen := hPre_chosen)
    ∧ preserves_Kernel4_Kernel4Ideal
    ∧ algebraic_Kernel4Ideal_Reference4Ideal_pre_boxes (hKernel4Ideal := hKernel4Ideal) (hReference4Ideal := hReference4Ideal) (hPre_boxes := hPre_boxes)
-- ==== Pre_boxes.lean ====
abbrev S2000x4 : Shape := ⟨2, ![2000, 4]⟩
abbrev S64x4 : Shape := ⟨2, ![64, 4]⟩
abbrev S2000x2 : Shape := ⟨2, ![2000, 2]⟩
abbrev S_ : Shape := ⟨0, ![]⟩
abbrev S64x2 : Shape := ⟨2, ![64, 2]⟩

class Facts : Prop where
  slices_S2000x4_S2000x2_0_2 : S2000x4.Slices ![0, 2] S2000x2
  bcast_S_S2000x2 : S_.BroadcastsInDim S2000x2 (![] : Fin 0 → Fin S2000x2.rank)
  slices_S64x4_S64x2_0_2 : S64x4.Slices ![0, 2] S64x2
  bcast_S_S64x2 : S_.BroadcastsInDim S64x2 (![] : Fin 0 → Fin S64x2.rank)

variable [Facts]

def fn {F : FTy → Type} [FloatOps F] (main_arg0 : FVec F S2000x4 .f32) (main_arg1 : FVec F S64x4 .f32) : IVec S2000x2 1 × IVec S64x2 1 :=
  let main_v0 : FVec F S2000x2 .f32 := (extractStridedSlice S2000x2 ![0, 2] · slices_S2000x4_S2000x2_0_2) main_arg0
  let main_cst : FVec F S_ .f32 := constant S_ .f32 0x00000000#32
  let main_v1 : FVec F S2000x2 .f32 := broadcastInDim S2000x2 ![] bcast_S_S2000x2 main_cst
  let main_v2 : IVec S2000x2 1 := cmpf .ogt main_v0 main_v1
  let main_v3 : FVec F S64x2 .f32 := (extractStridedSlice S64x2 ![0, 2] · slices_S64x4_S64x2_0_2) main_arg1
  let main_cst_0 : FVec F S_ .f32 := constant S_ .f32 0x00000000#32
  let main_v4 : FVec F S64x2 .f32 := broadcastInDim S64x2 ![] bcast_S_S64x2 main_cst_0
  let main_v5 : IVec S64x2 1 := cmpf .ogt main_v3 main_v4
  (main_v2, main_v5)
-- ==== Pre_chosen.lean ====
abbrev S2000 : Shape := ⟨1, ![2000]⟩
abbrev S2000x4 : Shape := ⟨2, ![2000, 4]⟩
abbrev S64x4 : Shape := ⟨2, ![64, 4]⟩
abbrev S64 : Shape := ⟨1, ![64]⟩
abbrev S_ : Shape := ⟨0, ![]⟩

class Facts : Prop where
  bcast_S_S2000 : S_.BroadcastsInDim S2000 (![] : Fin 0 → Fin S2000.rank)

variable [Facts]

def fn {F : FTy → Type} [FloatOps F] (main_arg0 : IVec S2000 32) (main_arg1 : FVec F S2000 .f32) (main_arg2 : FVec F S2000x4 .f32) (main_arg3 : FVec F S64x4 .f32) (main_arg4 : IVec S64 32) : IVec S2000 1 :=
  let main_c : IVec S_ 32 := constantI S_ 32 0#32
  let main_v0 : IVec S2000 32 := broadcastInDim S2000 ![] bcast_S_S2000 main_c
  let main_v1 : IVec S2000 1 := cmpi .sge main_arg0 main_v0
  let main_c_0 : IVec S_ 32 := constantI S_ 32 64#32
  let main_v2 : IVec S2000 32 := broadcastInDim S2000 ![] bcast_S_S2000 main_c_0
  let main_v3 : IVec S2000 1 := cmpi .slt main_arg0 main_v2
  let main_v4 : IVec S2000 1 := andi main_v1 main_v3
  main_v4
-- ==== Pre_tame.lean ====
abbrev S2000x25088 : Shape := ⟨2, ![2000, 25088]⟩
abbrev S2000 : Shape := ⟨1, ![2000]⟩
abbrev S25088x1024 : Shape := ⟨2, ![25088, 1024]⟩
abbrev S1024 : Shape := ⟨1, ![1024]⟩
abbrev S1024x1024 : Shape := ⟨2, ![1024, 1024]⟩
abbrev S1024x324 : Shape := ⟨2, ![1024, 324]⟩
abbrev S324 : Shape := ⟨1, ![324]⟩
abbrev S1024x81 : Shape := ⟨2, ![1024, 81]⟩
abbrev S81 : Shape := ⟨1, ![81]⟩
abbrev S_ : Shape := ⟨0, ![]⟩

class Facts : Prop where
  bcast_S_S2000 : S_.BroadcastsInDim S2000 (![] : Fin 0 → Fin S2000.rank)
  bcast_S_S2000x25088 : S_.BroadcastsInDim S2000x25088 (![] : Fin 0 → Fin S2000x25088.rank)
  bcast_S_S25088x1024 : S_.BroadcastsInDim S25088x1024 (![] : Fin 0 → Fin S25088x1024.rank)
  bcast_S_S1024 : S_.BroadcastsInDim S1024 (![] : Fin 0 → Fin S1024.rank)
  bcast_S_S1024x1024 : S_.BroadcastsInDim S1024x1024 (![] : Fin 0 → Fin S1024x1024.rank)
  bcast_S_S1024x81 : S_.BroadcastsInDim S1024x81 (![] : Fin 0 → Fin S1024x81.rank)
  bcast_S_S81 : S_.BroadcastsInDim S81 (![] : Fin 0 → Fin S81.rank)

variable [Facts]

def fn_part1 {F : FTy → Type} [FloatOps F] (main_arg8 : FVec F S1024x81 .f32) (main_arg9 : FVec F S81 .f32) (main_v4 : IVec S2000 1) (main_v7 : IVec S2000x25088 1) (main_v10 : IVec S25088x1024 1) (main_v13 : IVec S1024 1) (main_v16 : IVec S1024x1024 1) (main_v17 : FVec F S1024 .f32) : IVec S2000 1 × IVec S2000x25088 1 × IVec S25088x1024 1 × IVec S1024 1 × IVec S1024x1024 1 × IVec S1024 1 × IVec S1024x81 1 × IVec S81 1 :=
  let main_cst_4 : FVec F S_ .f32 := constant S_ .f32 0x7F800000#32
  let main_v18 : FVec F S1024 .f32 := broadcastInDim S1024 ![] bcast_S_S1024 main_cst_4
  let main_v19 : IVec S1024 1 := cmpf .olt main_v17 main_v18
  let main_v20 : FVec F S1024x81 .f32 := Host.absf main_arg8
  let main_cst_5 : FVec F S_ .f32 := constant S_ .f32 0x7F800000#32
  let main_v21 : FVec F S1024x81 .f32 := broadcastInDim S1024x81 ![] bcast_S_S1024x81 main_cst_5
  let main_v22 : IVec S1024x81 1 := cmpf .olt main_v20 main_v21
  let main_v23 : FVec F S81 .f32 := Host.absf main_arg9
  let main_cst_6 : FVec F S_ .f32 := constant S_ .f32 0x7F800000#32
  let main_v24 : FVec F S81 .f32 := broadcastInDim S81 ![] bcast_S_S81 main_cst_6
  let main_v25 : IVec S81 1 := cmpf .olt main_v23 main_v24
  (main_v4, main_v7, main_v10, main_v13, main_v16, main_v19, main_v22, main_v25)

def fn {F : FTy → Type} [FloatOps F] (main_arg0 : FVec F S2000x25088 .f32) (main_arg1 : IVec S2000 32) (main_arg2 : FVec F S25088x1024 .f32) (main_arg3 : FVec F S1024 .f32) (main_arg4 : FVec F S1024x1024 .f32) (main_arg5 : FVec F S1024 .f32) (main_arg6 : FVec F S1024x324 .f32) (main_arg7 : FVec F S324 .f32) (main_arg8 : FVec F S1024x81 .f32) (main_arg9 : FVec F S81 .f32) : IVec S2000 1 × IVec S2000x25088 1 × IVec S25088x1024 1 × IVec S1024 1 × IVec S1024x1024 1 × IVec S1024 1 × IVec S1024x81 1 × IVec S81 1 :=
  let main_c : IVec S_ 32 := constantI S_ 32 0#32
  let main_v0 : IVec S2000 32 := broadcastInDim S2000 ![] bcast_S_S2000 main_c
  let main_v1 : IVec S2000 1 := cmpi .sge main_arg1 main_v0
  let main_c_0 : IVec S_ 32 := constantI S_ 32 81#32
  let main_v2 : IVec S2000 32 := broadcastInDim S2000 ![] bcast_S_S2000 main_c_0
  let main_v3 : IVec S2000 1 := cmpi .slt main_arg1 main_v2
  let main_v4 : IVec S2000 1 := andi main_v1 main_v3
  let main_v5 : FVec F S2000x25088 .f32 := Host.absf main_arg0
  let main_cst : FVec F S_ .f32 := constant S_ .f32 0x7F800000#32
  let main_v6 : FVec F S2000x25088 .f32 := broadcastInDim S2000x25088 ![] bcast_S_S2000x25088 main_cst
  let main_v7 : IVec S2000x25088 1 := cmpf .olt main_v5 main_v6
  let main_v8 : FVec F S25088x1024 .f32 := Host.absf main_arg2
  let main_cst_1 : FVec F S_ .f32 := constant S_ .f32 0x7F800000#32
  let main_v9 : FVec F S25088x1024 .f32 := broadcastInDim S25088x1024 ![] bcast_S_S25088x1024 main_cst_1
  let main_v10 : IVec S25088x1024 1 := cmpf .olt main_v8 main_v9
  let main_v11 : FVec F S1024 .f32 := Host.absf main_arg3
  let main_cst_2 : FVec F S_ .f32 := constant S_ .f32 0x7F800000#32
  let main_v12 : FVec F S1024 .f32 := broadcastInDim S1024 ![] bcast_S_S1024 main_cst_2
  let main_v13 : IVec S1024 1 := cmpf .olt main_v11 main_v12
  let main_v14 : FVec F S1024x1024 .f32 := Host.absf main_arg4
  let main_cst_3 : FVec F S_ .f32 := constant S_ .f32 0x7F800000#32
  let main_v15 : FVec F S1024x1024 .f32 := broadcastInDim S1024x1024 ![] bcast_S_S1024x1024 main_cst_3
  let main_v16 : IVec S1024x1024 1 := cmpf .olt main_v14 main_v15
  let main_v17 : FVec F S1024 .f32 := Host.absf main_arg5
  fn_part1 (F := F) main_arg8 main_arg9 main_v4 main_v7 main_v10 main_v13 main_v16 main_v17
-- ==== Kernel.lean ====
abbrev S2000x25088 : Shape := ⟨2, ![2000, 25088]⟩
abbrev S2000 : Shape := ⟨1, ![2000]⟩
abbrev S25088x1024 : Shape := ⟨2, ![25088, 1024]⟩
abbrev S1024 : Shape := ⟨1, ![1024]⟩
abbrev S1024x1024 : Shape := ⟨2, ![1024, 1024]⟩
abbrev S1024x324 : Shape := ⟨2, ![1024, 324]⟩
abbrev S324 : Shape := ⟨1, ![324]⟩
abbrev S1024x81 : Shape := ⟨2, ![1024, 81]⟩
abbrev S81 : Shape := ⟨1, ![81]⟩
abbrev S_ : Shape := ⟨0, ![]⟩
abbrev S2048x25088 : Shape := ⟨2, ![2048, 25088]⟩
abbrev S2048 : Shape := ⟨1, ![2048]⟩
abbrev S2048x1 : Shape := ⟨2, ![2048, 1]⟩
abbrev S2048x128 : Shape := ⟨2, ![2048, 128]⟩
abbrev S1024x384 : Shape := ⟨2, ![1024, 384]⟩
abbrev S384 : Shape := ⟨1, ![384]⟩
abbrev S1x384 : Shape := ⟨2, ![1, 384]⟩
abbrev S1024x128 : Shape := ⟨2, ![1024, 128]⟩
abbrev S128 : Shape := ⟨1, ![128]⟩
abbrev S1x128 : Shape := ⟨2, ![1, 128]⟩
abbrev S1x1024 : Shape := ⟨2, ![1, 1024]⟩
abbrev S256x1792 : Shape := ⟨2, ![256, 1792]⟩
abbrev S1792x1024 : Shape := ⟨2, ![1792, 1024]⟩
abbrev S256x128 : Shape := ⟨2, ![256, 128]⟩
abbrev S256x1024 : Shape := ⟨2, ![256, 1024]⟩
abbrev S256 : Shape := ⟨1, ![256]⟩
abbrev S256x1 : Shape := ⟨2, ![256, 1]⟩
abbrev S256x384 : Shape := ⟨2, ![256, 384]⟩
abbrev S2000x81 : Shape := ⟨2, ![2000, 81]⟩
abbrev S2000x4 : Shape := ⟨2, ![2000, 4]⟩
abbrev S2000x1 : Shape := ⟨2, ![2000, 1]⟩

abbrev nBuf : Space → Nat
  | .hbm => 40
  | .vmem => 18
  | .smem => 0
  | _ => 0

abbrev bufTy : (tb : Table) → Fin (tcTables nBuf tb) → BufTy
  | .hbm, ⟨0, _⟩ => ⟨S2000x25088, .f32⟩
  | .hbm, ⟨1, _⟩ => ⟨S2000, .i32⟩
  | .hbm, ⟨2, _⟩ => ⟨S25088x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x324, .f32⟩
  | .hbm, ⟨7, _⟩ => ⟨S324, .f32⟩
  | .hbm, ⟨8, _⟩ => ⟨S1024x81, .f32⟩
  | .hbm, ⟨9, _⟩ => ⟨S81, .f32⟩
  | .hbm, ⟨10, _⟩ => ⟨S_, .i32⟩
  | .hbm, ⟨11, _⟩ => ⟨S_, .f32⟩
  | .hbm, ⟨12, _⟩ => ⟨S2048x25088, .f32⟩
  | .hbm, ⟨13, _⟩ => ⟨S_, .i32⟩
  | .hbm, ⟨14, _⟩ => ⟨S_, .i32⟩
  | .hbm, ⟨15, _⟩ => ⟨S2048, .i32⟩
  | .hbm, ⟨16, _⟩ => ⟨S2048x1, .i32⟩
  | .hbm, ⟨17, _⟩ => ⟨S2048x128, .i32⟩
  | .hbm, ⟨18, _⟩ => ⟨S_, .i32⟩
  | .hbm, ⟨19, _⟩ => ⟨S_, .f32⟩
  | .hbm, ⟨20, _⟩ => ⟨S1024x384, .f32⟩
  | .hbm, ⟨21, _⟩ => ⟨S_, .i32⟩
  | .hbm, ⟨22, _⟩ => ⟨S_, .f32⟩
  | .hbm, ⟨23, _⟩ => ⟨S384, .f32⟩
  | .hbm, ⟨24, _⟩ => ⟨S1x384, .f32⟩
  | .hbm, ⟨25, _⟩ => ⟨S_, .i32⟩
  | .hbm, ⟨26, _⟩ => ⟨S_, .f32⟩
  | .hbm, ⟨27, _⟩ => ⟨S1024x128, .f32⟩
  | .hbm, ⟨28, _⟩ => ⟨S_, .i32⟩
  | .hbm, ⟨29, _⟩ => ⟨S_, .f32⟩
  | .hbm, ⟨30, _⟩ => ⟨S128, .f32⟩
  | .hbm, ⟨31, _⟩ => ⟨S1x128, .f32⟩
  | .hbm, ⟨32, _⟩ => ⟨S1x1024, .f32⟩
  | .hbm, ⟨33, _⟩ => ⟨S1x1024, .f32⟩
  | .hbm, ⟨34, _⟩ => ⟨S2048x128, .f32⟩
  | .hbm, ⟨35, _⟩ => ⟨S2048x128, .f32⟩
  | .hbm, ⟨36, _⟩ => ⟨S2000x81, .f32⟩
  | .hbm, ⟨37, _⟩ => ⟨S2000x4, .f32⟩
  | .hbm, ⟨38, _⟩ => ⟨S2000x1, .f32⟩
  | .hbm, ⟨39, _⟩ => ⟨S2000, .f32⟩
  | .local _ .vmem, ⟨0, _⟩ => ⟨S256x1792, .f32⟩
  | .local _ .vmem, ⟨1, _⟩ => ⟨S256x1792, .f32⟩
  | .local _ .vmem, ⟨2, _⟩ => ⟨S1792x1024, .f32⟩
  | .local _ .vmem, ⟨3, _⟩ => ⟨S1792x1024, .f32⟩
  | .local _ .vmem, ⟨4, _⟩ => ⟨S1x1024, .f32⟩
  | .local _ .vmem, ⟨5, _⟩ => ⟨S1024x1024, .f32⟩
  | .local _ .vmem, ⟨6, _⟩ => ⟨S1x1024, .f32⟩
  | .local _ .vmem, ⟨7, _⟩ => ⟨S1024x384, .f32⟩
  | .local _ .vmem, ⟨8, _⟩ => ⟨S1x384, .f32⟩
  | .local _ .vmem, ⟨9, _⟩ => ⟨S1024x128, .f32⟩
  | .local _ .vmem, ⟨10, _⟩ => ⟨S1x128, .f32⟩
  | .local _ .vmem, ⟨11, _⟩ => ⟨S256x128, .i32⟩
  | .local _ .vmem, ⟨12, _⟩ => ⟨S256x128, .i32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x1024, .f32⟩
  | _, _ => ⟨S2000x25088, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_c_0 : Ref sig .tc := ⟨.hbm, 13, rfl⟩
abbrev main_call1_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c_1 : Ref sig .tc := ⟨.hbm, 18, rfl⟩
abbrev main_call2_v0 : Ref sig .tc := ⟨.hbm, 19, rfl⟩
abbrev main_v4 : Ref sig .tc := ⟨.hbm, 20, rfl⟩
abbrev main_c_2 : Ref sig .tc := ⟨.hbm, 21, rfl⟩
abbrev main_call3_v0 : Ref sig .tc := ⟨.hbm, 22, rfl⟩
abbrev main_v5 : Ref sig .tc := ⟨.hbm, 23, rfl⟩
abbrev main_v6 : Ref sig .tc := ⟨.hbm, 24, rfl⟩
abbrev main_c_3 : Ref sig .tc := ⟨.hbm, 25, rfl⟩
abbrev main_call4_v0 : Ref sig .tc := ⟨.hbm, 26, rfl⟩
abbrev main_v7 : Ref sig .tc := ⟨.hbm, 27, rfl⟩
abbrev main_c_4 : Ref sig .tc := ⟨.hbm, 28, rfl⟩
abbrev main_call5_v0 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12_0 : Ref sig .tc := ⟨.hbm, 34, rfl⟩
abbrev main_v12_1 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨2, ![8, 14], ![false, false]⟩

def k0_cond2 (i : grid0.Coords) : BitVec 1 :=
  let arg1 : BitVec 32 := BitVec.ofNat 32 (i 1).val
  let c13_i32 : BitVec 32 := 13#32
  let v14 : BitVec 1 := Scalar.cmpi .eq arg1 c13_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1792x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x128 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S2000x25088 : Shape := ⟨2, ![2000, 25088]⟩
abbrev S2000 : Shape := ⟨1, ![2000]⟩
abbrev S25088x1024 : Shape := ⟨2, ![25088, 1024]⟩
abbrev S1024 : Shape := ⟨1, ![1024]⟩
abbrev S1024x1024 : Shape := ⟨2, ![1024, 1024]⟩
abbrev S1024x324 : Shape := ⟨2, ![1024, 324]⟩
abbrev S324 : Shape := ⟨1, ![324]⟩
abbrev S1024x81 : Shape := ⟨2, ![1024, 81]⟩
abbrev S81 : Shape := ⟨1, ![81]⟩
abbrev S2000x1024 : Shape := ⟨2, ![2000, 1024]⟩
abbrev S1x1024 : Shape := ⟨2, ![1, 1024]⟩
abbrev S_ : Shape := ⟨0, ![]⟩
abbrev S2000x324 : Shape := ⟨2, ![2000, 324]⟩
abbrev S1x324 : Shape := ⟨2, ![1, 324]⟩
abbrev S2000x81x4 : Shape := ⟨3, ![2000, 81, 4]⟩
abbrev S2000x1 : Shape := ⟨2, ![2000, 1]⟩
abbrev S2000x2 : Shape := ⟨2, ![2000, 2]⟩
abbrev S2000x4 : Shape := ⟨2, ![2000, 4]⟩
abbrev S2000x81 : Shape := ⟨2, ![2000, 81]⟩
abbrev S1x81 : Shape := ⟨2, ![1, 81]⟩

abbrev nBuf : Space → Nat
  | .hbm => 68
  | .vmem => 0
  | .smem => 0
  | _ => 0

abbrev bufTy : (tb : Table) → Fin (tcTables nBuf tb) → BufTy
  | .hbm, ⟨0, _⟩ => ⟨S2000x25088, .f32⟩
  | .hbm, ⟨1, _⟩ => ⟨S2000, .i32⟩
  | .hbm, ⟨2, _⟩ => ⟨S25088x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x324, .f32⟩
  | .hbm, ⟨7, _⟩ => ⟨S324, .f32⟩
  | .hbm, ⟨8, _⟩ => ⟨S1024x81, .f32⟩
  | .hbm, ⟨9, _⟩ => ⟨S81, .f32⟩
  | .hbm, ⟨10, _⟩ => ⟨S2000x1024, .f32⟩
  | .hbm, ⟨11, _⟩ => ⟨S1x1024, .f32⟩
  | .hbm, ⟨12, _⟩ => ⟨S2000x1024, .f32⟩
  | .hbm, ⟨13, _⟩ => ⟨S2000x1024, .f32⟩
  | .hbm, ⟨14, _⟩ => ⟨S_, .f32⟩
  | .hbm, ⟨15, _⟩ => ⟨S2000x1024, .f32⟩
  | .hbm, ⟨16, _⟩ => ⟨S2000x1024, .f32⟩
  | .hbm, ⟨17, _⟩ => ⟨S2000x1024, .f32⟩
  | .hbm, ⟨18, _⟩ => ⟨S1x1024, .f32⟩
  | .hbm, ⟨19, _⟩ => ⟨S2000x1024, .f32⟩
  | .hbm, ⟨20, _⟩ => ⟨S2000x1024, .f32⟩
  | .hbm, ⟨21, _⟩ => ⟨S_, .f32⟩
  | .hbm, ⟨22, _⟩ => ⟨S2000x1024, .f32⟩
  | .hbm, ⟨23, _⟩ => ⟨S2000x1024, .f32⟩
  | .hbm, ⟨24, _⟩ => ⟨S2000x324, .f32⟩
  | .hbm, ⟨25, _⟩ => ⟨S1x324, .f32⟩
  | .hbm, ⟨26, _⟩ => ⟨S2000x324, .f32⟩
  | .hbm, ⟨27, _⟩ => ⟨S2000x324, .f32⟩
  | .hbm, ⟨28, _⟩ => ⟨S2000x81x4, .f32⟩
  | .hbm, ⟨29, _⟩ => ⟨S2000, .i32⟩
  | .hbm, ⟨30, _⟩ => ⟨S_, .i32⟩
  | .hbm, ⟨31, _⟩ => ⟨S2000, .i32⟩
  | .hbm, ⟨32, _⟩ => ⟨S2000, .i1⟩
  | .hbm, ⟨33, _⟩ => ⟨S_, .i32⟩
  | .hbm, ⟨34, _⟩ => ⟨S2000, .i32⟩
  | .hbm, ⟨35, _⟩ => ⟨S2000, .i32⟩
  | .hbm, ⟨36, _⟩ => ⟨S2000, .i32⟩
  | .hbm, ⟨37, _⟩ => ⟨S_, .i32⟩
  | .hbm, ⟨38, _⟩ => ⟨S2000, .i32⟩
  | .hbm, ⟨39, _⟩ => ⟨S2000, .i1⟩
  | .hbm, ⟨40, _⟩ => ⟨S_, .i32⟩
  | .hbm, ⟨41, _⟩ => ⟨S2000, .i32⟩
  | .hbm, ⟨42, _⟩ => ⟨S2000, .i32⟩
  | .hbm, ⟨43, _⟩ => ⟨S2000, .i32⟩
  | .hbm, ⟨44, _⟩ => ⟨S2000x1, .i32⟩
  | .hbm, ⟨45, _⟩ => ⟨S2000x1, .i32⟩
  | .hbm, ⟨46, _⟩ => ⟨S2000x2, .i32⟩
  | .hbm, ⟨47, _⟩ => ⟨S2000x4, .f32⟩
  | .hbm, ⟨48, _⟩ => ⟨S2000x81, .f32⟩
  | .hbm, ⟨49, _⟩ => ⟨S1x81, .f32⟩
  | .hbm, ⟨50, _⟩ => ⟨S2000x81, .f32⟩
  | .hbm, ⟨51, _⟩ => ⟨S2000x81, .f32⟩
  | .hbm, ⟨52, _⟩ => ⟨S_, .f32⟩
  | .hbm, ⟨53, _⟩ => ⟨S2000, .f32⟩
  | .hbm, ⟨54, _⟩ => ⟨S_, .f32⟩
  | .hbm, ⟨55, _⟩ => ⟨S2000, .f32⟩
  | .hbm, ⟨56, _⟩ => ⟨S2000, .f32⟩
  | .hbm, ⟨57, _⟩ => ⟨S2000x1, .f32⟩
  | .hbm, ⟨58, _⟩ => ⟨S2000x81, .f32⟩
  | .hbm, ⟨59, _⟩ => ⟨S2000x81, .f32⟩
  | .hbm, ⟨60, _⟩ => ⟨S2000x81, .f32⟩
  | .hbm, ⟨61, _⟩ => ⟨S_, .f32⟩
  | .hbm, ⟨62, _⟩ => ⟨S2000, .f32⟩
  | .hbm, ⟨63, _⟩ => ⟨S2000x1, .f32⟩
  | .hbm, ⟨64, _⟩ => ⟨S2000x81, .f32⟩
  | .hbm, ⟨65, _⟩ => ⟨S2000x81, .f32⟩
  | .hbm, ⟨66, _⟩ => ⟨S_, .f32⟩
  | .hbm, ⟨67, _⟩ => ⟨S2000, .f32⟩
  | _, _ => ⟨S2000x25088, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_cst : Ref sig .tc := ⟨.hbm, 21, rfl⟩
abbrev main_call1_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_0 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_1 : Ref sig .tc := ⟨.hbm, 37, rfl⟩
abbrev main_v21 : Ref sig .tc := ⟨.hbm, 38, rfl⟩
abbrev main_v22 : Ref sig .tc := ⟨.hbm, 39, rfl⟩
abbrev main_c_2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst : Ref sig .tc := ⟨.hbm, 52, rfl⟩
abbrev main_v34 : Ref sig .tc := ⟨.hbm, 53, rfl⟩
abbrev main_cst_3 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_4 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_5 : Ref sig .tc := ⟨.hbm, 66, rfl⟩
abbrev main_v45 : Ref sig .tc := ⟨.hbm, 67, rfl⟩

abbrev nD : Nat := 1
abbrev τ : Topo := Topo.v7x

variable {F : FTy → Type} [FloatOps F]
-- ==== Kernel2.lean ====
abbrev S2048x128 : Shape := ⟨2, ![2048, 128]⟩
abbrev S2000x4 : Shape := ⟨2, ![2000, 4]⟩
abbrev S2048x1 : Shape := ⟨2, ![2048, 1]⟩
abbrev S2048 : Shape := ⟨1, ![2048]⟩
abbrev S16x128 : Shape := ⟨2, ![16, 128]⟩
abbrev S2000x1 : Shape := ⟨2, ![2000, 1]⟩
abbrev S2000 : Shape := ⟨1, ![2000]⟩
abbrev S_ : Shape := ⟨0, ![]⟩
abbrev S1x16x128 : Shape := ⟨3, ![1, 16, 128]⟩
abbrev S1 : Shape := ⟨1, ![1]⟩
abbrev S1x1x1 : Shape := ⟨3, ![1, 1, 1]⟩

abbrev nBuf : Space → Nat
  | .hbm => 72
  | .vmem => 16
  | .smem => 0
  | _ => 0

abbrev bufTy : (tb : Table) → Fin (tcTables nBuf tb) → BufTy
  | .hbm, ⟨0, _⟩ => ⟨S2048x128, .f32⟩
  | .hbm, ⟨1, _⟩ => ⟨S2000x4, .f32⟩
  | .hbm, ⟨2, _⟩ => ⟨S2048x1, .f32⟩
  | .hbm, ⟨3, _⟩ => ⟨S2048, .f32⟩
  | .hbm, ⟨4, _⟩ => ⟨S16x128, .f32⟩
  | .hbm, ⟨5, _⟩ => ⟨S2048x1, .f32⟩
  | .hbm, ⟨6, _⟩ => ⟨S2048, .f32⟩
  | .hbm, ⟨7, _⟩ => ⟨S16x128, .f32⟩
  | .hbm, ⟨8, _⟩ => ⟨S2048x1, .f32⟩
  | .hbm, ⟨9, _⟩ => ⟨S2048, .f32⟩
  | .hbm, ⟨10, _⟩ => ⟨S16x128, .f32⟩
  | .hbm, ⟨11, _⟩ => ⟨S2048x1, .f32⟩
  | .hbm, ⟨12, _⟩ => ⟨S2048, .f32⟩
  | .hbm, ⟨13, _⟩ => ⟨S16x128, .f32⟩
  | .hbm, ⟨14, _⟩ => ⟨S2000x1, .f32⟩
  | .hbm, ⟨15, _⟩ => ⟨S2000, .f32⟩
  | .hbm, ⟨16, _⟩ => ⟨S_, .i32⟩
  | .hbm, ⟨17, _⟩ => ⟨S_, .f32⟩
  | .hbm, ⟨18, _⟩ => ⟨S2048, .f32⟩
  | .hbm, ⟨19, _⟩ => ⟨S16x128, .f32⟩
  | .hbm, ⟨20, _⟩ => ⟨S2000x1, .f32⟩
  | .hbm, ⟨21, _⟩ => ⟨S2000, .f32⟩
  | .hbm, ⟨22, _⟩ => ⟨S_, .i32⟩
  | .hbm, ⟨23, _⟩ => ⟨S_, .f32⟩
  | .hbm, ⟨24, _⟩ => ⟨S2048, .f32⟩
  | .hbm, ⟨25, _⟩ => ⟨S16x128, .f32⟩
  | .hbm, ⟨26, _⟩ => ⟨S2000x1, .f32⟩
  | .hbm, ⟨27, _⟩ => ⟨S2000, .f32⟩
  | .hbm, ⟨28, _⟩ => ⟨S_, .i32⟩
  | .hbm, ⟨29, _⟩ => ⟨S_, .f32⟩
  | .hbm, ⟨30, _⟩ => ⟨S2048, .f32⟩
  | .hbm, ⟨31, _⟩ => ⟨S16x128, .f32⟩
  | .hbm, ⟨32, _⟩ => ⟨S2000x1, .f32⟩
  | .hbm, ⟨33, _⟩ => ⟨S2000, .f32⟩
  | .hbm, ⟨34, _⟩ => ⟨S_, .i32⟩
  | .hbm, ⟨35, _⟩ => ⟨S_, .f32⟩
  | .hbm, ⟨36, _⟩ => ⟨S2048, .f32⟩
  | .hbm, ⟨37, _⟩ => ⟨S16x128, .f32⟩
  | .hbm, ⟨38, _⟩ => ⟨S16x128, .f32⟩
  | .hbm, ⟨39, _⟩ => ⟨S16x128, .f32⟩
  | .hbm, ⟨40, _⟩ => ⟨S16x128, .f32⟩
  | .hbm, ⟨41, _⟩ => ⟨S16x128, .f32⟩
  | .hbm, ⟨42, _⟩ => ⟨S16x128, .f32⟩
  | .hbm, ⟨43, _⟩ => ⟨S16x128, .f32⟩
  | .hbm, ⟨44, _⟩ => ⟨S16x128, .f32⟩
  | .hbm, ⟨45, _⟩ => ⟨S16x128, .f32⟩
  | .hbm, ⟨46, _⟩ => ⟨S2048, .f32⟩
  | .hbm, ⟨47, _⟩ => ⟨S2000, .f32⟩
  | .hbm, ⟨48, _⟩ => ⟨S2048, .f32⟩
  | .hbm, ⟨49, _⟩ => ⟨S2000, .f32⟩
  | .hbm, ⟨50, _⟩ => ⟨S2048, .f32⟩
  | .hbm, ⟨51, _⟩ => ⟨S2000, .f32⟩
  | .hbm, ⟨52, _⟩ => ⟨S2048, .f32⟩
  | .hbm, ⟨53, _⟩ => ⟨S2000, .f32⟩
  | .hbm, ⟨54, _⟩ => ⟨S2000x1, .f32⟩
  | .hbm, ⟨55, _⟩ => ⟨S2000x1, .f32⟩
  | .hbm, ⟨56, _⟩ => ⟨S2000x1, .f32⟩
  | .hbm, ⟨57, _⟩ => ⟨S2000x1, .f32⟩
  | .hbm, ⟨58, _⟩ => ⟨S2000x4, .f32⟩
  | .hbm, ⟨59, _⟩ => ⟨S2048, .f32⟩
  | .hbm, ⟨60, _⟩ => ⟨S2000, .f32⟩
  | .hbm, ⟨61, _⟩ => ⟨S2048, .f32⟩
  | .hbm, ⟨62, _⟩ => ⟨S2000, .f32⟩
  | .hbm, ⟨63, _⟩ => ⟨S2048, .f32⟩
  | .hbm, ⟨64, _⟩ => ⟨S2000, .f32⟩
  | .hbm, ⟨65, _⟩ => ⟨S2048, .f32⟩
  | .hbm, ⟨66, _⟩ => ⟨S2000, .f32⟩
  | .hbm, ⟨67, _⟩ => ⟨S2000x1, .f32⟩
  | .hbm, ⟨68, _⟩ => ⟨S2000x1, .f32⟩
  | .hbm, ⟨69, _⟩ => ⟨S2000x1, .f32⟩
  | .hbm, ⟨70, _⟩ => ⟨S2000x1, .f32⟩
  | .hbm, ⟨71, _⟩ => ⟨S2000x4, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | .local _ .vmem, ⟨7, _⟩ => ⟨S16x128, .f32⟩
  | .local _ .vmem, ⟨8, _⟩ => ⟨S16x128, .f32⟩
  | .local _ .vmem, ⟨9, _⟩ => ⟨S16x128, .f32⟩
  | .local _ .vmem, ⟨10, _⟩ => ⟨S16x128, .f32⟩
  | .local _ .vmem, ⟨11, _⟩ => ⟨S16x128, .f32⟩
  | .local _ .vmem, ⟨12, _⟩ => ⟨S16x128, .f32⟩
  | .local _ .vmem, ⟨13, _⟩ => ⟨S16x128, .f32⟩
  | .local _ .vmem, ⟨14, _⟩ => ⟨S16x128, .f32⟩
  | .local _ .vmem, ⟨15, _⟩ => ⟨S16x128, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_c : Ref sig .tc := ⟨.hbm, 16, rfl⟩
abbrev main_call0_v0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_c_0 : Ref sig .tc := ⟨.hbm, 22, rfl⟩
abbrev main_call1_v0 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_c_1 : Ref sig .tc := ⟨.hbm, 28, rfl⟩
abbrev main_call2_v0 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c_2 : Ref sig .tc := ⟨.hbm, 34, rfl⟩
abbrev main_call3_v0 : Ref sig .tc := ⟨.hbm, 35, rfl⟩
abbrev main_v26 : Ref sig .tc := ⟨.hbm, 36, rfl⟩
abbrev main_v27 : Ref sig .tc := ⟨.hbm, 37, rfl⟩
abbrev main_v28_0 : Ref sig .tc := ⟨.hbm, 38, rfl⟩
abbrev main_v28_1 : Ref sig .tc := ⟨.hbm, 39, rfl⟩
abbrev main_v28_2 : Ref sig .tc := ⟨.hbm, 40, rfl⟩
abbrev main_v28_3 : Ref sig .tc := ⟨.hbm, 41, rfl⟩
abbrev main_v28_4 : Ref sig .tc := ⟨.hbm, 42, rfl⟩
abbrev main_v28_5 : Ref sig .tc := ⟨.hbm, 43, rfl⟩
abbrev main_v28_6 : Ref sig .tc := ⟨.hbm, 44, rfl⟩
abbrev main_v28_7 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S16x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S16x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S16x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S16x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S16x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S16x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== Reference2Ideal.lean ====
abbrev S2048x128 : Shape := ⟨2, ![2048, 128]⟩
abbrev S2000x4 : Shape := ⟨2, ![2000, 4]⟩
abbrev S2000x1 : Shape := ⟨2, ![2000, 1]⟩
abbrev S2000 : Shape := ⟨1, ![2000]⟩
abbrev S_ : Shape := ⟨0, ![]⟩
abbrev S1x1 : Shape := ⟨2, ![1, 1]⟩

abbrev nBuf : Space → Nat
  | .hbm => 105
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S2000x4, .f32⟩
  | .hbm, ⟨2, _⟩ => ⟨S2000x4, .f32⟩
  | .hbm, ⟨3, _⟩ => ⟨S2000x1, .f32⟩
  | .hbm, ⟨4, _⟩ => ⟨S2000, .f32⟩
  | .hbm, ⟨5, _⟩ => ⟨S2000x1, .f32⟩
  | .hbm, ⟨6, _⟩ => ⟨S2000, .f32⟩
  | .hbm, ⟨7, _⟩ => ⟨S2000x1, .f32⟩
  | .hbm, ⟨8, _⟩ => ⟨S2000, .f32⟩
  | .hbm, ⟨9, _⟩ => ⟨S2000x1, .f32⟩
  | .hbm, ⟨10, _⟩ => ⟨S2000, .f32⟩
  | .hbm, ⟨11, _⟩ => ⟨S2000, .f32⟩
  | .hbm, ⟨12, _⟩ => ⟨S2000x1, .f32⟩
  | .hbm, ⟨13, _⟩ => ⟨S2000, .f32⟩
  | .hbm, ⟨14, _⟩ => ⟨S2000x1, .f32⟩
  | .hbm, ⟨15, _⟩ => ⟨S2000, .f32⟩
  | .hbm, ⟨16, _⟩ => ⟨S2000, .f32⟩
  | .hbm, ⟨17, _⟩ => ⟨S2000x1, .f32⟩
  | .hbm, ⟨18, _⟩ => ⟨S2000x1, .f32⟩
  | .hbm, ⟨19, _⟩ => ⟨S2000x1, .f32⟩
  | .hbm, ⟨20, _⟩ => ⟨S2000x1, .f32⟩
  | .hbm, ⟨21, _⟩ => ⟨S2000x4, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S2000x4, .f32⟩
  | .hbm, ⟨27, _⟩ => ⟨S2000x4, .f32⟩
  | .hbm, ⟨28, _⟩ => ⟨S_, .i32⟩
  | .hbm, ⟨29, _⟩ => ⟨S_, .f32⟩
  | .hbm, ⟨30, _⟩ => ⟨S_, .f32⟩
  | .hbm, ⟨31, _⟩ => ⟨S1x1, .f32⟩
  | .hbm, ⟨32, _⟩ => ⟨S_, .f32⟩
  | .hbm, ⟨33, _⟩ => ⟨S1x1, .f32⟩
  | .hbm, ⟨34, _⟩ => ⟨S1x1, .f32⟩
  | .hbm, ⟨35, _⟩ => ⟨S2000x4, .f32⟩
  | .hbm, ⟨36, _⟩ => ⟨S2000x4, .f32⟩
  | .hbm, ⟨37, _⟩ => ⟨S2000x4, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .i1⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S2000x4, .f32⟩
  | .hbm, ⟨51, _⟩ => ⟨S2000x4, .f32⟩
  | .hbm, ⟨52, _⟩ => ⟨S2000x1, .f32⟩
  | .hbm, ⟨53, _⟩ => ⟨S2000, .f32⟩
  | .hbm, ⟨54, _⟩ => ⟨S2000x1, .f32⟩
  | .hbm, ⟨55, _⟩ => ⟨S2000, .f32⟩
  | .hbm, ⟨56, _⟩ => ⟨S_, .f32⟩
  | .hbm, ⟨57, _⟩ => ⟨S2000, .f32⟩
  | .hbm, ⟨58, _⟩ => ⟨S2000, .f32⟩
  | .hbm, ⟨59, _⟩ => ⟨S2000, .f32⟩
  | .hbm, ⟨60, _⟩ => ⟨S2000x1, .f32⟩
  | .hbm, ⟨61, _⟩ => ⟨S2000, .f32⟩
  | .hbm, ⟨62, _⟩ => ⟨S2000x1, .f32⟩
  | .hbm, ⟨63, _⟩ => ⟨S2000, .f32⟩
  | .hbm, ⟨64, _⟩ => ⟨S_, .f32⟩
  | .hbm, ⟨65, _⟩ => ⟨S2000, .f32⟩
  | .hbm, ⟨66, _⟩ => ⟨S2000, .f32⟩
  | .hbm, ⟨67, _⟩ => ⟨S2000, .f32⟩
  | .hbm, ⟨68, _⟩ => ⟨S2000x1, .f32⟩
  | .hbm, ⟨69, _⟩ => ⟨S2000, .f32⟩
  | .hbm, ⟨70, _⟩ => ⟨S2000x1, .f32⟩
  | .hbm, ⟨71, _⟩ => ⟨S2000, .f32⟩
  | .hbm, ⟨72, _⟩ => ⟨S2000, .f32⟩
  | .hbm, ⟨73, _⟩ => ⟨S2000, .f32⟩
  | .hbm, ⟨74, _⟩ => ⟨S2000x1, .f32⟩
  | .hbm, ⟨75, _⟩ => ⟨S2000, .f32⟩
  | .hbm, ⟨76, _⟩ => ⟨S2000x1, .f32⟩
  | .hbm, ⟨77, _⟩ => ⟨S2000, .f32⟩
  | .hbm, ⟨78, _⟩ => ⟨S2000, .f32⟩
  | .hbm, ⟨79, _⟩ => ⟨S2000, .f32⟩
  | .hbm, ⟨80, _⟩ => ⟨S2000x1, .f32⟩
  | .hbm, ⟨81, _⟩ => ⟨S2000, .f32⟩
  | .hbm, ⟨82, _⟩ => ⟨S2000x1, .f32⟩
  | .hbm, ⟨83, _⟩ => ⟨S2000, .f32⟩
  | .hbm, ⟨84, _⟩ => ⟨S2000, .f32⟩
  | .hbm, ⟨85, _⟩ => ⟨S2000, .f32⟩
  | .hbm, ⟨86, _⟩ => ⟨S2000x1, .f32⟩
  | .hbm, ⟨87, _⟩ => ⟨S2000, .f32⟩
  | .hbm, ⟨88, _⟩ => ⟨S2000x1, .f32⟩
  | .hbm, ⟨89, _⟩ => ⟨S2000, .f32⟩
  | .hbm, ⟨90, _⟩ => ⟨S2000, .f32⟩
  | .hbm, ⟨91, _⟩ => ⟨S2000, .f32⟩
  | .hbm, ⟨92, _⟩ => ⟨S_, .f32⟩
  | .hbm, ⟨93, _⟩ => ⟨S2000, .f32⟩
  | .hbm, ⟨94, _⟩ => ⟨S2000, .f32⟩
  | .hbm, ⟨95, _⟩ => ⟨S2000, .f32⟩
  | .hbm, ⟨96, _⟩ => ⟨S_, .f32⟩
  | .hbm, ⟨97, _⟩ => ⟨S2000, .f32⟩
  | .hbm, ⟨98, _⟩ => ⟨S2000, .f32⟩
  | .hbm, ⟨99, _⟩ => ⟨S2000, .f32⟩
  | .hbm, ⟨100, _⟩ => ⟨S2000x1, .f32⟩
  | .hbm, ⟨101, _⟩ => ⟨S2000x1, .f32⟩
  | .hbm, ⟨102, _⟩ => ⟨S2000x1, .f32⟩
  | .hbm, ⟨103, _⟩ => ⟨S2000x1, .f32⟩
  | .hbm, ⟨104, _⟩ => ⟨S2000x4, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_cst : Ref sig .tc := ⟨.hbm, 22, rfl⟩
abbrev main_v20 : Ref sig .tc := ⟨.hbm, 23, rfl⟩
abbrev main_cst_0 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_c : Ref sig .tc := ⟨.hbm, 28, rfl⟩
abbrev main_call0_call0_cst : Ref sig .tc := ⟨.hbm, 29, rfl⟩
abbrev main_call0_call0_v0 : Ref sig .tc := ⟨.hbm, 30, rfl⟩
abbrev main_call0_call0_v1 : Ref sig .tc := ⟨.hbm, 31, rfl⟩
abbrev main_call0_call0_cst_0 : Ref sig .tc := ⟨.hbm, 32, rfl⟩
abbrev main_call0_call0_v2 : Ref sig .tc := ⟨.hbm, 33, rfl⟩
abbrev main_call0_call0_v3 : Ref sig .tc := ⟨.hbm, 34, rfl⟩
abbrev main_call0_call0_v4 : Ref sig .tc := ⟨.hbm, 35, rfl⟩
abbrev main_call0_call0_v5 : Ref sig .tc := ⟨.hbm, 36, rfl⟩
abbrev main_call0_call0_v6 : Ref sig .tc := ⟨.hbm, 37, rfl⟩
abbrev main_call0_call0_v7 : Ref sig .tc := ⟨.hbm, 38, rfl⟩
abbrev main_call0_call0_cst_1 : Ref sig .tc := ⟨.hbm, 39, rfl⟩
abbrev main_call0_call0_v8 : Ref sig .tc := ⟨.hbm, 40, rfl⟩
abbrev main_call0_call0_cst_2 : Ref sig .tc := ⟨.hbm, 41, rfl⟩
abbrev main_call0_call0_v9 : Ref sig .tc := ⟨.hbm, 42, rfl⟩
abbrev main_call0_call0_v10 : Ref sig .tc := ⟨.hbm, 43, rfl⟩
abbrev main_call0_call0_cst_3 : Ref sig .tc := ⟨.hbm, 44, rfl⟩
abbrev main_call0_call0_v11 : Ref sig .tc := ⟨.hbm, 45, rfl⟩
abbrev main_call0_call0_cst_4 : Ref sig .tc := ⟨.hbm, 46, rfl⟩
abbrev main_call0_call0_call0_v0 : Ref sig .tc := ⟨.hbm, 47, rfl⟩
abbrev main_call0_v0 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_1 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_2 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_3 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_4 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩

abbrev nD : Nat := 1
abbrev τ : Topo := Topo.v7x

variable {F : FTy → Type} [FloatOps F]
-- ==== Kernel3.lean ====
abbrev S2000 : Shape := ⟨1, ![2000]⟩
abbrev S2000x4 : Shape := ⟨2, ![2000, 4]⟩
abbrev S64x4 : Shape := ⟨2, ![64, 4]⟩
abbrev S64 : Shape := ⟨1, ![64]⟩
abbrev S_ : Shape := ⟨0, ![]⟩
abbrev S2048 : Shape := ⟨1, ![2048]⟩
abbrev S16x128 : Shape := ⟨2, ![16, 128]⟩
abbrev S2000x1 : Shape := ⟨2, ![2000, 1]⟩
abbrev S64x1 : Shape := ⟨2, ![64, 1]⟩
abbrev S1x64 : Shape := ⟨2, ![1, 64]⟩
abbrev S1x1 : Shape := ⟨2, ![1, 1]⟩

abbrev nBuf : Space → Nat
  | .hbm => 70
  | .vmem => 16
  | .smem => 0
  | _ => 0

abbrev bufTy : (tb : Table) → Fin (tcTables nBuf tb) → BufTy
  | .hbm, ⟨0, _⟩ => ⟨S2000, .i32⟩
  | .hbm, ⟨1, _⟩ => ⟨S2000, .f32⟩
  | .hbm, ⟨2, _⟩ => ⟨S2000x4, .f32⟩
  | .hbm, ⟨3, _⟩ => ⟨S64x4, .f32⟩
  | .hbm, ⟨4, _⟩ => ⟨S64, .i32⟩
  | .hbm, ⟨5, _⟩ => ⟨S_, .i32⟩
  | .hbm, ⟨6, _⟩ => ⟨S_, .i32⟩
  | .hbm, ⟨7, _⟩ => ⟨S2048, .i32⟩
  | .hbm, ⟨8, _⟩ => ⟨S16x128, .i32⟩
  | .hbm, ⟨9, _⟩ => ⟨S_, .i32⟩
  | .hbm, ⟨10, _⟩ => ⟨S_, .f32⟩
  | .hbm, ⟨11, _⟩ => ⟨S2048, .f32⟩
  | .hbm, ⟨12, _⟩ => ⟨S16x128, .f32⟩
  | .hbm, ⟨13, _⟩ => ⟨S2000x1, .f32⟩
  | .hbm, ⟨14, _⟩ => ⟨S2000, .f32⟩
  | .hbm, ⟨15, _⟩ => ⟨S_, .i32⟩
  | .hbm, ⟨16, _⟩ => ⟨S_, .f32⟩
  | .hbm, ⟨17, _⟩ => ⟨S2048, .f32⟩
  | .hbm, ⟨18, _⟩ => ⟨S16x128, .f32⟩
  | .hbm, ⟨19, _⟩ => ⟨S2000x1, .f32⟩
  | .hbm, ⟨20, _⟩ => ⟨S2000, .f32⟩
  | .hbm, ⟨21, _⟩ => ⟨S_, .i32⟩
  | .hbm, ⟨22, _⟩ => ⟨S_, .f32⟩
  | .hbm, ⟨23, _⟩ => ⟨S2048, .f32⟩
  | .hbm, ⟨24, _⟩ => ⟨S16x128, .f32⟩
  | .hbm, ⟨25, _⟩ => ⟨S2000x1, .f32⟩
  | .hbm, ⟨26, _⟩ => ⟨S2000, .f32⟩
  | .hbm, ⟨27, _⟩ => ⟨S_, .i32⟩
  | .hbm, ⟨28, _⟩ => ⟨S_, .f32⟩
  | .hbm, ⟨29, _⟩ => ⟨S2048, .f32⟩
  | .hbm, ⟨30, _⟩ => ⟨S16x128, .f32⟩
  | .hbm, ⟨31, _⟩ => ⟨S2000x1, .f32⟩
  | .hbm, ⟨32, _⟩ => ⟨S2000, .f32⟩
  | .hbm, ⟨33, _⟩ => ⟨S_, .i32⟩
  | .hbm, ⟨34, _⟩ => ⟨S_, .f32⟩
  | .hbm, ⟨35, _⟩ => ⟨S2048, .f32⟩
  | .hbm, ⟨36, _⟩ => ⟨S16x128, .f32⟩
  | .hbm, ⟨37, _⟩ => ⟨S64x1, .f32⟩
  | .hbm, ⟨38, _⟩ => ⟨S64, .f32⟩
  | .hbm, ⟨39, _⟩ => ⟨S1x64, .f32⟩
  | .hbm, ⟨40, _⟩ => ⟨S64x1, .f32⟩
  | .hbm, ⟨41, _⟩ => ⟨S64, .f32⟩
  | .hbm, ⟨42, _⟩ => ⟨S1x64, .f32⟩
  | .hbm, ⟨43, _⟩ => ⟨S64x1, .f32⟩
  | .hbm, ⟨44, _⟩ => ⟨S64, .f32⟩
  | .hbm, ⟨45, _⟩ => ⟨S1x64, .f32⟩
  | .hbm, ⟨46, _⟩ => ⟨S64x1, .f32⟩
  | .hbm, ⟨47, _⟩ => ⟨S64, .f32⟩
  | .hbm, ⟨48, _⟩ => ⟨S1x64, .f32⟩
  | .hbm, ⟨49, _⟩ => ⟨S1x64, .i32⟩
  | .hbm, ⟨50, _⟩ => ⟨S16x128, .f32⟩
  | .hbm, ⟨51, _⟩ => ⟨S16x128, .f32⟩
  | .hbm, ⟨52, _⟩ => ⟨S16x128, .f32⟩
  | .hbm, ⟨53, _⟩ => ⟨S16x128, .f32⟩
  | .hbm, ⟨54, _⟩ => ⟨S16x128, .i32⟩
  | .hbm, ⟨55, _⟩ => ⟨S2048, .f32⟩
  | .hbm, ⟨56, _⟩ => ⟨S2000, .f32⟩
  | .hbm, ⟨57, _⟩ => ⟨S2048, .f32⟩
  | .hbm, ⟨58, _⟩ => ⟨S2000, .f32⟩
  | .hbm, ⟨59, _⟩ => ⟨S2048, .f32⟩
  | .hbm, ⟨60, _⟩ => ⟨S2000, .f32⟩
  | .hbm, ⟨61, _⟩ => ⟨S2048, .f32⟩
  | .hbm, ⟨62, _⟩ => ⟨S2000, .f32⟩
  | .hbm, ⟨63, _⟩ => ⟨S2000x1, .f32⟩
  | .hbm, ⟨64, _⟩ => ⟨S2000x1, .f32⟩
  | .hbm, ⟨65, _⟩ => ⟨S2000x1, .f32⟩
  | .hbm, ⟨66, _⟩ => ⟨S2000x1, .f32⟩
  | .hbm, ⟨67, _⟩ => ⟨S2000x4, .f32⟩
  | .hbm, ⟨68, _⟩ => ⟨S2048, .i32⟩
  | .hbm, ⟨69, _⟩ => ⟨S2000, .i32⟩
  | .local _ .vmem, ⟨0, _⟩ => ⟨S16x128, .i32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x64, .i32⟩
  | .local _ .vmem, ⟨11, _⟩ => ⟨S16x128, .f32⟩
  | .local _ .vmem, ⟨12, _⟩ => ⟨S16x128, .f32⟩
  | .local _ .vmem, ⟨13, _⟩ => ⟨S16x128, .f32⟩
  | .local _ .vmem, ⟨14, _⟩ => ⟨S16x128, .f32⟩
  | .local _ .vmem, ⟨15, _⟩ => ⟨S16x128, .i32⟩
  | _, _ => ⟨S2000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_call1_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_call2_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_call3_v0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_call4_v0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_call5_v0 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33_0 : Ref sig .tc := ⟨.hbm, 50, rfl⟩
abbrev main_v33_1 : Ref sig .tc := ⟨.hbm, 51, rfl⟩
abbrev main_v33_2 : Ref sig .tc := ⟨.hbm, 52, rfl⟩
abbrev main_v33_3 : Ref sig .tc := ⟨.hbm, 53, rfl⟩
abbrev main_v33_4 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

abbrev stage0_0 : Fin 1 → Memref sig .tc .vmem S16x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x64 .i32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S16x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S16x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S16x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S16x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S16x128 .i32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== Reference3Ideal.lean ====
abbrev S2000 : Shape := ⟨1, ![2000]⟩
abbrev S2000x4 : Shape := ⟨2, ![2000, 4]⟩
abbrev S64x4 : Shape := ⟨2, ![64, 4]⟩
abbrev S64 : Shape := ⟨1, ![64]⟩
abbrev S2000x1 : Shape := ⟨2, ![2000, 1]⟩
abbrev S_ : Shape := ⟨0, ![]⟩

abbrev nBuf : Space → Nat
  | .hbm => 106
  | .vmem => 0
  | .smem => 0
  | _ => 0

abbrev bufTy : (tb : Table) → Fin (tcTables nBuf tb) → BufTy
  | .hbm, ⟨0, _⟩ => ⟨S2000, .i32⟩
  | .hbm, ⟨1, _⟩ => ⟨S2000, .f32⟩
  | .hbm, ⟨2, _⟩ => ⟨S2000x4, .f32⟩
  | .hbm, ⟨3, _⟩ => ⟨S64x4, .f32⟩
  | .hbm, ⟨4, _⟩ => ⟨S64, .i32⟩
  | .hbm, ⟨5, _⟩ => ⟨S2000x1, .f32⟩
  | .hbm, ⟨6, _⟩ => ⟨S2000, .f32⟩
  | .hbm, ⟨7, _⟩ => ⟨S2000x1, .f32⟩
  | .hbm, ⟨8, _⟩ => ⟨S2000, .f32⟩
  | .hbm, ⟨9, _⟩ => ⟨S2000x1, .f32⟩
  | .hbm, ⟨10, _⟩ => ⟨S2000, .f32⟩
  | .hbm, ⟨11, _⟩ => ⟨S2000x1, .f32⟩
  | .hbm, ⟨12, _⟩ => ⟨S2000, .f32⟩
  | .hbm, ⟨13, _⟩ => ⟨S2000, .f32⟩
  | .hbm, ⟨14, _⟩ => ⟨S2000x1, .f32⟩
  | .hbm, ⟨15, _⟩ => ⟨S2000, .f32⟩
  | .hbm, ⟨16, _⟩ => ⟨S2000x1, .f32⟩
  | .hbm, ⟨17, _⟩ => ⟨S2000, .f32⟩
  | .hbm, ⟨18, _⟩ => ⟨S2000, .f32⟩
  | .hbm, ⟨19, _⟩ => ⟨S2000x1, .f32⟩
  | .hbm, ⟨20, _⟩ => ⟨S2000x1, .f32⟩
  | .hbm, ⟨21, _⟩ => ⟨S2000x1, .f32⟩
  | .hbm, ⟨22, _⟩ => ⟨S2000x1, .f32⟩
  | .hbm, ⟨23, _⟩ => ⟨S2000x4, .f32⟩
  | .hbm, ⟨24, _⟩ => ⟨S_, .i32⟩
  | .hbm, ⟨25, _⟩ => ⟨S2000, .i32⟩
  | .hbm, ⟨26, _⟩ => ⟨S2000, .i1⟩
  | .hbm, ⟨27, _⟩ => ⟨S_, .i32⟩
  | .hbm, ⟨28, _⟩ => ⟨S2000, .i32⟩
  | .hbm, ⟨29, _⟩ => ⟨S2000, .i32⟩
  | .hbm, ⟨30, _⟩ => ⟨S2000, .i32⟩
  | .hbm, ⟨31, _⟩ => ⟨S2000x1, .i32⟩
  | .hbm, ⟨32, _⟩ => ⟨S2000x4, .f32⟩
  | .hbm, ⟨33, _⟩ => ⟨S_, .f32⟩
  | .hbm, ⟨34, _⟩ => ⟨S2000, .f32⟩
  | .hbm, ⟨35, _⟩ => ⟨S2000, .i1⟩
  | .hbm, ⟨36, _⟩ => ⟨S_, .i32⟩
  | .hbm, ⟨37, _⟩ => ⟨S2000, .i32⟩
  | .hbm, ⟨38, _⟩ => ⟨S2000, .i1⟩
  | .hbm, ⟨39, _⟩ => ⟨S_, .i32⟩
  | .hbm, ⟨40, _⟩ => ⟨S2000, .i32⟩
  | .hbm, ⟨41, _⟩ => ⟨S2000, .i32⟩
  | .hbm, ⟨42, _⟩ => ⟨S2000, .i32⟩
  | .hbm, ⟨43, _⟩ => ⟨S2000x1, .i32⟩
  | .hbm, ⟨44, _⟩ => ⟨S2000, .i32⟩
  | .hbm, ⟨45, _⟩ => ⟨S_, .i32⟩
  | .hbm, ⟨46, _⟩ => ⟨S_, .i32⟩
  | .hbm, ⟨47, _⟩ => ⟨S2000, .i32⟩
  | .hbm, ⟨48, _⟩ => ⟨S2000, .i32⟩
  | .hbm, ⟨49, _⟩ => ⟨S2000x1, .f32⟩
  | .hbm, ⟨50, _⟩ => ⟨S2000, .f32⟩
  | .hbm, ⟨51, _⟩ => ⟨S2000x1, .f32⟩
  | .hbm, ⟨52, _⟩ => ⟨S2000, .f32⟩
  | .hbm, ⟨53, _⟩ => ⟨S_, .f32⟩
  | .hbm, ⟨54, _⟩ => ⟨S2000, .f32⟩
  | .hbm, ⟨55, _⟩ => ⟨S2000, .f32⟩
  | .hbm, ⟨56, _⟩ => ⟨S2000, .f32⟩
  | .hbm, ⟨57, _⟩ => ⟨S2000x1, .f32⟩
  | .hbm, ⟨58, _⟩ => ⟨S2000, .f32⟩
  | .hbm, ⟨59, _⟩ => ⟨S2000x1, .f32⟩
  | .hbm, ⟨60, _⟩ => ⟨S2000, .f32⟩
  | .hbm, ⟨61, _⟩ => ⟨S_, .f32⟩
  | .hbm, ⟨62, _⟩ => ⟨S2000, .f32⟩
  | .hbm, ⟨63, _⟩ => ⟨S2000, .f32⟩
  | .hbm, ⟨64, _⟩ => ⟨S2000, .f32⟩
  | .hbm, ⟨65, _⟩ => ⟨S2000x1, .f32⟩
  | .hbm, ⟨66, _⟩ => ⟨S2000, .f32⟩
  | .hbm, ⟨67, _⟩ => ⟨S2000x1, .f32⟩
  | .hbm, ⟨68, _⟩ => ⟨S2000, .f32⟩
  | .hbm, ⟨69, _⟩ => ⟨S_, .f32⟩
  | .hbm, ⟨70, _⟩ => ⟨S2000, .f32⟩
  | .hbm, ⟨71, _⟩ => ⟨S2000, .f32⟩
  | .hbm, ⟨72, _⟩ => ⟨S2000, .f32⟩
  | .hbm, ⟨73, _⟩ => ⟨S2000x1, .f32⟩
  | .hbm, ⟨74, _⟩ => ⟨S2000, .f32⟩
  | .hbm, ⟨75, _⟩ => ⟨S2000x1, .f32⟩
  | .hbm, ⟨76, _⟩ => ⟨S2000, .f32⟩
  | .hbm, ⟨77, _⟩ => ⟨S_, .f32⟩
  | .hbm, ⟨78, _⟩ => ⟨S2000, .f32⟩
  | .hbm, ⟨79, _⟩ => ⟨S2000, .f32⟩
  | .hbm, ⟨80, _⟩ => ⟨S2000, .f32⟩
  | .hbm, ⟨81, _⟩ => ⟨S2000, .f32⟩
  | .hbm, ⟨82, _⟩ => ⟨S2000x1, .f32⟩
  | .hbm, ⟨83, _⟩ => ⟨S2000, .f32⟩
  | .hbm, ⟨84, _⟩ => ⟨S2000, .f32⟩
  | .hbm, ⟨85, _⟩ => ⟨S2000, .f32⟩
  | .hbm, ⟨86, _⟩ => ⟨S2000x1, .f32⟩
  | .hbm, ⟨87, _⟩ => ⟨S2000, .f32⟩
  | .hbm, ⟨88, _⟩ => ⟨S2000, .f32⟩
  | .hbm, ⟨89, _⟩ => ⟨S2000x1, .f32⟩
  | .hbm, ⟨90, _⟩ => ⟨S2000, .f32⟩
  | .hbm, ⟨91, _⟩ => ⟨S2000x1, .f32⟩
  | .hbm, ⟨92, _⟩ => ⟨S2000, .f32⟩
  | .hbm, ⟨93, _⟩ => ⟨S2000, .f32⟩
  | .hbm, ⟨94, _⟩ => ⟨S2000, .f32⟩
  | .hbm, ⟨95, _⟩ => ⟨S2000x1, .f32⟩
  | .hbm, ⟨96, _⟩ => ⟨S2000, .f32⟩
  | .hbm, ⟨97, _⟩ => ⟨S2000x1, .f32⟩
  | .hbm, ⟨98, _⟩ => ⟨S2000, .f32⟩
  | .hbm, ⟨99, _⟩ => ⟨S2000, .f32⟩
  | .hbm, ⟨100, _⟩ => ⟨S2000, .f32⟩
  | .hbm, ⟨101, _⟩ => ⟨S2000x1, .f32⟩
  | .hbm, ⟨102, _⟩ => ⟨S2000x1, .f32⟩
  | .hbm, ⟨103, _⟩ => ⟨S2000x1, .f32⟩
  | .hbm, ⟨104, _⟩ => ⟨S2000x1, .f32⟩
  | .hbm, ⟨105, _⟩ => ⟨S2000x4, .f32⟩
  | _, _ => ⟨S2000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_c : Ref sig .tc := ⟨.hbm, 24, rfl⟩
abbrev main_v19 : Ref sig .tc := ⟨.hbm, 25, rfl⟩
abbrev main_v20 : Ref sig .tc := ⟨.hbm, 26, rfl⟩
abbrev main_c_0 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst : Ref sig .tc := ⟨.hbm, 33, rfl⟩
abbrev main_v26 : Ref sig .tc := ⟨.hbm, 34, rfl⟩
abbrev main_v27 : Ref sig .tc := ⟨.hbm, 35, rfl⟩
abbrev main_c_1 : Ref sig .tc := ⟨.hbm, 36, rfl⟩
abbrev main_v28 : Ref sig .tc := ⟨.hbm, 37, rfl⟩
abbrev main_v29 : Ref sig .tc := ⟨.hbm, 38, rfl⟩
abbrev main_c_2 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c_3 : Ref sig .tc := ⟨.hbm, 45, rfl⟩
abbrev main_call0_v0 : Ref sig .tc := ⟨.hbm, 46, rfl⟩
abbrev main_call0_v1 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_4 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_5 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_6 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_7 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩

abbrev nD : Nat := 1
abbrev τ : Topo := Topo.v7x

variable {F : FTy → Type} [FloatOps F]
-- ==== Kernel4.lean ====
abbrev S2000x4 : Shape := ⟨2, ![2000, 4]⟩
abbrev S64x4 : Shape := ⟨2, ![64, 4]⟩
abbrev S2000x1 : Shape := ⟨2, ![2000, 1]⟩
abbrev S2000 : Shape := ⟨1, ![2000]⟩
abbrev S_ : Shape := ⟨0, ![]⟩
abbrev S2048 : Shape := ⟨1, ![2048]⟩
abbrev S16x128 : Shape := ⟨2, ![16, 128]⟩
abbrev S64x1 : Shape := ⟨2, ![64, 1]⟩
abbrev S64 : Shape := ⟨1, ![64]⟩
abbrev S1x64 : Shape := ⟨2, ![1, 64]⟩
abbrev S1x1 : Shape := ⟨2, ![1, 1]⟩

abbrev nBuf : Space → Nat
  | .hbm => 44
  | .vmem => 10
  | .smem => 0
  | _ => 0

abbrev bufTy : (tb : Table) → Fin (tcTables nBuf tb) → BufTy
  | .hbm, ⟨0, _⟩ => ⟨S2000x4, .f32⟩
  | .hbm, ⟨1, _⟩ => ⟨S64x4, .f32⟩
  | .hbm, ⟨2, _⟩ => ⟨S2000x1, .f32⟩
  | .hbm, ⟨3, _⟩ => ⟨S2000, .f32⟩
  | .hbm, ⟨4, _⟩ => ⟨S_, .i32⟩
  | .hbm, ⟨5, _⟩ => ⟨S_, .f32⟩
  | .hbm, ⟨6, _⟩ => ⟨S2048, .f32⟩
  | .hbm, ⟨7, _⟩ => ⟨S16x128, .f32⟩
  | .hbm, ⟨8, _⟩ => ⟨S2000x1, .f32⟩
  | .hbm, ⟨9, _⟩ => ⟨S2000, .f32⟩
  | .hbm, ⟨10, _⟩ => ⟨S_, .i32⟩
  | .hbm, ⟨11, _⟩ => ⟨S_, .f32⟩
  | .hbm, ⟨12, _⟩ => ⟨S2048, .f32⟩
  | .hbm, ⟨13, _⟩ => ⟨S16x128, .f32⟩
  | .hbm, ⟨14, _⟩ => ⟨S2000x1, .f32⟩
  | .hbm, ⟨15, _⟩ => ⟨S2000, .f32⟩
  | .hbm, ⟨16, _⟩ => ⟨S_, .i32⟩
  | .hbm, ⟨17, _⟩ => ⟨S_, .f32⟩
  | .hbm, ⟨18, _⟩ => ⟨S2048, .f32⟩
  | .hbm, ⟨19, _⟩ => ⟨S16x128, .f32⟩
  | .hbm, ⟨20, _⟩ => ⟨S2000x1, .f32⟩
  | .hbm, ⟨21, _⟩ => ⟨S2000, .f32⟩
  | .hbm, ⟨22, _⟩ => ⟨S_, .i32⟩
  | .hbm, ⟨23, _⟩ => ⟨S_, .f32⟩
  | .hbm, ⟨24, _⟩ => ⟨S2048, .f32⟩
  | .hbm, ⟨25, _⟩ => ⟨S16x128, .f32⟩
  | .hbm, ⟨26, _⟩ => ⟨S64x1, .f32⟩
  | .hbm, ⟨27, _⟩ => ⟨S64, .f32⟩
  | .hbm, ⟨28, _⟩ => ⟨S1x64, .f32⟩
  | .hbm, ⟨29, _⟩ => ⟨S64x1, .f32⟩
  | .hbm, ⟨30, _⟩ => ⟨S64, .f32⟩
  | .hbm, ⟨31, _⟩ => ⟨S1x64, .f32⟩
  | .hbm, ⟨32, _⟩ => ⟨S64x1, .f32⟩
  | .hbm, ⟨33, _⟩ => ⟨S64, .f32⟩
  | .hbm, ⟨34, _⟩ => ⟨S1x64, .f32⟩
  | .hbm, ⟨35, _⟩ => ⟨S64x1, .f32⟩
  | .hbm, ⟨36, _⟩ => ⟨S64, .f32⟩
  | .hbm, ⟨37, _⟩ => ⟨S1x64, .f32⟩
  | .hbm, ⟨38, _⟩ => ⟨S16x128, .i32⟩
  | .hbm, ⟨39, _⟩ => ⟨S16x128, .f32⟩
  | .hbm, ⟨40, _⟩ => ⟨S2048, .i32⟩
  | .hbm, ⟨41, _⟩ => ⟨S2000, .i32⟩
  | .hbm, ⟨42, _⟩ => ⟨S2048, .f32⟩
  | .hbm, ⟨43, _⟩ => ⟨S2000, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S1x64, .f32⟩
  | .local _ .vmem, ⟨5, _⟩ => ⟨S1x64, .f32⟩
  | .local _ .vmem, ⟨6, _⟩ => ⟨S1x64, .f32⟩
  | .local _ .vmem, ⟨7, _⟩ => ⟨S1x64, .f32⟩
  | .local _ .vmem, ⟨8, _⟩ => ⟨S16x128, .i32⟩
  | .local _ .vmem, ⟨9, _⟩ => ⟨S16x128, .f32⟩
  | _, _ => ⟨S2000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_call1_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_call2_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_call3_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28_0 : Ref sig .tc := ⟨.hbm, 38, rfl⟩
abbrev main_v28_1 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x128 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Reference4Ideal.lean ====
abbrev S2000x4 : Shape := ⟨2, ![2000, 4]⟩
abbrev S64x4 : Shape := ⟨2, ![64, 4]⟩
abbrev S2000x1 : Shape := ⟨2, ![2000, 1]⟩
abbrev S2000 : Shape := ⟨1, ![2000]⟩
abbrev S64x1 : Shape := ⟨2, ![64, 1]⟩
abbrev S64 : Shape := ⟨1, ![64]⟩
abbrev S1x64 : Shape := ⟨2, ![1, 64]⟩
abbrev S2000x64 : Shape := ⟨2, ![2000, 64]⟩
abbrev S_ : Shape := ⟨0, ![]⟩
abbrev S2000x1x1 : Shape := ⟨3, ![2000, 1, 1]⟩
abbrev S1 : Shape := ⟨1, ![1]⟩
abbrev S1x1x1 : Shape := ⟨3, ![1, 1, 1]⟩

abbrev nBuf : Space → Nat
  | .hbm => 107
  | .vmem => 0
  | .smem => 0
  | _ => 0

abbrev bufTy : (tb : Table) → Fin (tcTables nBuf tb) → BufTy
  | .hbm, ⟨0, _⟩ => ⟨S2000x4, .f32⟩
  | .hbm, ⟨1, _⟩ => ⟨S64x4, .f32⟩
  | .hbm, ⟨2, _⟩ => ⟨S2000x1, .f32⟩
  | .hbm, ⟨3, _⟩ => ⟨S2000, .f32⟩
  | .hbm, ⟨4, _⟩ => ⟨S2000x1, .f32⟩
  | .hbm, ⟨5, _⟩ => ⟨S2000, .f32⟩
  | .hbm, ⟨6, _⟩ => ⟨S2000x1, .f32⟩
  | .hbm, ⟨7, _⟩ => ⟨S2000, .f32⟩
  | .hbm, ⟨8, _⟩ => ⟨S2000x1, .f32⟩
  | .hbm, ⟨9, _⟩ => ⟨S2000, .f32⟩
  | .hbm, ⟨10, _⟩ => ⟨S2000, .f32⟩
  | .hbm, ⟨11, _⟩ => ⟨S2000x1, .f32⟩
  | .hbm, ⟨12, _⟩ => ⟨S2000, .f32⟩
  | .hbm, ⟨13, _⟩ => ⟨S2000x1, .f32⟩
  | .hbm, ⟨14, _⟩ => ⟨S2000, .f32⟩
  | .hbm, ⟨15, _⟩ => ⟨S2000, .f32⟩
  | .hbm, ⟨16, _⟩ => ⟨S64x1, .f32⟩
  | .hbm, ⟨17, _⟩ => ⟨S64, .f32⟩
  | .hbm, ⟨18, _⟩ => ⟨S64x1, .f32⟩
  | .hbm, ⟨19, _⟩ => ⟨S64, .f32⟩
  | .hbm, ⟨20, _⟩ => ⟨S64x1, .f32⟩
  | .hbm, ⟨21, _⟩ => ⟨S64, .f32⟩
  | .hbm, ⟨22, _⟩ => ⟨S64x1, .f32⟩
  | .hbm, ⟨23, _⟩ => ⟨S64, .f32⟩
  | .hbm, ⟨24, _⟩ => ⟨S64, .f32⟩
  | .hbm, ⟨25, _⟩ => ⟨S64x1, .f32⟩
  | .hbm, ⟨26, _⟩ => ⟨S64, .f32⟩
  | .hbm, ⟨27, _⟩ => ⟨S64x1, .f32⟩
  | .hbm, ⟨28, _⟩ => ⟨S64, .f32⟩
  | .hbm, ⟨29, _⟩ => ⟨S64, .f32⟩
  | .hbm, ⟨30, _⟩ => ⟨S2000x1, .f32⟩
  | .hbm, ⟨31, _⟩ => ⟨S1x64, .f32⟩
  | .hbm, ⟨32, _⟩ => ⟨S2000x64, .f32⟩
  | .hbm, ⟨33, _⟩ => ⟨S2000x64, .f32⟩
  | .hbm, ⟨34, _⟩ => ⟨S2000x64, .f32⟩
  | .hbm, ⟨35, _⟩ => ⟨S2000x1, .f32⟩
  | .hbm, ⟨36, _⟩ => ⟨S1x64, .f32⟩
  | .hbm, ⟨37, _⟩ => ⟨S2000x64, .f32⟩
  | .hbm, ⟨38, _⟩ => ⟨S2000x64, .f32⟩
  | .hbm, ⟨39, _⟩ => ⟨S2000x64, .f32⟩
  | .hbm, ⟨40, _⟩ => ⟨S2000x64, .f32⟩
  | .hbm, ⟨41, _⟩ => ⟨S_, .f32⟩
  | .hbm, ⟨42, _⟩ => ⟨S_, .f32⟩
  | .hbm, ⟨43, _⟩ => ⟨S2000x64, .f32⟩
  | .hbm, ⟨44, _⟩ => ⟨S2000x64, .f32⟩
  | .hbm, ⟨45, _⟩ => ⟨S2000x1, .f32⟩
  | .hbm, ⟨46, _⟩ => ⟨S1x64, .f32⟩
  | .hbm, ⟨47, _⟩ => ⟨S2000x64, .f32⟩
  | .hbm, ⟨48, _⟩ => ⟨S2000x64, .f32⟩
  | .hbm, ⟨49, _⟩ => ⟨S2000x64, .f32⟩
  | .hbm, ⟨50, _⟩ => ⟨S2000x1, .f32⟩
  | .hbm, ⟨51, _⟩ => ⟨S1x64, .f32⟩
  | .hbm, ⟨52, _⟩ => ⟨S2000x64, .f32⟩
  | .hbm, ⟨53, _⟩ => ⟨S2000x64, .f32⟩
  | .hbm, ⟨54, _⟩ => ⟨S2000x64, .f32⟩
  | .hbm, ⟨55, _⟩ => ⟨S2000x64, .f32⟩
  | .hbm, ⟨56, _⟩ => ⟨S_, .f32⟩
  | .hbm, ⟨57, _⟩ => ⟨S_, .f32⟩
  | .hbm, ⟨58, _⟩ => ⟨S2000x64, .f32⟩
  | .hbm, ⟨59, _⟩ => ⟨S2000x64, .f32⟩
  | .hbm, ⟨60, _⟩ => ⟨S2000x64, .f32⟩
  | .hbm, ⟨61, _⟩ => ⟨S2000x1, .f32⟩
  | .hbm, ⟨62, _⟩ => ⟨S2000, .f32⟩
  | .hbm, ⟨63, _⟩ => ⟨S2000x1, .f32⟩
  | .hbm, ⟨64, _⟩ => ⟨S2000, .f32⟩
  | .hbm, ⟨65, _⟩ => ⟨S2000, .f32⟩
  | .hbm, ⟨66, _⟩ => ⟨S64x1, .f32⟩
  | .hbm, ⟨67, _⟩ => ⟨S64, .f32⟩
  | .hbm, ⟨68, _⟩ => ⟨S64x1, .f32⟩
  | .hbm, ⟨69, _⟩ => ⟨S64, .f32⟩
  | .hbm, ⟨70, _⟩ => ⟨S64, .f32⟩
  | .hbm, ⟨71, _⟩ => ⟨S2000x1, .f32⟩
  | .hbm, ⟨72, _⟩ => ⟨S1x64, .f32⟩
  | .hbm, ⟨73, _⟩ => ⟨S2000x64, .f32⟩
  | .hbm, ⟨74, _⟩ => ⟨S2000x64, .f32⟩
  | .hbm, ⟨75, _⟩ => ⟨S2000x64, .f32⟩
  | .hbm, ⟨76, _⟩ => ⟨S2000x64, .f32⟩
  | .hbm, ⟨77, _⟩ => ⟨S2000x64, .f32⟩
  | .hbm, ⟨78, _⟩ => ⟨S2000x64, .i32⟩
  | .hbm, ⟨79, _⟩ => ⟨S_, .f32⟩
  | .hbm, ⟨80, _⟩ => ⟨S_, .i32⟩
  | .hbm, ⟨81, _⟩ => ⟨S2000, .f32⟩
  | .hbm, ⟨82, _⟩ => ⟨S2000, .i32⟩
  | .hbm, ⟨83, _⟩ => ⟨S2000x1, .i32⟩
  | .hbm, ⟨84, _⟩ => ⟨S_, .i32⟩
  | .hbm, ⟨85, _⟩ => ⟨S2000x1, .i32⟩
  | .hbm, ⟨86, _⟩ => ⟨S2000x1, .i1⟩
  | .hbm, ⟨87, _⟩ => ⟨S_, .i32⟩
  | .hbm, ⟨88, _⟩ => ⟨S2000x1, .i32⟩
  | .hbm, ⟨89, _⟩ => ⟨S2000x1, .i32⟩
  | .hbm, ⟨90, _⟩ => ⟨S2000x1, .i32⟩
  | .hbm, ⟨91, _⟩ => ⟨S2000x1x1, .i32⟩
  | .hbm, ⟨92, _⟩ => ⟨S1, .i32⟩
  | .hbm, ⟨93, _⟩ => ⟨S_, .i32⟩
  | .hbm, ⟨94, _⟩ => ⟨S2000x1x1, .i32⟩
  | .hbm, ⟨95, _⟩ => ⟨S2000x1x1, .i1⟩
  | .hbm, ⟨96, _⟩ => ⟨S1x1x1, .i32⟩
  | .hbm, ⟨97, _⟩ => ⟨S2000x1x1, .i32⟩
  | .hbm, ⟨98, _⟩ => ⟨S2000x1x1, .i1⟩
  | .hbm, ⟨99, _⟩ => ⟨S2000x1x1, .i1⟩
  | .hbm, ⟨100, _⟩ => ⟨S_, .i1⟩
  | .hbm, ⟨101, _⟩ => ⟨S2000x1, .i1⟩
  | .hbm, ⟨102, _⟩ => ⟨S2000x1, .f32⟩
  | .hbm, ⟨103, _⟩ => ⟨S_, .f32⟩
  | .hbm, ⟨104, _⟩ => ⟨S2000x1, .f32⟩
  | .hbm, ⟨105, _⟩ => ⟨S2000x1, .f32⟩
  | .hbm, ⟨106, _⟩ => ⟨S2000, .f32⟩
  | _, _ => ⟨S2000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_cst : Ref sig .tc := ⟨.hbm, 41, rfl⟩
abbrev main_call0_v0 : Ref sig .tc := ⟨.hbm, 42, rfl⟩
abbrev main_call0_v1 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_cst_0 : Ref sig .tc := ⟨.hbm, 56, rfl⟩
abbrev main_call1_v0 : Ref sig .tc := ⟨.hbm, 57, rfl⟩
abbrev main_call1_v1 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_call2_v0 : Ref sig .tc := ⟨.hbm, 78, rfl⟩
abbrev main_call2_cst : Ref sig .tc := ⟨.hbm, 79, rfl⟩
abbrev main_call2_c : Ref sig .tc := ⟨.hbm, 80, rfl⟩
abbrev main_call2_v1_0 : Ref sig .tc := ⟨.hbm, 81, rfl⟩
abbrev main_v70 : Ref sig .tc := ⟨.hbm, 82, rfl⟩
abbrev main_v71 : Ref sig .tc := ⟨.hbm, 83, rfl⟩
abbrev main_call3_c : Ref sig .tc := ⟨.hbm, 84, rfl⟩
abbrev main_call3_v0 : Ref sig .tc := ⟨.hbm, 85, rfl⟩
abbrev main_call3_v1 : Ref sig .tc := ⟨.hbm, 86, rfl⟩
abbrev main_call3_c_0 : Ref sig .tc := ⟨.hbm, 87, rfl⟩
abbrev main_call3_v2 : Ref sig .tc := ⟨.hbm, 88, rfl⟩
abbrev main_call3_v3 : Ref sig .tc := ⟨.hbm, 89, rfl⟩
abbrev main_call3_v4 : Ref sig .tc := ⟨.hbm, 90, rfl⟩
abbrev main_call3_v5 : Ref sig .tc := ⟨.hbm, 91, rfl⟩
abbrev main_call3_c_1 : Ref sig .tc := ⟨.hbm, 92, rfl⟩
abbrev main_call3_c_2 : Ref sig .tc := ⟨.hbm, 93, rfl⟩
abbrev main_call3_v6 : Ref sig .tc := ⟨.hbm, 94, rfl⟩
abbrev main_call3_v7 : Ref sig .tc := ⟨.hbm, 95, rfl⟩
abbrev main_call3_v8 : Ref sig .tc := ⟨.hbm, 96, rfl⟩
abbrev main_call3_v9 : Ref sig .tc := ⟨.hbm, 97, rfl⟩
abbrev main_call3_v10 : Ref sig .tc := ⟨.hbm, 98, rfl⟩
abbrev main_call3_v11 : Ref sig .tc := ⟨.hbm, 99, rfl⟩
abbrev main_call3_c_3 : Ref sig .tc := ⟨.hbm, 100, rfl⟩
abbrev main_call3_v12 : Ref sig .tc := ⟨.hbm, 101, rfl⟩
abbrev main_call3_v13 : Ref sig .tc := ⟨.hbm, 102, rfl⟩
abbrev main_call3_cst : Ref sig .tc := ⟨.hbm, 103, rfl⟩
abbrev main_call3_v14 : Ref sig .tc := ⟨.hbm, 104, rfl⟩
abbrev main_v72 : Ref sig .tc := ⟨.hbm, 105, rfl⟩
abbrev main_v73 : Ref sig .tc := ⟨.hbm, 106, rfl⟩

abbrev nD : Nat := 1
abbrev τ : Topo := Topo.v7x

variable {F : FTy → Type} [FloatOps F]
-- ==== Proof.Head.Row.lean ====
/- What the two detection heads compute from ONE row, over the extended reals: a dense layer, the rectifier, the row maximum,
   the softmax of a row. No program is named here; both programs are read as these functions of their rows. -/
module

public import Idealize.ShloMosaic.PureOps.Ideal.Laws

@[expose] public section

noncomputable section

namespace Cert.Head

open Idealize.ShloMosaic

/-- A dense layer on one row: entry `q` is `∑ i, h i * W i q + b q`. -/
def dense {n k : ℕ} (h : Fin n → EReal) (W : Fin n → Fin k → EReal) (b : Fin k → EReal) (q : Fin k) : EReal :=
  (∑ i, h i * W i q) + b q

/-- The rectifier on one row. -/
def relu {n : ℕ} (h : Fin n → EReal) (j : Fin n) : EReal := max (h j) 0

/-- A row's greatest entry (`⊥` for an empty row). -/
def top {n : ℕ} (L : Fin n → EReal) : EReal := Finset.univ.fold max ⊥ L

/-- `exp` of an entry less the row's greatest. -/
def shifted {n : ℕ} (L : Fin n → EReal) (q : Fin n) : EReal := Ideal.exp (L q - top L)

/-- The sum of the shifted exponentials of a row. -/
def mass {n : ℕ} (L : Fin n → EReal) : EReal := ∑ q, shifted L q

/-- The softmax of a row. -/
def soft {n : ℕ} (L : Fin n → EReal) (q : Fin n) : EReal := Ideal.div (shifted L q) (mass L)

end Cert.Head

end
-- ==== Proof.Head.Pay.lean ====
/- The kernel's stored values, each read at one index as a function of the row it depends on. -/
module

public import proofs.«01_k».proof.Proof.Head.Row
public import proofs.«01_k».proof.Proof.Gen.KernelIdeal.Skeleton
public import Idealize.ShloMosaic.Lib.Pointwise

@[expose] public section

set_option maxRecDepth 16384

noncomputable section

namespace Cert.Head

open Idealize.ShloMosaic Idealize.ShloMosaic.TcCoe Idealize.SL.Sem
open Cert.KernelIdeal Cert.KernelIdeal.Gen

/-- The accumulator's first value is zero. -/
theorem start_at (j : S256x1024.Idx) : k0_pay1 (F := Ideal) j = 0 := by pointwise [k0_pay1]

/-- A grid point adds its block's product to the accumulator. -/
theorem step_at (acc : FVec Ideal S256x1024 .f32) (x : FVec Ideal S256x1792 .f32) (w : FVec Ideal S1792x1024 .f32) (j : S256x1024.Idx) :
    k0_pay2 (F := Ideal) acc x w j = acc j + ∑ k : Fin 1792, x (ix2 (j 0) k) * w (ix2 k (j 1)) := by
  pointwise [k0_pay2]

/-- The second hidden layer's row. -/
theorem hidden_at (a : FVec Ideal S256x1024 .f32) (b1 : FVec Ideal S1x1024 .f32) (w2 : FVec Ideal S1024x1024 .f32) (b2 : FVec Ideal S1x1024 .f32)
    (r : Fin 256) (j : Fin 1024) :
    k0_pay4 (F := Ideal) a b1 w2 b2 (ix2 r j)
      = relu (dense (relu fun i => a (ix2 r i) + b1 (ix2 0 i)) (fun i q => w2 (ix2 i q)) fun q => b2 (ix2 0 q)) j := by
  pointwise [k0_pay4, relu, dense]

/-- `−∞`'s word denotes `⊥`. -/
theorem ofBits_neg_inf : Ideal.ofBits .f32 0xFF800000#32 = ⊥ := by simp [Ideal.ofBits, Ideal.ieee]

/-- The class bias with `⊥` in the padding columns. -/
def fenced (bc : FVec Ideal S1x128 .f32) (q : Fin 128) : EReal := if q.val < 81 then bc (ix2 0 q) else ⊥

/-- The kernel's bias entry: the select between the bias and the constant named as `⊥`. -/
theorem fence_at (bc : FVec Ideal S1x128 .f32) (q : Fin 128) :
    Scalar.select (IntOp.cmpi .slt (BitVec.ofNat 32 q.val) 81#32) (bc (ix2 0 q)) (Named.named (F := Ideal) κ "mask" (φ := .f32) 0xF149F2CA#32) = fenced bc q := by
  have h : IntOp.cmpi .slt (BitVec.ofNat 32 q.val) 81#32 = if q.val < 81 then 1#1 else 0#1 := by revert q; decide
  rw [h, fenced]
  split
  · rfl
  · rfl

/-- The class logits' shifted exponentials. -/
theorem shifted_at (a : FVec Ideal S256x1024 .f32) (b1 : FVec Ideal S1x1024 .f32) (w2 : FVec Ideal S1024x1024 .f32) (b2 : FVec Ideal S1x1024 .f32)
    (wc : FVec Ideal S1024x128 .f32) (bc : FVec Ideal S1x128 .f32) (r : Fin 256) (q : Fin 128) :
    k0_pay5 (F := Ideal) a b1 w2 b2 wc bc (ix2 r q)
      = shifted (dense (fun j => k0_pay4 (F := Ideal) a b1 w2 b2 (ix2 r j)) (fun i q => wc (ix2 i q)) (fenced bc)) q := by
  pointwise [k0_pay5, shifted, top, dense]
  simp only [fence_at, ofBits_neg_inf]

/-- Their sum over the row. -/
theorem mass_at (a : FVec Ideal S256x1024 .f32) (b1 : FVec Ideal S1x1024 .f32) (w2 : FVec Ideal S1024x1024 .f32) (b2 : FVec Ideal S1x1024 .f32)
    (wc : FVec Ideal S1024x128 .f32) (bc : FVec Ideal S1x128 .f32) (r : Fin 256) :
    k0_pay6 (F := Ideal) a b1 w2 b2 wc bc (ix2 r 0)
      = ∑ q : Fin 128, k0_pay5 (F := Ideal) a b1 w2 b2 wc bc (ix2 r q) := by
  pointwise [k0_pay6]

/-- The stored class probabilities. -/
theorem soft_at (a : FVec Ideal S256x1024 .f32) (b1 : FVec Ideal S1x1024 .f32) (w2 : FVec Ideal S1024x1024 .f32) (b2 : FVec Ideal S1x1024 .f32)
    (wc : FVec Ideal S1024x128 .f32) (bc : FVec Ideal S1x128 .f32) (r : Fin 256) (q : Fin 128) :
    k0_pay7 (F := Ideal) a b1 w2 b2 wc bc (ix2 r q)
      = soft (dense (fun j => k0_pay4 (F := Ideal) a b1 w2 b2 (ix2 r j)) (fun i q => wc (ix2 i q)) (fenced bc)) q := by
  pointwise [k0_pay7, soft, mass]
  simp only [mass_at, shifted_at]

/-- The score: one over the mass. -/
theorem score_at (a : FVec Ideal S256x1024 .f32) (b1 : FVec Ideal S1x1024 .f32) (w2 : FVec Ideal S1024x1024 .f32) (b2 : FVec Ideal S1x1024 .f32)
    (wc : FVec Ideal S1024x128 .f32) (bc : FVec Ideal S1x128 .f32) (r : Fin 256) :
    k0_pay8 (F := Ideal) (k0_pay6 (F := Ideal) a b1 w2 b2 wc bc) (ix2 r 0)
      = Ideal.div 1 (mass (dense (fun j => k0_pay4 (F := Ideal) a b1 w2 b2 (ix2 r j)) (fun i q => wc (ix2 i q)) (fenced bc))) := by
  pointwise [k0_pay8, mass]
  simp only [mass_at, shifted_at]

/-- The box regressions of every class. -/
theorem boxes_at (h : FVec Ideal S256x1024 .f32) (wl : FVec Ideal S1024x384 .f32) (bl : FVec Ideal S1x384 .f32) (r : Fin 256) (p : Fin 384) :
    k0_pay9 (F := Ideal) h wl bl (ix2 r p) = dense (fun j => h (ix2 r j)) (fun i p => wl (ix2 i p)) (fun p => bl (ix2 0 p)) p := by
  pointwise [k0_pay9, dense]

/-- The entry of a row of box regressions that a label names, as the kernel selects it: the sum over the columns of the entry
    where the column number is `4·lab + j`, of zero elsewhere. -/
def pick (lab j : BitVec 32) (L : Fin 384 → EReal) : EReal := ∑ p : Fin 384, if BitVec.ofNat 32 p.val = 4#32 * lab + j then L p else 0

/-- What the kernel stores beside the class probabilities, as one array: selected regressions and score. -/
def misc (h : FVec Ideal S256x1024 .f32) (wl : FVec Ideal S1024x384 .f32) (bl : FVec Ideal S1x384 .f32) (lab : IVec S256x1 32)
    (s : FVec Ideal S256x1 .f32) : FVec Ideal S256x128 .f32 :=
  k0_pay3 (F := Ideal) s (iota .tc S256x128 32 [1] iota_S256x128_d1_w32)
    (k0_pay13 (F := Ideal) (k0_pay9 h wl bl) (k0_pay10 (F := Ideal) lab) (iota .tc S256x384 32 [1] iota_S256x384_d1_w32)
      (iota .tc S256x128 32 [1] iota_S256x128_d1_w32) (k0_pay11 (F := Ideal) h wl bl lab) (k0_pay12 (F := Ideal) lab))
    (k0_pay14 (F := Ideal) (k0_pay9 h wl bl) (k0_pay10 (F := Ideal) lab) (iota .tc S256x384 32 [1] iota_S256x384_d1_w32)
      (iota .tc S256x128 32 [1] iota_S256x128_d1_w32))

/-- The five selects of the stored row, at any column. -/
theorem misc_at (h : FVec Ideal S256x1024 .f32) (wl : FVec Ideal S1024x384 .f32) (bl : FVec Ideal S1x384 .f32) (lab : IVec S256x1 32)
    (s : FVec Ideal S256x1 .f32) (r : Fin 256) (q : Fin 128) :
    misc h wl bl lab s (ix2 r q)
      = (if BitVec.ofNat 32 q.val = 0#32 then pick (lab (ix2 r 0)) 0#32 fun p => k0_pay9 h wl bl (ix2 r p) else 0)
        + (if BitVec.ofNat 32 q.val = 1#32 then pick (lab (ix2 r 0)) 1#32 fun p => k0_pay9 h wl bl (ix2 r p) else 0)
        + (if BitVec.ofNat 32 q.val = 2#32 then pick (lab (ix2 r 0)) 2#32 fun p => k0_pay9 h wl bl (ix2 r p) else 0)
        + (if BitVec.ofNat 32 q.val = 3#32 then pick (lab (ix2 r 0)) 3#32 fun p => k0_pay9 h wl bl (ix2 r p) else 0)
        + (if BitVec.ofNat 32 q.val = 4#32 then s (ix2 r 0) else 0) := by
  have sel : ∀ (a b : BitVec 32) (x y : EReal), Scalar.select (IntOp.cmpi .eq a b) x y = if a = b then x else y := by
    intro a b x y
    by_cases h : a = b
    · simp [Scalar.select, IntOp.cmpi, h]
    · have h' : (a == b) = false := by simpa using h
      simp [Scalar.select, IntOp.cmpi, h, h']
  pointwise [misc, k0_pay3, k0_pay13, k0_pay14, k0_pay11, k0_pay12, k0_pay10]
  simp only [sel, pick]
  rfl

/-- Columns 0 to 3 of the stored row hold the four regressions that the row's label names. -/
theorem misc_box (h : FVec Ideal S256x1024 .f32) (wl : FVec Ideal S1024x384 .f32) (bl : FVec Ideal S1x384 .f32) (lab : IVec S256x1 32)
    (s : FVec Ideal S256x1 .f32) (r : Fin 256) (j : Fin 4) :
    misc h wl bl lab s (ix2 r ⟨j.val, by omega⟩)
      = pick (lab (ix2 r 0)) (BitVec.ofNat 32 j.val) fun p => k0_pay9 h wl bl (ix2 r p) := by
  rw [misc_at]
  fin_cases j <;> simp

/-- Column 4 of the stored row holds the score. -/
theorem misc_score (h : FVec Ideal S256x1024 .f32) (wl : FVec Ideal S1024x384 .f32) (bl : FVec Ideal S1x384 .f32) (lab : IVec S256x1 32)
    (s : FVec Ideal S256x1 .f32) (r : Fin 256) :
    misc h wl bl lab s (ix2 r 4) = s (ix2 r 0) := by
  rw [misc_at]
  simp

end Cert.Head

end
-- ==== Proof.Head.Acc.lean ====
/- The accumulator at the end of a row block's run of grid points, and the two blocks stored there. -/
module

public import proofs.«01_k».proof.Proof.Head.Pay
public import proofs.«01_k».proof.Proof.Gen.KernelIdeal.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Head

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (c : Dev nD)

/-- The input blocks of a grid point. -/
abbrev xBlk (t : Fin cfg0.N) : FVec Ideal S256x1792 .f32 := iblk m c 0 t
/-- The first weights' block at one point. -/
abbrev w1Blk (t : Fin cfg0.N) : FVec Ideal S1792x1024 .f32 := iblk m c 1 t
/-- The first bias at one point. -/
abbrev b1Blk (t : Fin cfg0.N) : FVec Ideal S1x1024 .f32 := iblk m c 2 t
/-- The second weights at one point. -/
abbrev w2Blk (t : Fin cfg0.N) : FVec Ideal S1024x1024 .f32 := iblk m c 3 t
/-- The second bias at one point. -/
abbrev b2Blk (t : Fin cfg0.N) : FVec Ideal S1x1024 .f32 := iblk m c 4 t
/-- The padded box weights at one point. -/
abbrev wlBlk (t : Fin cfg0.N) : FVec Ideal S1024x384 .f32 := iblk m c 5 t
/-- The padded box bias at one point. -/
abbrev blBlk (t : Fin cfg0.N) : FVec Ideal S1x384 .f32 := iblk m c 6 t
/-- The padded class weights at one point. -/
abbrev wcBlk (t : Fin cfg0.N) : FVec Ideal S1024x128 .f32 := iblk m c 7 t
/-- The padded class bias at one point. -/
abbrev bcBlk (t : Fin cfg0.N) : FVec Ideal S1x128 .f32 := iblk m c 8 t
/-- The labels' block at one point. -/
abbrev labBlk (t : Fin cfg0.N) : IVec S256x128 32 := iblk m c 9 t

/-- What one grid point adds to the accumulator. -/
def part (t : Fin cfg0.N) (j : S256x1024.Idx) : EReal :=
  ∑ k : Fin 1792, xBlk m c t (ix2 (j 0) k) * w1Blk m c t (ix2 k (j 1))

/-- The accumulator after a point. -/
def acc (t : Fin cfg0.N) : FVec Ideal S256x1024 .f32 := (outsAt0 m c t.val t.isLt).2.2

/-- After a run's last point the accumulator holds the sum of the run's products. -/
theorem acc_last (t : Fin cfg0.N) (h : t.val % 14 = 13) (j : S256x1024.Idx) :
    acc m c t j = ∑ s : Fin 14, part m c ⟨14 * (t.val / 14) + s.val, Pipeline.run_point_lt_of_flush t h s⟩ j := by
  unfold acc
  rw [Pipeline.eq_sum_fin_of_reset_step_apply_of_flush (fun n h => (outsAt0 m c n h).2.2) 14 (fun _ => 0) (part m c)
    (fun t h j => by
      rw [outsAt0_A m c t h (by omega)]; frame_out; rw [step_at, start_at]; rfl)
    (fun t h j => by
      by_cases h1 : t.val % 14 = 13
      · rw [outsAt0_C m c t h h1]; frame_out; rw [step_at, read_unread_whole]; rfl
      · rw [outsAt0_B m c t h h1]; frame_out; rw [step_at, read_unread_whole]; rfl)
    t h j, zero_add]

/-- The class block stored at a run's last point. -/
theorem cls_block (t : Fin cfg0.N) (h1 : t.val % 14 = 13) :
    (outsAt0 m c t.val t.isLt).1
      = k0_pay7 (F := Ideal) (acc m c t) (b1Blk m c t) (w2Blk m c t) (b2Blk m c t) (wcBlk m c t) (bcBlk m c t) := by
  unfold acc
  rw [outsAt0_C m c t (by omega) h1]
  frame_out

/-- The label column a point reads. -/
def labCol (t : Fin cfg0.N) : IVec S256x1 32 :=
  fun y => labBlk m c t ((Rect.unit (s := S256x128) ![0, 0] ![256, 1] inb_S256x128_S256x1_0_0).idx y)

/-- The label column at a row is the label block's first entry there. -/
theorem labCol_at (t : Fin cfg0.N) (r : Fin 256) : labCol m c t (ix2 r 0) = labBlk m c t (ix2 r 0) := by
  unfold labCol
  pointwise

/-- The block of regressions and scores stored there. -/
theorem misc_block (t : Fin cfg0.N) (h1 : t.val % 14 = 13) :
    (outsAt0 m c t.val t.isLt).2.1
      = misc (k0_pay4 (F := Ideal) (acc m c t) (b1Blk m c t) (w2Blk m c t) (b2Blk m c t)) (wlBlk m c t) (blBlk m c t) (labCol m c t)
          (k0_pay8 (F := Ideal) (k0_pay6 (F := Ideal) (acc m c t) (b1Blk m c t) (w2Blk m c t) (b2Blk m c t) (wcBlk m c t)
            (bcBlk m c t))) := by
  unfold acc
  rw [outsAt0_C m c t (by omega) h1]
  frame_out
  rfl

/-- The array blocks the ten input windows and the two output windows take at a point. -/
theorem idx : ∀ t : Fin cfg0.N, win0_0.index t = ![t.val / 14, t.val % 14] ∧ win0_1.index t = ![t.val % 14, 0]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![t.val / 14, 0]
    ∧ win0_10.index t = ![t.val / 14, 0] ∧ win0_11.index t = ![t.val / 14, 0] :=
  (by decide +kernel : ∀ t : Fin grid0.N, _)

end Cert.Head

end
-- ==== Proof.Head.Entry.lean ====
/- What the host line leaves in the padded and broadcast operands of the kernel call. -/
module

public import proofs.«01_k».proof.Proof.Head.Acc

@[expose] public section

set_option maxRecDepth 16384

noncomputable section

namespace Cert.Head

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The kernel's arguments, as arrays. -/
abbrev inX : FVec Ideal S2000x25088 .f32 := m ((c.tc : Thread nD τ).loc main_arg0)
/-- The labels. -/
abbrev inLab : IVec S2000 32 := m ((c.tc : Thread nD τ).loc main_arg1)
/-- The first weights. -/
abbrev inW1 : FVec Ideal S25088x1024 .f32 := m ((c.tc : Thread nD τ).loc main_arg2)
/-- The first bias. -/
abbrev inB1 : FVec Ideal S1024 .f32 := m ((c.tc : Thread nD τ).loc main_arg3)
/-- The second weights. -/
abbrev inW2 : FVec Ideal S1024x1024 .f32 := m ((c.tc : Thread nD τ).loc main_arg4)
/-- The second bias. -/
abbrev inB2 : FVec Ideal S1024 .f32 := m ((c.tc : Thread nD τ).loc main_arg5)
/-- The box weights. -/
abbrev inWl : FVec Ideal S1024x324 .f32 := m ((c.tc : Thread nD τ).loc main_arg6)
/-- The box bias. -/
abbrev inBl : FVec Ideal S324 .f32 := m ((c.tc : Thread nD τ).loc main_arg7)
/-- The class weights. -/
abbrev inWc : FVec Ideal S1024x81 .f32 := m ((c.tc : Thread nD τ).loc main_arg8)
/-- The class bias. -/
abbrev inBc : FVec Ideal S81 .f32 := m ((c.tc : Thread nD τ).loc main_arg9)

/-- The zero the float pads fill with. -/
def fill : FVec Ideal S_ .f32 := sitofp .f32 (constantI S_ 32 0#32)

/-- The rows, padded to whole blocks. -/
theorem entry_x : V m c main_v0
    = pad S2048x25088 ![0, 0] ![48, 0] ![0, 0] (inX m c) fill pads_S2000x25088_S2048x25088_0480_000 h_S_ := by
  unfold V V0
  simp only [hostOps0, hostOps0_1, hostOps0_2, hostOps0_3, hostOps0_4, hostOps0_5, hostOps0_6, hostOps0_7, hostOps0_8, hostOps0_9,
    hostOps0_10, hostOps0_11, hostOps0_12, List.flatten_cons, List.flatten_nil, List.cons_append, List.nil_append, List.append_nil]
  entry_read
  rfl

/-- The labels, padded and repeated along the lanes. -/
theorem entry_lab : V m c main_v3
    = broadcastInDim S2048x128 ![0, 1] bcast_S2048x1_S2048x128_0_1 (broadcastInDim S2048x1 ![0] bcast_S2048_S2048x1_0
        (pad S2048 ![0] ![48] ![0] (inLab m c) (constantI S_ 32 0#32) pads_S2000_S2048_0480 h_S_)) := by
  unfold V V0
  simp only [hostOps0, hostOps0_1, hostOps0_2, hostOps0_3, hostOps0_4, hostOps0_5, hostOps0_6, hostOps0_7, hostOps0_8, hostOps0_9,
    hostOps0_10, hostOps0_11, hostOps0_12, List.flatten_cons, List.flatten_nil, List.cons_append, List.nil_append, List.append_nil]
  entry_read
  rfl

/-- The regression weights, padded to whole lanes. -/
theorem entry_wl : V m c main_v4
    = pad S1024x384 ![0, 0] ![0, 60] ![0, 0] (inWl m c) fill pads_S1024x324_S1024x384_000_0600 h_S_ := by
  unfold V V0
  simp only [hostOps0, hostOps0_1, hostOps0_2, hostOps0_3, hostOps0_4, hostOps0_5, hostOps0_6, hostOps0_7, hostOps0_8, hostOps0_9,
    hostOps0_10, hostOps0_11, hostOps0_12, List.flatten_cons, List.flatten_nil, List.cons_append, List.nil_append, List.append_nil]
  entry_read
  rfl

/-- The regression bias, padded, as a row. -/
theorem entry_bl : V m c main_v6
    = broadcastInDim S1x384 ![1] bcast_S384_S1x384_1 (pad S384 ![0] ![60] ![0] (inBl m c) fill pads_S324_S384_0600 h_S_) := by
  unfold V V0
  simp only [hostOps0, hostOps0_1, hostOps0_2, hostOps0_3, hostOps0_4, hostOps0_5, hostOps0_6, hostOps0_7, hostOps0_8, hostOps0_9,
    hostOps0_10, hostOps0_11, hostOps0_12, List.flatten_cons, List.flatten_nil, List.cons_append, List.nil_append, List.append_nil]
  entry_read
  rfl

/-- The class weights, padded to whole lanes. -/
theorem entry_wc : V m c main_v7
    = pad S1024x128 ![0, 0] ![0, 47] ![0, 0] (inWc m c) fill pads_S1024x81_S1024x128_000_0470 h_S_ := by
  unfold V V0
  simp only [hostOps0, hostOps0_1, hostOps0_2, hostOps0_3, hostOps0_4, hostOps0_5, hostOps0_6, hostOps0_7, hostOps0_8, hostOps0_9,
    hostOps0_10, hostOps0_11, hostOps0_12, List.flatten_cons, List.flatten_nil, List.cons_append, List.nil_append, List.append_nil]
  entry_read
  rfl

/-- The class bias, padded, as a row. -/
theorem entry_bc : V m c main_v9
    = broadcastInDim S1x128 ![1] bcast_S128_S1x128_1 (pad S128 ![0] ![47] ![0] (inBc m c) fill pads_S81_S128_0470 h_S_) := by
  unfold V V0
  simp only [hostOps0, hostOps0_1, hostOps0_2, hostOps0_3, hostOps0_4, hostOps0_5, hostOps0_6, hostOps0_7, hostOps0_8, hostOps0_9,
    hostOps0_10, hostOps0_11, hostOps0_12, List.flatten_cons, List.flatten_nil, List.cons_append, List.nil_append, List.append_nil]
  entry_read
  rfl

/-- The first bias as a row. -/
theorem entry_b1 : V m c main_v10
    = broadcastInDim S1x1024 ![1] bcast_S1024_S1x1024_1 (inB1 m c) := by
  unfold V V0
  simp only [hostOps0, hostOps0_1, hostOps0_2, hostOps0_3, hostOps0_4, hostOps0_5, hostOps0_6, hostOps0_7, hostOps0_8, hostOps0_9,
    hostOps0_10, hostOps0_11, hostOps0_12, List.flatten_cons, List.flatten_nil, List.cons_append, List.nil_append, List.append_nil]
  entry_read
  rfl

/-- The second bias as a row. -/
theorem entry_b2 : V m c main_v11
    = broadcastInDim S1x1024 ![1] bcast_S1024_S1x1024_1 (inB2 m c) := by
  unfold V V0
  simp only [hostOps0, hostOps0_1, hostOps0_2, hostOps0_3, hostOps0_4, hostOps0_5, hostOps0_6, hostOps0_7, hostOps0_8, hostOps0_9,
    hostOps0_10, hostOps0_11, hostOps0_12, List.flatten_cons, List.flatten_nil, List.cons_append, List.nil_append, List.append_nil]
  entry_read
  rfl

end Cert.Head

end
-- ==== Proof.Head.Reads.lean ====
/- The input blocks of a grid point, read back to the program's arguments. -/
module

public import proofs.«01_k».proof.Proof.Head.Entry

@[expose] public section

set_option maxRecDepth 16384

noncomputable section

namespace Cert.Head

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (c : Dev nD)

/-- A row of the point's block of features, where it is not padding. -/
theorem x_at (t : Fin cfg0.N) (r : Fin 256) (k : Fin 1792) (n : Fin 2000) (i : Fin 25088)
    (hn : n.val = 256 * (t.val / 14) + r.val) (hi : i.val = 1792 * (t.val % 14) + k.val) :
    xBlk m c t (ix2 r k) = inX m c (ix2 n i) := by
  have e : xBlk m c t (ix2 r k) = (V m c main_v0 : FVec Ideal S2048x25088 .f32) (ix2 (⟨n.val, by omega⟩ : Fin 2048) i) := by blk_ext [iblk, idx t]
  rw [e, entry_x]
  pointwise

/-- The point's block of first-layer weights. -/
theorem w1_at (t : Fin cfg0.N) (k : Fin 1792) (j : Fin 1024) (i : Fin 25088) (hi : i.val = 1792 * (t.val % 14) + k.val) :
    w1Blk m c t (ix2 k j) = inW1 m c (ix2 i j) := by
  blk_ext [iblk, V, idx t]

/-- The second layer's weights. -/
theorem w2_at (t : Fin cfg0.N) (i j : Fin 1024) : w2Blk m c t (ix2 i j) = inW2 m c (ix2 i j) := by
  blk_ext [iblk, V, idx t]

/-- The first bias. -/
theorem b1_at (t : Fin cfg0.N) (j : Fin 1024) :
    b1Blk m c t (ix2 0 j) = inB1 m c (ix1 j) := by
  have e : b1Blk m c t (ix2 0 j) = (V m c main_v10 : FVec Ideal S1x1024 .f32) (ix2 0 j) := by blk_ext [iblk, idx t]
  rw [e, entry_b1]
  pointwise

/-- The second bias. -/
theorem b2_at (t : Fin cfg0.N) (j : Fin 1024) :
    b2Blk m c t (ix2 0 j) = inB2 m c (ix1 j) := by
  have e : b2Blk m c t (ix2 0 j) = (V m c main_v11 : FVec Ideal S1x1024 .f32) (ix2 0 j) := by blk_ext [iblk, idx t]
  rw [e, entry_b2]
  pointwise

/-- The regression weights, off the padding. -/
theorem wl_at (t : Fin cfg0.N) (i : Fin 1024) (p : Fin 324) :
    wlBlk m c t (ix2 i (⟨p.val, by omega⟩ : Fin 384)) = inWl m c (ix2 i p) := by
  have e : wlBlk m c t (ix2 i (⟨p.val, by omega⟩ : Fin 384)) = (V m c main_v4 : FVec Ideal S1024x384 .f32) (ix2 i (⟨p.val, by omega⟩ : Fin 384)) := by blk_ext [iblk, idx t]
  rw [e, entry_wl]
  pointwise

/-- The regression bias, off the padding. -/
theorem bl_at (t : Fin cfg0.N) (p : Fin 324) :
    blBlk m c t (ix2 0 (⟨p.val, by omega⟩ : Fin 384)) = inBl m c (ix1 p) := by
  have e : blBlk m c t (ix2 0 (⟨p.val, by omega⟩ : Fin 384)) = (V m c main_v6 : FVec Ideal S1x384 .f32) (ix2 0 (⟨p.val, by omega⟩ : Fin 384)) := by blk_ext [iblk, idx t]
  rw [e, entry_bl]
  pointwise

/-- The class weights, off the padding. -/
theorem wc_at (t : Fin cfg0.N) (i : Fin 1024) (q : Fin 81) :
    wcBlk m c t (ix2 i (⟨q.val, by omega⟩ : Fin 128)) = inWc m c (ix2 i q) := by
  have e : wcBlk m c t (ix2 i (⟨q.val, by omega⟩ : Fin 128)) = (V m c main_v7 : FVec Ideal S1024x128 .f32) (ix2 i (⟨q.val, by omega⟩ : Fin 128)) := by blk_ext [iblk, idx t]
  rw [e, entry_wc]
  pointwise

/-- The class bias, off the padding. -/
theorem bc_at (t : Fin cfg0.N) (q : Fin 81) :
    bcBlk m c t (ix2 0 (⟨q.val, by omega⟩ : Fin 128)) = inBc m c (ix1 q) := by
  have e : bcBlk m c t (ix2 0 (⟨q.val, by omega⟩ : Fin 128)) = (V m c main_v9 : FVec Ideal S1x128 .f32) (ix2 0 (⟨q.val, by omega⟩ : Fin 128)) := by blk_ext [iblk, idx t]
  rw [e, entry_bc]
  pointwise

/-- A row's label. -/
theorem lab_at (t : Fin cfg0.N) (r : Fin 256) (n : Fin 2000) (hn : n.val = 256 * (t.val / 14) + r.val) :
    labBlk m c t (ix2 r 0) = inLab m c (ix1 n) := by
  have e : labBlk m c t (ix2 r 0) = (V m c main_v3 : IVec S2048x128 32) (ix2 (⟨n.val, by omega⟩ : Fin 2048) 0) := by blk_ext [iblk, idx t]
  rw [e, entry_lab]
  pointwise

end Cert.Head

end
-- ==== Proof.Head.Laws.lean ====
/- Laws of one row: a softmax is unchanged by columns of `⊥`, its greatest entry is one over its mass when the row is finite,
   finite layers keep a row finite, and a label's select is the entry the label names. -/
module

public import proofs.«01_k».proof.Proof.Head.Row
public import Mathlib.Algebra.BigOperators.Fin

@[expose] public section

noncomputable section

namespace Cert.Head

open Idealize.ShloMosaic

/-- An extended real that is a real number. -/
def Fin1 (x : EReal) : Prop := ∃ r : ℝ, x = r

/-- A sum of two finite numbers is finite. -/
theorem fin_add {x y : EReal} : Fin1 x → Fin1 y → Fin1 (x + y) := by
  rintro ⟨a, rfl⟩ ⟨b, rfl⟩; exact ⟨a + b, by push_cast; rfl⟩

/-- A product of two finite numbers is finite. -/
theorem fin_mul {x y : EReal} : Fin1 x → Fin1 y → Fin1 (x * y) := by
  rintro ⟨a, rfl⟩ ⟨b, rfl⟩; exact ⟨a * b, by push_cast; rfl⟩

/-- A finite sum of finite numbers is finite. -/
theorem fin_sum {ι : Type} (s : Finset ι) (f : ι → EReal) (h : ∀ i, Fin1 (f i)) : Fin1 (∑ i ∈ s, f i) := by
  classical
  induction s using Finset.induction_on with
  | empty => exact ⟨0, by simp⟩
  | insert a s ha ih => rw [Finset.sum_insert ha]; exact fin_add (h a) ih

/-- A dense layer of finite inputs is finite. -/
theorem fin_dense {n k : ℕ} (h : Fin n → EReal) (W : Fin n → Fin k → EReal) (b : Fin k → EReal)
    (hh : ∀ i, Fin1 (h i)) (hW : ∀ i q, Fin1 (W i q)) (hb : ∀ q, Fin1 (b q)) (q : Fin k) : Fin1 (dense h W b q) :=
  fin_add (fin_sum _ _ fun i => fin_mul (hh i) (hW i q)) (hb q)

/-- The rectifier keeps a row finite. -/
theorem fin_relu {n : ℕ} (h : Fin n → EReal) (hh : ∀ i, Fin1 (h i)) (j : Fin n) : Fin1 (relu h j) := by
  unfold relu
  rcases max_choice (h j) 0 with e | e <;> rw [e]
  · exact hh j
  · exact ⟨0, rfl⟩

/-- The maximum of a row is its supremum. -/
theorem top_eq_sup {n : ℕ} (L : Fin n → EReal) : top L = Finset.univ.sup L := rfl

/-- Every entry is at most the row's maximum. -/
theorem le_top {n : ℕ} (L : Fin n → EReal) (q : Fin n) : L q ≤ top L := by
  rw [top_eq_sup]; exact Finset.le_sup (Finset.mem_univ q)

/-- A bound of every entry bounds the row's maximum. -/
theorem top_le {n : ℕ} (L : Fin n → EReal) (x : EReal) (h : ∀ q, L q ≤ x) : top L ≤ x := by
  rw [top_eq_sup]; exact Finset.sup_le fun q _ => h q

/-- The greatest entry of a row is one of its entries. -/
theorem top_mem {n : ℕ} [NeZero n] (L : Fin n → EReal) : ∃ q, top L = L q := by
  obtain ⟨q, _, h⟩ := Finset.exists_mem_eq_sup Finset.univ ⟨0, Finset.mem_univ _⟩ L
  exact ⟨q, by rw [top_eq_sup]; exact h⟩

/-- The exponential is nonnegative. -/
theorem exp_nonneg (x : EReal) : 0 ≤ Ideal.exp x := by
  induction x using EReal.rec with
  | bot => simp
  | coe r => simp only [Ideal.exp_coe]; exact_mod_cast (Real.exp_pos r).le
  | top => simp

/-- Columns of `⊥` after a row leave its greatest entry. -/
theorem top_pad {n k : ℕ} (L : Fin n → EReal) (L' : Fin (n + k) → EReal) (h : ∀ q, L' (Fin.castAdd k q) = L q)
    (hp : ∀ q, L' (Fin.natAdd n q) = ⊥) : top L' = top L := by
  apply le_antisymm
  · refine top_le _ _ fun q => ?_
    induction q using Fin.addCases with
    | left q => rw [h]; exact le_top L q
    | right q => rw [hp]; exact bot_le
  · refine top_le _ _ fun q => ?_
    rw [← h]; exact le_top L' _

/-- They leave its mass: the exponential of `⊥` is zero. -/
theorem mass_pad {n k : ℕ} (L : Fin n → EReal) (L' : Fin (n + k) → EReal) (h : ∀ q, L' (Fin.castAdd k q) = L q)
    (hp : ∀ q, L' (Fin.natAdd n q) = ⊥) : mass L' = mass L := by
  unfold mass shifted
  rw [Fin.sum_univ_add, top_pad L L' h hp]
  simp only [h, hp, EReal.bot_sub, Ideal.exp_bot, Finset.sum_const_zero, add_zero]

/-- So the softmax of the row is unchanged. -/
theorem soft_pad {n k : ℕ} (L : Fin n → EReal) (L' : Fin (n + k) → EReal) (h : ∀ q, L' (Fin.castAdd k q) = L q)
    (hp : ∀ q, L' (Fin.natAdd n q) = ⊥) (q : Fin n) : soft L' (Fin.castAdd k q) = soft L q := by
  unfold soft shifted
  rw [mass_pad L L' h hp, top_pad L L' h hp, h]

/-- Two dense layers agree at two entries when their rows, the two columns of weights and the two biases do. -/
theorem dense_congr {n k k' : ℕ} {h h' : Fin n → EReal} {W : Fin n → Fin k → EReal} {W' : Fin n → Fin k' → EReal} {b : Fin k → EReal}
    {b' : Fin k' → EReal} {q : Fin k} {q' : Fin k'} (hh : ∀ i, h i = h' i) (hW : ∀ i, W i q = W' i q') (hb : b q = b' q') :
    dense h W b q = dense h' W' b' q' := by
  unfold dense
  rw [hb]
  simp only [hh, hW]

/-- A dense layer whose bias is `⊥` at a column is `⊥` there. -/
theorem dense_bot {n k : ℕ} (h : Fin n → EReal) (W : Fin n → Fin k → EReal) (b : Fin k → EReal) (q : Fin k) (hb : b q = ⊥) :
    dense h W b q = ⊥ := by rw [dense, hb, EReal.add_bot]

/-- Division by a nonnegative number keeps the order. -/
theorem div_mono {x y z : EReal} (hz : 0 ≤ z) (h : x ≤ y) : Ideal.div x z ≤ Ideal.div y z := by
  unfold Ideal.div
  split
  · by_cases hx : 0 < x
    · rw [if_pos hx, if_pos (lt_of_lt_of_le hx h)]
    · rw [if_neg hx]; exact bot_le
  · exact mul_le_mul_of_nonneg_right h (EReal.inv_nonneg_of_nonneg hz)

/-- On a finite row the greatest softmax entry is one over the mass. -/
theorem top_soft {n : ℕ} [NeZero n] (L : Fin n → EReal) (h : ∀ q, Fin1 (L q)) : top (soft L) = Ideal.div 1 (mass L) := by
  obtain ⟨q0, h0⟩ := top_mem L
  obtain ⟨M, hM⟩ := h q0
  have hz : 0 ≤ mass L := Finset.sum_nonneg fun q _ => exp_nonneg _
  have hone : shifted L q0 = 1 := by
    rw [shifted, h0, hM, ← EReal.coe_sub, sub_self, Ideal.exp_coe, Real.exp_zero]; rfl
  apply le_antisymm
  · refine top_le _ _ fun q => div_mono hz ?_
    obtain ⟨a, ha⟩ := h q
    have hle : L q ≤ top L := le_top L q
    rw [shifted, h0, hM, ha, ← EReal.coe_sub, Ideal.exp_coe]
    rw [h0, hM, ha, EReal.coe_le_coe_iff] at hle
    exact_mod_cast Real.exp_le_one_iff.mpr (sub_nonpos.mpr hle)
  · have := le_top (soft L) q0
    rwa [soft, hone] at this

/-- A label below 81 selects, of 384 columns, the entry `4·label + j`. -/
theorem pick_eq (l : ℕ) (hl : l < 81) (j : Fin 4) (L : Fin 384 → EReal) :
    (∑ p : Fin 384, if BitVec.ofNat 32 p.val = 4#32 * BitVec.ofNat 32 l + BitVec.ofNat 32 j.val then L p else 0)
      = L ⟨4 * l + j.val, by omega⟩ := by
  have e : ∀ p : Fin 384, (BitVec.ofNat 32 p.val = 4#32 * BitVec.ofNat 32 l + BitVec.ofNat 32 j.val) ↔ p = ⟨4 * l + j.val, by omega⟩ := by
    intro p
    rw [← BitVec.toNat_inj, Fin.ext_iff]
    have hp := p.isLt
    have hj := j.isLt
    simp only [BitVec.toNat_add, BitVec.toNat_mul, BitVec.toNat_ofNat]
    omega
  simp only [e]
  simp

end Cert.Head

end
-- ==== Proof.Head.Value.lean ====
/- The kernel's two output arrays, row by row, as functions of the program's arguments. -/
module

public import proofs.«01_k».proof.Proof.Head.Reads
public import proofs.«01_k».proof.Proof.Head.Laws

@[expose] public section

set_option maxRecDepth 16384

noncomputable section

namespace Cert.Head

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (c : Dev nD)

/-- Row `n` of the first hidden layer, from the kernel's arguments. -/
def kerFirst (n : Fin 2000) : Fin 1024 → EReal :=
  relu (dense (fun i => inX m c (ix2 n i)) (fun i j => inW1 m c (ix2 i j)) fun j => inB1 m c (ix1 j))

/-- Row `n` of the second hidden layer. -/
def kerHidden (n : Fin 2000) : Fin 1024 → EReal :=
  relu (dense (kerFirst m c n) (fun i j => inW2 m c (ix2 i j)) fun j => inB2 m c (ix1 j))

/-- Row `n` of the class logits. -/
def kerLogits (n : Fin 2000) : Fin 81 → EReal := dense (kerHidden m c n) (fun i q => inWc m c (ix2 i q)) fun q => inBc m c (ix1 q)

/-- Row `n` of the box regressions of every class. -/
def kerBoxes (n : Fin 2000) : Fin 324 → EReal := dense (kerHidden m c n) (fun i q => inWl m c (ix2 i q)) fun q => inBl m c (ix1 q)

section Rows

variable (t : Fin cfg0.N) (h : t.val % 14 = 13) (r : Fin 256) (n : Fin 2000) (hn : n.val = 256 * (t.val / 14) + r.val)

include h hn

/-- The accumulated block holds the whole product of a row. -/
theorem acc_row (j : Fin 1024) : acc m c t (ix2 r j) = ∑ i : Fin 25088, inX m c (ix2 n i) * inW1 m c (ix2 i j) := by
  rw [acc_last m c t h]
  unfold part
  refine Fin.sum_mul_add_congr (fun s k hl => ?_)
  have hs := s.isLt
  have ht := Pipeline.run_point_lt_of_flush t h s
  rw [← x_at m c ⟨14 * (t.val / 14) + s.val, ht⟩ r k n ⟨s.val * 1792 + k.val, hl⟩ (by simp only; omega) (by simp only; omega),
    ← w1_at m c ⟨14 * (t.val / 14) + s.val, ht⟩ k j ⟨s.val * 1792 + k.val, hl⟩ (by simp only; omega)]
  rfl

/-- The second hidden layer's block holds the rows of the second hidden layer. -/
theorem hidden_row (j : Fin 1024) :
    k0_pay4 (F := Ideal) (acc m c t) (b1Blk m c t) (w2Blk m c t) (b2Blk m c t) (ix2 r j) = kerHidden m c n j := by
  rw [hidden_at]
  simp only [acc_row m c t h r n hn, b1_at, w2_at, b2_at]
  rfl

/-- The padded logits agree with the logits off the padding. -/
theorem logits_row (q : Fin 81) :
    dense (fun j => k0_pay4 (F := Ideal) (acc m c t) (b1Blk m c t) (w2Blk m c t) (b2Blk m c t) (ix2 r j))
      (fun i q => wcBlk m c t (ix2 i q)) (fenced (bcBlk m c t)) (Fin.castAdd 47 q : Fin 128) = kerLogits m c n q := by
  have hb : fenced (bcBlk m c t) (Fin.castAdd 47 q : Fin 128) = inBc m c (ix1 q) := by
    rw [← bc_at m c t q, fenced, if_pos (by simp)]; rfl
  exact dense_congr (hidden_row m c t h r n hn) (fun i => wc_at m c t i q) hb

omit h hn in
/-- They are `⊥` in the padding. -/
theorem logits_pad (q : Fin 47) :
    dense (fun j => k0_pay4 (F := Ideal) (acc m c t) (b1Blk m c t) (w2Blk m c t) (b2Blk m c t) (ix2 r j))
      (fun i q => wcBlk m c t (ix2 i q)) (fenced (bcBlk m c t)) (Fin.natAdd 81 q : Fin 128) = ⊥ :=
  dense_bot _ _ _ _ (by rw [fenced, if_neg (by simp)])

/-- A row of the stored class block is the softmax of the row's logits. -/
theorem cls_row (q : Fin 81) : (outsAt0 m c t.val t.isLt).1 (ix2 r (⟨q.val, by omega⟩ : Fin 128)) = soft (kerLogits m c n) q := by
  rw [cls_block m c t h]
  refine (soft_at _ _ _ _ _ _ r _).trans ?_
  exact soft_pad (n := 81) (k := 47) (kerLogits m c n) _ (logits_row m c t h r n hn) (logits_pad m c t r) q

/-- Column 4 of the other block is the reciprocal of the row's mass. -/
theorem score_row : (outsAt0 m c t.val t.isLt).2.1 (ix2 r (4 : Fin 128)) = Ideal.div 1 (mass (kerLogits m c n)) := by
  rw [misc_block m c t h]
  refine (misc_score _ _ _ _ _ r).trans ((score_at _ _ _ _ _ _ r).trans ?_)
  rw [mass_pad (n := 81) (k := 47) (kerLogits m c n) _ (logits_row m c t h r n hn) (logits_pad m c t r)]

/-- Columns 0 to 3 are the regressions the row's label names. -/
theorem loc_row (l : Fin 81) (hl : inLab m c (ix1 n) = BitVec.ofNat 32 l.val) (j : Fin 4) :
    (outsAt0 m c t.val t.isLt).2.1 (ix2 r (⟨j.val, by omega⟩ : Fin 128)) = kerBoxes m c n ⟨4 * l.val + j.val, by omega⟩ := by
  rw [misc_block m c t h]
  refine (misc_box _ _ _ _ _ r j).trans ?_
  rw [labCol_at, lab_at m c t r n hn, hl]
  refine (pick_eq l.val l.isLt j _).trans ((boxes_at _ _ _ r _).trans ?_)
  exact dense_congr (hidden_row m c t h r n hn) (fun i => wl_at m c t i ⟨4 * l.val + j.val, by omega⟩)
    (bl_at m c t ⟨4 * l.val + j.val, by omega⟩)

end Rows

/-- The class array after the run. -/
theorem cls_array (i : (cfg0.win 10).arr.view.ty.shape.Idx) (n : Fin 2000) (q : Fin 81) (h0 : (i 0).val = n.val) (h1 : (i 1).val = q.val) :
    (dats m 0 c).arrAt 10 cfg0.N i = soft (kerLogits m c n) q := by
  revert n q
  refine (dats m 0 c).arrAt_forall_of_covers 10 (fun i v => ∀ (n : Fin 2000) (q : Fin 81), (i 0).val = n.val → (i 1).val = q.val
    → v = soft (kerLogits m c n) q) (by decide +kernel) (fun t hf y => ?_) i
  blk_simp [idx t]
  rw [after0_10]
  intro n q h0 h1
  have ey : (show S256x128.Idx from y) = ix2 (⟨(y 0).val, (y 0).isLt⟩ : Fin 256) (⟨q.val, by omega⟩ : Fin 128) := by
    blk_ext
  refine (congrArg (outsAt0 m c t.val t.isLt).1 ey).trans (cls_row m c t ((flush0_10 t).mp hf) _ n ?_ q)
  simp only
  omega

/-- The other array after the run: column 4 holds the reciprocals of the masses. -/
theorem score_array (i : (cfg0.win 11).arr.view.ty.shape.Idx) (n : Fin 2000) (h0 : (i 0).val = n.val) (h1 : (i 1).val = 4) :
    (dats m 0 c).arrAt 11 cfg0.N i = Ideal.div 1 (mass (kerLogits m c n)) := by
  revert n h1
  refine (dats m 0 c).arrAt_forall_of_covers 11 (fun i v => ∀ n : Fin 2000, (i 0).val = n.val → (i 1).val = 4
    → v = Ideal.div 1 (mass (kerLogits m c n))) (by decide +kernel) (fun t hf y => ?_) i
  blk_simp [idx t]
  rw [after0_11]
  intro n h0 h1
  have ey : (show S256x128.Idx from y) = ix2 (⟨(y 0).val, (y 0).isLt⟩ : Fin 256) (4 : Fin 128) := by
    blk_ext
  refine (congrArg (outsAt0 m c t.val t.isLt).2.1 ey).trans (score_row m c t ((flush0_11 t).mp hf) _ n ?_)
  simp only
  omega

/-- Its columns 0 to 3 hold the regressions each row's label names. -/
theorem loc_array (i : (cfg0.win 11).arr.view.ty.shape.Idx) (n : Fin 2000) (j : Fin 4) (h0 : (i 0).val = n.val) (h1 : (i 1).val = j.val)
    (l : Fin 81) (hl : inLab m c (ix1 n) = BitVec.ofNat 32 l.val) :
    (dats m 0 c).arrAt 11 cfg0.N i = kerBoxes m c n ⟨4 * l.val + j.val, by omega⟩ := by
  revert n j l
  refine (dats m 0 c).arrAt_forall_of_covers 11 (fun i v => ∀ (n : Fin 2000) (j : Fin 4), (i 0).val = n.val → (i 1).val = j.val
    → ∀ l : Fin 81, inLab m c (ix1 n) = BitVec.ofNat 32 l.val → v = kerBoxes m c n ⟨4 * l.val + j.val, by omega⟩)
    (by decide +kernel) (fun t hf y => ?_) i
  blk_simp [idx t]
  rw [after0_11]
  intro n j h0 h1 l hl
  have ey : (show S256x128.Idx from y) = ix2 (⟨(y 0).val, (y 0).isLt⟩ : Fin 256) (⟨j.val, by omega⟩ : Fin 128) := by
    blk_ext
  refine (congrArg (outsAt0 m c t.val t.isLt).2.1 ey).trans (loc_row m c t ((flush0_11 t).mp hf) _ n ?_ l hl j)
  simp only
  omega

end Cert.Head

end
-- ==== Proof.Head.Run.lean ====
/- The kernel program's run: what it leaves in its three results. -/
module

public import proofs.«01_k».proof.Proof.Head.Value
public import Idealize.ShloMosaic.Lib.Claim

@[expose] public section

set_option maxRecDepth 16384

noncomputable section

namespace Cert.Head

open Idealize.ShloMosaic Idealize.ShloMosaic.TcCoe Idealize.SL.Sem
open Cert.KernelIdeal Cert.KernelIdeal.Gen

variable (m : (ℓ : Loc nD τ sig) → Buf (Elt Ideal) ℓ) (g : Dev nD → PrngReg)

/-- The two arrays the kernel call leaves. -/
def clsOut (c : Dev nD) : FVec Ideal S2048x128 .f32 := (dats m 0 c).arrAt 10 cfg0.N
/-- The array of regressions and scores after the last grid point. -/
def miscOut (c : Dev nD) : FVec Ideal S2048x128 .f32 := (dats m 0 c).arrAt 11 cfg0.N

/-- Different windows have different arrays. -/
theorem arrays_inj : Function.Injective (Pipeline.arrRef (cfgs 0).spec) := by decide +kernel

/-- After the call the two result buffers hold those arrays. -/
theorem exit_cls (c : Dev nD) : Pipeline.withArrays (cfgs 0).spec c (V0 m c) (fun w => (dats m 0 c).arrAt w (cfgs 0).N)
    (Proc.tc.devRef main_v12_0) = clsOut m c :=
  Pipeline.withArrays_arr (cfgs 0).spec arrays_inj c (V0 m c) (fun w => (dats m 0 c).arrAt w (cfgs 0).N) (10 : Fin 12)

/-- The second output array after the launch is the one that the last grid point leaves. -/
theorem exit_misc (c : Dev nD) : Pipeline.withArrays (cfgs 0).spec c (V0 m c) (fun w => (dats m 0 c).arrAt w (cfgs 0).N)
    (Proc.tc.devRef main_v12_1) = miscOut m c :=
  Pipeline.withArrays_arr (cfgs 0).spec arrays_inj c (V0 m c) (fun w => (dats m 0 c).arrAt w (cfgs 0).N) (11 : Fin 12)

/-- The three results are cut from those two arrays. -/
theorem results : θ_run defs (onTc (τ := τ) (main (F := Ideal))) ⟨m, fun _ => 0, g⟩ (fun r => ∀ c : Dev nD,
    r.2.mem ((c.tc : Thread nD τ).loc main_v13) = extractStridedSlice S2000x81 ![0, 0] (clsOut m c) slices_S2048x128_S2000x81_0_0
    ∧ r.2.mem ((c.tc : Thread nD τ).loc main_v14) = extractStridedSlice S2000x4 ![0, 0] (miscOut m c) slices_S2048x128_S2000x4_0_0
    ∧ r.2.mem ((c.tc : Thread nD τ).loc main_v16)
      = shapeCast S2000 (extractStridedSlice S2000x1 ![0, 4] (miscOut m c) slices_S2048x128_S2000x1_0_4) shapeCasts_S2000x1_S2000) := by
  run_from run_main m g
  all_goals (unfold Pipeline.afterTail₀; simp only [hostOps1, List.flatten_cons, List.flatten_nil, List.append_nil]; entry_read)
  · exact congrArg (extractStridedSlice S2000x81 ![0, 0] · slices_S2048x128_S2000x81_0_0) (exit_cls m c)
  · exact congrArg (extractStridedSlice S2000x4 ![0, 0] · slices_S2048x128_S2000x4_0_0) (exit_misc m c)
  · exact congrArg (fun X => shapeCast S2000 (extractStridedSlice S2000x1 ![0, 4] X slices_S2048x128_S2000x1_0_4) shapeCasts_S2000x1_S2000)
      (exit_misc m c)

end Cert.Head

end
-- ==== Proof.Head.Tame.lean ====
/- What the precondition says, entry by entry: every label names a class, and what the class logits are computed from is finite. -/
module

public import proofs.«01_k».proof.Defs
public import proofs.«01_k».proof.Proof.Head.Value
public import Idealize.ShloMosaic.Lib.Pointwise

@[expose] public section

set_option maxRecDepth 16384

noncomputable section

namespace Cert.Head

open Idealize.ShloMosaic Idealize.ShloMosaic.TcCoe Idealize.SL.Sem
open Cert.KernelIdeal

/-- The precondition's shape facts. -/
theorem tame_facts : Cert.Pre_tame.Facts where
  bcast_S_S2000 := by decide
  bcast_S_S2000x25088 := by decide
  bcast_S_S25088x1024 := by decide
  bcast_S_S1024 := by decide
  bcast_S_S1024x1024 := by decide
  bcast_S_S1024x81 := by decide
  bcast_S_S81 := by decide

/-- An extended real whose magnitude is below the word of `+∞` is a real. -/
theorem fin_of_lt (x : EReal) (h : Ideal.cmp .olt (max x (-x)) (Ideal.ofBits .f32 0x7F800000#32) = 1#1) : Fin1 x := by
  have e : Ideal.ofBits .f32 0x7F800000#32 = ⊤ := by simp [Ideal.ofBits, Ideal.ieee]
  rw [e] at h
  induction x using EReal.rec with
  | bot => simp [Ideal.cmp] at h
  | coe r => exact ⟨r, rfl⟩
  | top => simp [Ideal.cmp] at h

/-- A word that is at least 0 and below 81 is one of the numbers 0 to 80. -/
theorem label_of (x : BitVec 32) (h : IntOp.cmpi .sge x 0#32 &&& IntOp.cmpi .slt x 81#32 = 1#1) : ∃ l : Fin 81, x = BitVec.ofNat 32 l.val := by
  have h1 : (0#32).sle x = true ∧ x.slt 81#32 = true := by
    revert h
    simp only [IntOp.cmpi]
    cases (0#32).sle x <;> cases x.slt 81#32 <;> simp
  have h2 : x.toNat < 81 := by
    have a := h1.1
    have b := h1.2
    simp only [BitVec.sle, BitVec.slt, decide_eq_true_eq, BitVec.toInt_eq_toNat_cond] at a b
    have : x.toNat < 2 ^ 32 := x.isLt
    simp at a b
    split at a <;> omega
  exact ⟨⟨x.toNat, h2⟩, by simp⟩

variable (m : (ℓ : Loc nD τ sig) → Buf (Elt Ideal) ℓ) (h : haveI := tame_facts; Cert.Pre_KernelIdeal_tame m) (c : Dev nD)

include h

/-- Every row's label names a class. -/
theorem label (n : Fin 2000) : ∃ l : Fin 81, inLab m c (ix1 n) = BitVec.ofNat 32 l.val :=
  label_of _ (congrFun (h c).1 (ix1 n))

/-- The features, the weights and the biases the logits are computed from are real numbers. -/
theorem fin_x (n : Fin 2000) (i : Fin 25088) : Fin1 (inX m c (ix2 n i)) := fin_of_lt _ (congrFun (h c).2.1 (ix2 n i))

/-- The first weights are finite. -/
theorem fin_w1 (i : Fin 25088) (j : Fin 1024) : Fin1 (inW1 m c (ix2 i j)) := fin_of_lt _ (congrFun (h c).2.2.1 (ix2 i j))

/-- The first bias is finite. -/
theorem fin_b1 (j : Fin 1024) : Fin1 (inB1 m c (ix1 j)) := fin_of_lt _ (congrFun (h c).2.2.2.1 (ix1 j))

/-- The second weights are finite. -/
theorem fin_w2 (i j : Fin 1024) : Fin1 (inW2 m c (ix2 i j)) := fin_of_lt _ (congrFun (h c).2.2.2.2.1 (ix2 i j))

/-- The second bias is finite. -/
theorem fin_b2 (j : Fin 1024) : Fin1 (inB2 m c (ix1 j)) := fin_of_lt _ (congrFun (h c).2.2.2.2.2.1 (ix1 j))

/-- The class weights are finite. -/
theorem fin_wc (i : Fin 1024) (q : Fin 81) : Fin1 (inWc m c (ix2 i q)) := fin_of_lt _ (congrFun (h c).2.2.2.2.2.2.1 (ix2 i q))

/-- The class bias is finite. -/
theorem fin_bc (q : Fin 81) : Fin1 (inBc m c (ix1 q)) := fin_of_lt _ (congrFun (h c).2.2.2.2.2.2.2 (ix1 q))

/-- So are the class logits of every row. -/
theorem fin_logits (n : Fin 2000) (q : Fin 81) : Fin1 (kerLogits m c n q) :=
  fin_dense _ _ _
    (fin_relu _ (fin_dense _ _ _
      (fin_relu _ (fin_dense _ _ _ (fin_x m h c n) (fin_w1 m h c) (fin_b1 m h c)))
      (fin_w2 m h c) (fin_b2 m h c)))
    (fin_wc m h c) (fin_bc m h c) q

end Cert.Head

end
-- ==== Proof.Head.Ref.lean ====
/- The reference's results, each read at one index as a function of the row it depends on. -/
module

public import proofs.«01_k».proof.Proof.Head.Laws
public import proofs.«01_k».proof.Proof.Gen.ReferenceIdeal.Run
public import Idealize.ShloMosaic.Lib.Pointwise

@[expose] public section

set_option maxRecDepth 16384

noncomputable section

namespace Cert.Head

open Idealize.ShloMosaic Idealize.ShloMosaic.TcCoe Idealize.SL.Sem
open Cert.ReferenceIdeal Cert.ReferenceIdeal.Gen

/-- The word of minus infinity reads as the least element. -/
theorem bot_word : Ideal.ofBits .f32 0xFF800000#32 = ⊥ := by simp [Ideal.ofBits, Ideal.ieee]

variable (m : (ℓ : Loc nD τ sig) → Buf (Elt Ideal) ℓ) (c : Dev nD)

/-- The reference's arguments, as arrays. -/
abbrev argX : FVec Ideal S2000x25088 .f32 := m ((c.tc : Thread nD τ).loc main_arg0)
/-- The labels. -/
abbrev argLab : IVec S2000 32 := m ((c.tc : Thread nD τ).loc main_arg1)
/-- The first weights. -/
abbrev argW1 : FVec Ideal S25088x1024 .f32 := m ((c.tc : Thread nD τ).loc main_arg2)
/-- The first bias. -/
abbrev argB1 : FVec Ideal S1024 .f32 := m ((c.tc : Thread nD τ).loc main_arg3)
/-- The second weights. -/
abbrev argW2 : FVec Ideal S1024x1024 .f32 := m ((c.tc : Thread nD τ).loc main_arg4)
/-- The second bias. -/
abbrev argB2 : FVec Ideal S1024 .f32 := m ((c.tc : Thread nD τ).loc main_arg5)
/-- The box weights. -/
abbrev argWl : FVec Ideal S1024x324 .f32 := m ((c.tc : Thread nD τ).loc main_arg6)
/-- The box bias. -/
abbrev argBl : FVec Ideal S324 .f32 := m ((c.tc : Thread nD τ).loc main_arg7)
/-- The class weights. -/
abbrev argWc : FVec Ideal S1024x81 .f32 := m ((c.tc : Thread nD τ).loc main_arg8)
/-- The class bias. -/
abbrev argBc : FVec Ideal S81 .f32 := m ((c.tc : Thread nD τ).loc main_arg9)

/-- Row `n` of the reference's first hidden layer. -/
def refFirst (n : Fin 2000) : Fin 1024 → EReal :=
  relu (dense (fun i => argX m c (ix2 n i)) (fun i j => argW1 m c (ix2 i j)) fun j => argB1 m c (ix1 j))

/-- Row `n` of the reference's second hidden layer. -/
def refHidden (n : Fin 2000) : Fin 1024 → EReal :=
  relu (dense (refFirst m c n) (fun i j => argW2 m c (ix2 i j)) fun j => argB2 m c (ix1 j))

/-- Row `n` of the reference's class logits. -/
def refLogits (n : Fin 2000) : Fin 81 → EReal := dense (refHidden m c n) (fun i q => argWc m c (ix2 i q)) fun q => argBc m c (ix1 q)

/-- Row `n` of the reference's box regressions of every class. -/
def refBoxes (n : Fin 2000) : Fin 324 → EReal := dense (refHidden m c n) (fun i q => argWl m c (ix2 i q)) fun q => argBl m c (ix1 q)

/-- The two hidden layers, the logits, the shifted exponentials and the regressions as the program's arrays. -/
def firstA : FVec Ideal S2000x1024 .f32 :=
  maximumf (addf (Host.dotGeneral dot_S2000x25088_S25088x1024_S2000x1024_1_0_0_1_n_n none (argX m c) (argW1 m c))
    (broadcastInDim S2000x1024 ![0, 1] bcast_S1x1024_S2000x1024_0_1 (broadcastInDim S1x1024 ![1] bcast_S1024_S1x1024_1 (argB1 m c))))
    (broadcastInDim S2000x1024 ![] bcast_S_S2000x1024 (constant S_ .f32 0x00000000#32))

/-- The second hidden layer as the program writes it. -/
def hiddenA : FVec Ideal S2000x1024 .f32 :=
  maximumf (addf (Host.dotGeneral dot_S2000x1024_S1024x1024_S2000x1024_1_0_0_1_n_n none (firstA m c) (argW2 m c))
    (broadcastInDim S2000x1024 ![0, 1] bcast_S1x1024_S2000x1024_0_1 (broadcastInDim S1x1024 ![1] bcast_S1024_S1x1024_1 (argB2 m c))))
    (broadcastInDim S2000x1024 ![] bcast_S_S2000x1024 (constant S_ .f32 0x00000000#32))

/-- The class logits as the program writes them. -/
def logitsA : FVec Ideal S2000x81 .f32 :=
  addf (Host.dotGeneral dot_S2000x1024_S1024x81_S2000x81_1_0_0_1_n_n none (hiddenA m c) (argWc m c))
    (broadcastInDim S2000x81 ![0, 1] bcast_S1x81_S2000x81_0_1 (broadcastInDim S1x81 ![1] bcast_S81_S1x81_1 (argBc m c)))

/-- The exponentials of the logits less their row's maximum, as the program writes them. -/
def shiftedA : FVec Ideal S2000x81 .f32 :=
  Host.exp (subf (logitsA m c) (broadcastInDim S2000x81 ![0, 1] bcast_S2000x1_S2000x81_0_1 (broadcastInDim S2000x1 ![0] bcast_S2000_S2000x1_0
    (maximumf (broadcastInDim S2000 ![] bcast_S_S2000 (constant S_ .f32 0xFF800000#32))
      (Host.reduce FloatOps.maximumf (logitsA m c) (constant S_ .f32 0xFF800000#32) reducesTo_S2000x81_S2000_d1 h_S_)))))

/-- The box regressions as the program writes them. -/
def boxesA : FVec Ideal S2000x324 .f32 :=
  addf (Host.dotGeneral dot_S2000x1024_S1024x324_S2000x324_1_0_0_1_n_n none (hiddenA m c) (argWl m c))
    (broadcastInDim S2000x324 ![0, 1] bcast_S1x324_S2000x324_0_1 (broadcastInDim S1x324 ![1] bcast_S324_S1x324_1 (argBl m c)))

/-- The class probabilities as the program writes them. -/
def clsA : FVec Ideal S2000x81 .f32 :=
  Host.divf (shiftedA m c) (broadcastInDim S2000x81 ![0, 1] bcast_S2000x1_S2000x81_0_1 (broadcastInDim S2000x1 ![0] bcast_S2000_S2000x1_0
    (Host.reduceAdd (shiftedA m c) (constant S_ .f32 0x00000000#32) reducesTo_S2000x81_S2000_d1 h_S_)))

/-- One entry of the first hidden layer. -/
theorem firstA_at (n : Fin 2000) (j : Fin 1024) : firstA m c (ix2 n j) = refFirst m c n j := by
  pointwise [firstA, refFirst, relu, dense]

/-- One entry of the second hidden layer. -/
theorem hiddenA_at (n : Fin 2000) (j : Fin 1024) : hiddenA m c (ix2 n j) = refHidden m c n j := by
  pointwise [hiddenA, refHidden, relu, dense]
  simp only [firstA_at]

/-- One class logit. -/
theorem logitsA_at (n : Fin 2000) (q : Fin 81) : logitsA m c (ix2 n q) = refLogits m c n q := by
  pointwise [logitsA, refLogits, dense]
  simp only [hiddenA_at]

/-- One box regression. -/
theorem boxesA_at (n : Fin 2000) (q : Fin 324) : boxesA m c (ix2 n q) = refBoxes m c n q := by
  pointwise [boxesA, refBoxes, dense]
  simp only [hiddenA_at]

/-- One shifted exponential. -/
theorem shiftedA_at (n : Fin 2000) (q : Fin 81) : shiftedA m c (ix2 n q) = shifted (refLogits m c n) q := by
  pointwise [shiftedA, shifted, top]
  simp only [logitsA_at, bot_word, max_eq_right bot_le]

/-- One class probability. -/
theorem clsA_at (n : Fin 2000) (q : Fin 81) : clsA m c (ix2 n q) = soft (refLogits m c n) q := by
  pointwise [clsA, soft, mass]
  simp only [shiftedA_at]

/-- The class probabilities. -/
theorem ref_cls (n : Fin 2000) (q : Fin 81) :
    (Value.res_main_v44 m c : FVec Ideal S2000x81 .f32) (ix2 n q) = soft (refLogits m c n) q := by
  have e : (Value.res_main_v44 m c : FVec Ideal S2000x81 .f32) = clsA m c := rfl
  rw [e, clsA_at]

/-- The greatest class probability. -/
theorem ref_score (n : Fin 2000) :
    (Value.res_main_v45 m c : FVec Ideal S2000 .f32) (ix1 n) = top (soft (refLogits m c n)) := by
  have e : (Value.res_main_v45 m c : FVec Ideal S2000 .f32)
      = Host.reduce FloatOps.maximumf (clsA m c) (constant S_ .f32 0xFF800000#32) reducesTo_S2000x81_S2000_d1 h_S_ := rfl
  rw [e]
  pointwise [top]
  simp only [clsA_at, bot_word]

end Cert.Head

end
-- ==== Proof.Head.Gather.lean ====
/- The reference's gather of one class's box regressions, read at an index. -/
module

public import proofs.«01_k».proof.Proof.Head.Ref
public import Idealize.ShloMosaic.Lib.Pointwise

@[expose] public section

set_option maxRecDepth 16384

noncomputable section

namespace Cert.Head

open Idealize.ShloMosaic Idealize.ShloMosaic.TcCoe Idealize.SL.Sem
open Cert.ReferenceIdeal Cert.ReferenceIdeal.Gen

variable (m : (ℓ : Loc nD τ sig) → Buf (Elt Ideal) ℓ) (c : Dev nD)

/-- A small natural number's word, read signed. -/
theorem word_toInt (k : ℕ) (h : k < 2 ^ 31) : (BitVec.ofNat 32 k).toInt = (k : ℤ) := by
  rw [BitVec.toInt_eq_toNat_of_lt]
  · simp only [BitVec.toNat_ofNat]; omega
  · simp only [BitVec.toNat_ofNat]; omega

/-- It is not negative. -/
theorem word_nonneg (k : ℕ) (h : k < 2 ^ 31) : IntOp.cmpi .slt (BitVec.ofNat 32 k) 0#32 = 0#1 := by
  have : (BitVec.ofNat 32 k).slt 0#32 = false := by
    simp only [BitVec.slt, word_toInt k h]
    simp
  simp [IntOp.cmpi, this]

/-- The gather at a result index, where the row's two start indices name a row and a class. -/
theorem gather_at (x : FVec Ideal S2000x81x4 .f32) (idx : IVec S2000x2 32) (n : Fin 2000) (l : Fin 81) (j : Fin 4)
    (h0 : idx (ix2 n 0) = BitVec.ofNat 32 n.val) (h1 : idx (ix2 n 1) = BitVec.ofNat 32 l.val) :
    Host.gather gather_S2000x81x4_S2000x2_S2000x4_1_01_n_n_01_1_114 x idx (ix2 n j) = x (ix3 n l j) := by
  have hn : (BitVec.ofNat 32 n.val).toInt.toNat = n.val := by rw [word_toInt _ (by omega)]; rfl
  have hl : (BitVec.ofNat 32 l.val).toInt.toNat = l.val := by rw [word_toInt _ (by omega)]; rfl
  unfold Host.gather
  congr 1
  funext a
  refine Fin.ext ?_
  show (gather_S2000x81x4_S2000x2_S2000x4_1_01_n_n_01_1_114).start (ix2 n j) idx a
      + (gather_S2000x81x4_S2000x2_S2000x4_1_01_n_n_01_1_114).batchCoord (ix2 n j) a
      + (gather_S2000x81x4_S2000x2_S2000x4_1_01_n_n_01_1_114).offCoord (ix2 n j) a = _
  rw [GatherDims.batchCoord_eq_zero _ _ _ List.not_mem_nil]
  match a with
  | ⟨0, h0a⟩ =>
    rw [GatherDims.offCoord_eq_zero _ _ _ (fun h => ((GatherDims.mem_sKept _ _).mp h).1 (show (0 : Fin 3) ∈ [(0 : Fin 3), 1] by decide))]
    unfold GatherDims.start
    rw [dif_pos (show (⟨0, h0a⟩ : Fin 3) ∈ (gather_S2000x81x4_S2000x2_S2000x4_1_01_n_n_01_1_114).startIndexMap from (show (0 : Fin 3) ∈ [(0 : Fin 3), 1] by decide))]
    have hsi : ∀ h, (gather_S2000x81x4_S2000x2_S2000x4_1_01_n_n_01_1_114).siIdx (ix2 n j)
        ⟨List.idxOf (0 : Fin 3) (gather_S2000x81x4_S2000x2_S2000x4_1_01_n_n_01_1_114).startIndexMap, h⟩ = ix2 n 0 := by
      intro h; funext b; refine Fin.ext ?_
      match b with
      | ⟨0, _⟩ => rfl
      | ⟨1, _⟩ => rfl
    erw [hsi]
    rw [h0, hn]
    have := n.isLt
    show min n.val (2000 - 1) + 0 + 0 = n.val
    omega
  | ⟨1, h1a⟩ =>
    rw [GatherDims.offCoord_eq_zero _ _ _ (fun h => ((GatherDims.mem_sKept _ _).mp h).1 (show (1 : Fin 3) ∈ [(0 : Fin 3), 1] by decide))]
    unfold GatherDims.start
    rw [dif_pos (show (⟨1, h1a⟩ : Fin 3) ∈ (gather_S2000x81x4_S2000x2_S2000x4_1_01_n_n_01_1_114).startIndexMap from (show (1 : Fin 3) ∈ [(0 : Fin 3), 1] by decide))]
    have hsi : ∀ h, (gather_S2000x81x4_S2000x2_S2000x4_1_01_n_n_01_1_114).siIdx (ix2 n j)
        ⟨List.idxOf (1 : Fin 3) (gather_S2000x81x4_S2000x2_S2000x4_1_01_n_n_01_1_114).startIndexMap, h⟩ = ix2 n 1 := by
      intro h; funext b; refine Fin.ext ?_
      match b with
      | ⟨0, _⟩ => rfl
      | ⟨1, _⟩ => rfl
    erw [hsi]
    rw [h1, hl]
    have := l.isLt
    show min l.val (81 - 1) + 0 + 0 = l.val
    omega
  | ⟨2, h2a⟩ =>
    unfold GatherDims.start
    rw [dif_neg (show (⟨2, h2a⟩ : Fin 3) ∉ (gather_S2000x81x4_S2000x2_S2000x4_1_01_n_n_01_1_114).startIndexMap from (show (2 : Fin 3) ∉ [(0 : Fin 3), 1] by decide))]
    simp only [Nat.zero_add]
    rfl

/-- The start indices of the gather: a row's own number and its label, a negative one counted from the end. -/
def startsA : IVec S2000x2 32 :=
  concatenate S2000x2 1
    [⟨S2000x1, broadcastInDim S2000x1 ![0] bcast_S2000_S2000x1_0 (select (cmpi .slt (iotaInDim S2000 32 0) (broadcastInDim S2000 ![] bcast_S_S2000 (constantI S_ 32 0#32)))
        (addi (iotaInDim S2000 32 0) (broadcastInDim S2000 ![] bcast_S_S2000 (constantI S_ 32 2000#32))) (iotaInDim S2000 32 0))⟩,
     ⟨S2000x1, broadcastInDim S2000x1 ![0] bcast_S2000_S2000x1_0 (select (cmpi .slt (argLab m c) (broadcastInDim S2000 ![] bcast_S_S2000 (constantI S_ 32 0#32)))
        (addi (argLab m c) (broadcastInDim S2000 ![] bcast_S_S2000 (constantI S_ 32 81#32))) (argLab m c))⟩]
    concatenates_S2000x1_S2000x1_S2000x2_d1

/-- The first gather index of row `n` is `n`. -/
theorem starts_row (n : Fin 2000) : startsA m c (ix2 n 0) = BitVec.ofNat 32 n.val := by
  pointwise [startsA]
  rw [word_nonneg _ (by omega)]
  rfl

/-- The second gather index of a row is its label. -/
theorem starts_label (n : Fin 2000) (l : Fin 81) (hl : argLab m c (ix1 n) = BitVec.ofNat 32 l.val) :
    startsA m c (ix2 n 1) = BitVec.ofNat 32 l.val := by
  pointwise [startsA]
  rw [hl, word_nonneg _ (by omega)]
  rfl

/-- The regressions of every class, reshaped, at an index. -/
theorem reshaped_at (n : Fin 2000) (l : Fin 81) (j : Fin 4) :
    (shapeCast S2000x81x4 (boxesA m c) shapeCasts_S2000x324_S2000x81x4 : FVec Ideal S2000x81x4 .f32) (ix3 n l j)
      = refBoxes m c n ⟨4 * l.val + j.val, by omega⟩ := by
  pointwise []
  rw [boxesA_at]
  congr 1
  exact Fin.ext (by show l.val * 4 + j.val = 4 * l.val + j.val; omega)

/-- The reference's second result: the four regressions that the row's label names. -/
def locA : FVec Ideal S2000x4 .f32 :=
  Host.gather gather_S2000x81x4_S2000x2_S2000x4_1_01_n_n_01_1_114 (shapeCast S2000x81x4 (boxesA m c) shapeCasts_S2000x324_S2000x81x4) (startsA m c)

/-- The gathered regression of a row is the one of its label's class. -/
theorem locA_at (n : Fin 2000) (l : Fin 81) (hl : argLab m c (ix1 n) = BitVec.ofNat 32 l.val) (j : Fin 4) :
    locA m c (ix2 n j) = refBoxes m c n ⟨4 * l.val + j.val, by omega⟩ :=
  (gather_at _ _ n l j (starts_row m c n) (starts_label m c n l hl)).trans (reshaped_at m c n l j)

end Cert.Head

end
-- ==== Proof.Head.Agree.lean ====
/- From arguments that agree, the kernel's three results are the reference's. -/
module

public import proofs.«01_k».proof.Proof.Head.Run
public import proofs.«01_k».proof.Proof.Head.Tame
public import proofs.«01_k».proof.Proof.Head.Gather

@[expose] public section

set_option maxRecDepth 16384

noncomputable section

namespace Cert.Head

open Idealize.ShloMosaic Idealize.ShloMosaic.TcCoe Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two programs' arguments agree on a device. -/
structure Same : Prop where
  x : argX m' c = inX m c
  lab : argLab m' c = inLab m c
  w1 : argW1 m' c = inW1 m c
  b1 : argB1 m' c = inB1 m c
  w2 : argW2 m' c = inW2 m c
  b2 : argB2 m' c = inB2 m c
  wl : argWl m' c = inWl m c
  bl : argBl m' c = inBl m c
  wc : argWc m' c = inWc m c
  bc : argBc m' c = inBc m c

variable (s : Same m m' c)

include s

/-- The second hidden layers agree on every row. -/
theorem hidden_same (n : Fin 2000) : refHidden m' c n = kerHidden m c n := by
  unfold refHidden kerHidden refFirst kerFirst
  rw [s.x, s.w1, s.b1, s.w2, s.b2]

/-- The class logits agree on every row. -/
theorem logits_same (n : Fin 2000) : refLogits m' c n = kerLogits m c n := by
  unfold refLogits kerLogits
  rw [hidden_same m m' c s n, s.wc, s.bc]

/-- The box regressions agree on every row. -/
theorem boxes_same (n : Fin 2000) : refBoxes m' c n = kerBoxes m c n := by
  unfold refBoxes kerBoxes
  rw [hidden_same m m' c s n, s.wl, s.bl]

/-- The class probabilities. -/
theorem cls_same : Cert.ReferenceIdeal.Value.res_main_v44 m' c
    = extractStridedSlice Cert.KernelIdeal.S2000x81 ![0, 0] (clsOut m c) Cert.KernelIdeal.Gen.slices_S2048x128_S2000x81_0_0 := by
  funext i
  idx_vars i
  refine (ref_cls m' c _ _).trans ?_
  rw [logits_same m m' c s]
  refine (cls_array m c _ _ _ ?_ ?_).symm
  · exact Nat.zero_add _
  · exact Nat.zero_add _

/-- The regressions of each row's class. -/
theorem loc_same (hpre : haveI := tame_facts; Cert.Pre_KernelIdeal_tame m) : locA m' c
    = extractStridedSlice Cert.KernelIdeal.S2000x4 ![0, 0] (miscOut m c) Cert.KernelIdeal.Gen.slices_S2048x128_S2000x4_0_0 := by
  funext i
  idx_vars i
  obtain ⟨l, hl⟩ := label m hpre c i0
  refine (locA_at m' c _ l ((congrFun s.lab _).trans hl) _).trans ?_
  rw [boxes_same m m' c s]
  refine (loc_array m c _ i0 i1 ?_ ?_ l hl).symm
  · exact Nat.zero_add _
  · exact Nat.zero_add _

/-- The scores. -/
theorem score_same (hpre : haveI := tame_facts; Cert.Pre_KernelIdeal_tame m) : Cert.ReferenceIdeal.Value.res_main_v45 m' c
    = shapeCast Cert.KernelIdeal.S2000 (extractStridedSlice Cert.KernelIdeal.S2000x1 ![0, 4] (miscOut m c)
        Cert.KernelIdeal.Gen.slices_S2048x128_S2000x1_0_4) Cert.KernelIdeal.Gen.shapeCasts_S2000x1_S2000 := by
  funext i
  idx_vars i
  refine (ref_score m' c _).trans ?_
  rw [logits_same m m' c s, top_soft _ (fin_logits m hpre c i0)]
  pointwise
  refine (score_array m c _ _ ?_ ?_).symm
  · rfl
  · rfl

end Cert.Head

end
-- ==== Proof.Geo.Rows.lean ====
/- Rows and columns of the geometry call's 16 by 128 arrays, and the standardisation and decoding as formulas over a table of regressions. -/
module

public import Idealize.ShloMosaic.PureOps.Ideal
public import Idealize.ShloMosaic.PureOps.Ideal.Laws
public import Idealize.ShloMosaic.Lib.Pointwise

@[expose] public section

noncomputable section

namespace Cert.Geo

open Idealize.ShloMosaic

/-- Row `128·a + b` of the padded table stands at `(a, b)`; it is a row of the table when it is below 2000. -/
theorem sum_rows (f : ℕ → EReal) :
    ∑ a : Fin 16, ∑ b : Fin 128, (if 128 * a.val + b.val < 2000 then f (128 * a.val + b.val) else 0) = ∑ n : Fin 2000, f n.val := by
  rw [← Fintype.sum_prod_type' fun (a : Fin 16) (b : Fin 128) => if 128 * a.val + b.val < 2000 then f (128 * a.val + b.val) else 0]
  rw [Fintype.sum_equiv finProdFinEquiv (fun p : Fin 16 × Fin 128 => if 128 * p.1.val + p.2.val < 2000 then f (128 * p.1.val + p.2.val) else 0)
    (fun k : Fin (16 * 128) => if k.val < 2000 then f k.val else 0)
    (fun p => by simp only [finProdFinEquiv_apply_val, Nat.add_comm])]
  rw [Fin.sum_univ_eq_sum_range (fun k => if k < 2000 then f k else 0) (16 * 128), Fin.sum_univ_eq_sum_range f 2000]
  refine ((Finset.sum_subset (Finset.range_mono (by norm_num : (2000 : ℕ) ≤ 16 * 128)) fun k _ h => ?_).symm).trans
    (Finset.sum_congr rfl fun k h => ?_)
  · rw [if_neg (by simpa using h)]
  · rw [if_pos (by simpa using h)]

/-- The table of regressions in an array of 2048 rows and 128 columns: its first four columns, by the row's number. -/
def regrOf (x : (⟨2, ![2048, 128]⟩ : Shape).Idx → EReal) (j : Fin 4) (n : ℕ) : EReal :=
  if h : n < 2048 then x (ix2 ⟨n, h⟩ (Fin.castLE (by norm_num) j)) else 0

/-- The table at one of its 2000 rows. -/
theorem regrOf_at (x : (⟨2, ![2048, 128]⟩ : Shape).Idx → EReal) (j : Fin 4) (n : Fin 2000) :
    regrOf x j n.val = x (ix2 ⟨n.val, by omega⟩ (Fin.castLE (by norm_num) j)) := by
  rw [regrOf, dif_pos (show n.val < 2048 by omega)]

/-- The mean of the four columns of a table over 2000 rows. -/
def avg (L : Fin 4 → ℕ → EReal) : EReal :=
  Ideal.div (∑ n : Fin 2000, L 0 n.val + ∑ n : Fin 2000, L 1 n.val + ∑ n : Fin 2000, L 2 n.val + ∑ n : Fin 2000, L 3 n.val)
    (Ideal.ofBits .f32 0x45FA0000#32)

/-- The square of an entry's distance from the mean. -/
def dist (L : Fin 4 → ℕ → EReal) (j : Fin 4) (n : ℕ) : EReal := (L j n - avg L) * (L j n - avg L)

/-- The standard deviation of the entries. -/
def dev (L : Fin 4 → ℕ → EReal) : EReal :=
  Ideal.sqrt (Ideal.div (∑ n : Fin 2000, dist L 0 n.val + ∑ n : Fin 2000, dist L 1 n.val + ∑ n : Fin 2000, dist L 2 n.val
    + ∑ n : Fin 2000, dist L 3 n.val) (Ideal.ofBits .f32 0x45F9F800#32))

/-- A standardised entry. -/
def std (L : Fin 4 → ℕ → EReal) (j : Fin 4) (n : ℕ) : EReal := Ideal.div (L j n - avg L) (dev L)

/-- A decoded side: the anchor's side times the exponential of the regression. -/
def side (lo hi t : EReal) : EReal := (hi - lo) * Ideal.exp t

/-- A decoded corner, from the anchor's two ends, the regression of the centre and that of the side. -/
def corner (lo hi s t : EReal) : EReal :=
  s * (hi - lo) + (lo + Ideal.ofBits .f32 0x3F000000#32 * (hi - lo)) - Ideal.ofBits .f32 0x3F000000#32 * side lo hi t

end Cert.Geo

end
-- ==== Proof.Geo.Ref.lean ====
/- The reference's standardised regressions and decoded boxes, read at one row. -/
module

public import proofs.«01_k».proof.Proof.Geo.Rows
public import proofs.«01_k».proof.Proof.Gen.Reference2Ideal.Run

@[expose] public section

set_option maxRecDepth 16384

noncomputable section

namespace Cert.Geo.Ref

open Idealize.ShloMosaic Idealize.ShloMosaic.TcCoe Idealize.SL.Sem
open Cert.Reference2Ideal Cert.Reference2Ideal.Gen

/-- The word of the number of entries. -/
theorem word_8000 : Ideal.ofBits .f32 0x45FA0000#32 = ((8000 : ℝ) : EReal) := by
  simp [Ideal.ofBits, Ideal.ieee]
  rw [← EReal.coe_mul]
  norm_num

/-- The word of that number less one. -/
theorem word_7999 : Ideal.ofBits .f32 0x45F9F800#32 = ((7999 : ℝ) : EReal) := by
  simp [Ideal.ofBits, Ideal.ieee]
  rw [← EReal.coe_mul]
  norm_num

/-- The number of entries less one, as the reference computes it. -/
theorem count_less_one : Ideal.ofBits .f32 0x45FA0000#32 - FloatOps.sitofp (F := Ideal) .f32 (1#32) = Ideal.ofBits .f32 0x45F9F800#32 := by
  rw [word_8000, word_7999]
  show ((8000 : ℝ) : EReal) - (((1#32).toInt : ℝ) : EReal) = _
  rw [← EReal.coe_sub]
  norm_num

/-- It is positive. -/
theorem count_pos : (0 : EReal) < Ideal.ofBits .f32 0x45F9F800#32 := by
  rw [word_7999]
  exact_mod_cast (by norm_num : (0 : ℝ) < 7999)

/-- A sum over the whole table, column by column. -/
theorem total_at (x : FVec Ideal S2000x4 .f32) (i : S_.Idx) :
    Host.reduceAdd x (constant (F := Ideal) S_ .f32 0x00000000#32) reducesTo_S2000x4_S_d0_1 h_S_ i
      = ∑ n : Fin 2000, x (ix2 n 0) + ∑ n : Fin 2000, x (ix2 n 1) + ∑ n : Fin 2000, x (ix2 n 2) + ∑ n : Fin 2000, x (ix2 n 3) := by
  pointwise
  simp only [Fin.sum_univ_four, Finset.sum_add_distrib]

/-- A column of a table as a vector. -/
def col0 (x : FVec Ideal S2000x4 .f32) : FVec Ideal S2000 .f32 :=
  shapeCast S2000 (extractStridedSlice S2000x1 ![0, 0] x slices_S2000x4_S2000x1_0_0) shapeCasts_S2000x1_S2000
/-- The second column. -/
def col1 (x : FVec Ideal S2000x4 .f32) : FVec Ideal S2000 .f32 :=
  shapeCast S2000 (extractStridedSlice S2000x1 ![0, 1] x slices_S2000x4_S2000x1_0_1) shapeCasts_S2000x1_S2000
/-- The third column. -/
def col2 (x : FVec Ideal S2000x4 .f32) : FVec Ideal S2000 .f32 :=
  shapeCast S2000 (extractStridedSlice S2000x1 ![0, 2] x slices_S2000x4_S2000x1_0_2) shapeCasts_S2000x1_S2000
/-- The fourth column. -/
def col3 (x : FVec Ideal S2000x4 .f32) : FVec Ideal S2000 .f32 :=
  shapeCast S2000 (extractStridedSlice S2000x1 ![0, 3] x slices_S2000x4_S2000x1_0_3) shapeCasts_S2000x1_S2000

/-- A vector as a column. -/
def up (y : FVec Ideal S2000 .f32) : FVec Ideal S2000x1 .f32 := broadcastInDim S2000x1 ![0] bcast_S2000_S2000x1_0 y

/-- Four vectors side by side. -/
def beside (y0 y1 y2 y3 : FVec Ideal S2000 .f32) : FVec Ideal S2000x4 .f32 :=
  concatenate S2000x4 1 [⟨S2000x1, up y0⟩, ⟨S2000x1, up y1⟩, ⟨S2000x1, up y2⟩, ⟨S2000x1, up y3⟩]
    concatenates_S2000x1_S2000x1_S2000x1_S2000x1_S2000x4_d1

/-- The columns at a row. -/
theorem col_at (x : FVec Ideal S2000x4 .f32) (n : Fin 2000) :
    col0 x (ix1 n) = x (ix2 n 0) ∧ col1 x (ix1 n) = x (ix2 n 1) ∧ col2 x (ix1 n) = x (ix2 n 2) ∧ col3 x (ix1 n) = x (ix2 n 3) := by
  refine ⟨?_, ?_, ?_, ?_⟩
  · pointwise [col0]
  · pointwise [col1]
  · pointwise [col2]
  · pointwise [col3]

/-- Four vectors side by side, read at a row. -/
theorem beside_at (y0 y1 y2 y3 : FVec Ideal S2000 .f32) (n : Fin 2000) :
    beside y0 y1 y2 y3 (ix2 n 0) = y0 (ix1 n) ∧ beside y0 y1 y2 y3 (ix2 n 1) = y1 (ix1 n)
    ∧ beside y0 y1 y2 y3 (ix2 n 2) = y2 (ix1 n) ∧ beside y0 y1 y2 y3 (ix2 n 3) = y3 (ix1 n) := by
  refine ⟨?_, ?_, ?_, ?_⟩
  · pointwise [beside, up]
  · pointwise [beside, up]
  · pointwise [beside, up]
  · pointwise [beside, up]

variable (m : (ℓ : Loc nD τ sig) → Buf (Elt Ideal) ℓ) (c : Dev nD)

/-- The reference's first argument, as an array. -/
abbrev argMisc : FVec Ideal S2048x128 .f32 := m ((c.tc : Thread nD τ).loc main_arg0)
/-- The anchor boxes. -/
abbrev argRois : FVec Ideal S2000x4 .f32 := m ((c.tc : Thread nD τ).loc main_arg1)

/-- The regressions as the program's array. -/
def locA : FVec Ideal S2000x4 .f32 := extractStridedSlice S2000x4 ![0, 0] (argMisc m c) slices_S2048x128_S2000x4_0_0

/-- Their mean, in every entry. -/
def meanA : FVec Ideal S2000x4 .f32 := broadcastInDim S2000x4 ![] bcast_S_S2000x4
  (Host.divf (Host.reduceAdd (locA m c) (constant S_ .f32 0x00000000#32) reducesTo_S2000x4_S_d0_1 h_S_) (constant S_ .f32 0x45FA0000#32))

/-- Their distances from the mean, as the variance takes it. -/
def offA : FVec Ideal S2000x4 .f32 := subf (locA m c) (broadcastInDim S2000x4 ![0, 1] bcast_S1x1_S2000x4_0_1
  (Host.divf (broadcastInDim S1x1 ![] bcast_S_S1x1 (Host.reduceAdd (locA m c) (constant S_ .f32 0x00000000#32) reducesTo_S2000x4_S_d0_1 h_S_))
    (broadcastInDim S1x1 ![] bcast_S_S1x1 (constant S_ .f32 0x45FA0000#32))))

/-- The number of entries less one. -/
def countA : FVec Ideal S_ .f32 := subf (constant S_ .f32 0x45FA0000#32) (sitofp .f32 (constantI S_ 32 1#32))

/-- The standard deviation. -/
def devA : FVec Ideal S_ .f32 := Host.sqrt (select (cmpf .ogt (countA) (constant S_ .f32 0x00000000#32))
  (Host.divf (Host.reduceAdd (mulf (offA m c) (offA m c)) (constant S_ .f32 0x00000000#32) reducesTo_S2000x4_S_d0_1 h_S_) countA)
  (id (constant S_ .f32 0x7FC00000#32)))

/-- The standardised regressions. -/
def stdA : FVec Ideal S2000x4 .f32 := Host.divf (subf (locA m c) (meanA m c)) (broadcastInDim S2000x4 ![] bcast_S_S2000x4 (devA m c))

/-- The anchors as corner and sides. -/
def ancA : FVec Ideal S2000x4 .f32 :=
  beside (col1 (argRois m c)) (col0 (argRois m c)) (subf (col3 (argRois m c)) (col1 (argRois m c))) (subf (col2 (argRois m c)) (col0 (argRois m c)))

/-- One half in every row. -/
def halfA : FVec Ideal S2000 .f32 := broadcastInDim S2000 ![] bcast_S_S2000 (constant S_ .f32 0x3F000000#32)

/-- The decoded boxes from anchors and regressions. -/
def boxA (q s : FVec Ideal S2000x4 .f32) : FVec Ideal S2000x4 .f32 :=
  beside
    (subf (addf (mulf (col0 s) (col2 q)) (addf (col0 q) (mulf halfA (col2 q)))) (mulf halfA (mulf (col2 q) (Host.exp (col2 s)))))
    (subf (addf (mulf (col1 s) (col3 q)) (addf (col1 q) (mulf halfA (col3 q)))) (mulf halfA (mulf (col3 q) (Host.exp (col3 s)))))
    (mulf (col2 q) (Host.exp (col2 s)))
    (mulf (col3 q) (Host.exp (col3 s)))

/-- The reference's second result is made so. -/
theorem result_box : Cert.Reference2Ideal.Value.res_main_v75 m c = boxA (ancA m c) (stdA m c) := rfl

/-- The reference's table of regressions. -/
abbrev regr : Fin 4 → ℕ → EReal := regrOf (argMisc m c)

/-- An entry of the regressions. -/
theorem loc_at (n : Fin 2000) (j : Fin 4) : locA m c (ix2 n j) = regr m c j n.val := by
  refine Eq.trans ?_ (regrOf_at (argMisc m c) j n).symm
  pointwise [locA]
  rfl

/-- The mean. -/
theorem mean_at (i : S2000x4.Idx) : meanA m c i = avg (regr m c) := by
  unfold meanA
  pointwise
  simp only [Fin.sum_univ_four, Finset.sum_add_distrib, loc_at, avg]

/-- A distance from the mean. -/
theorem off_at (n : Fin 2000) (j : Fin 4) : offA m c (ix2 n j) = regr m c j n.val - avg (regr m c) := by
  unfold offA
  pointwise
  simp only [Fin.sum_univ_four, Finset.sum_add_distrib, loc_at, avg]

/-- The standard deviation. -/
theorem dev_at (i : S_.Idx) : devA m c i = dev (regr m c) := by
  unfold devA countA
  pointwise
  rw [count_less_one, if_pos count_pos]
  simp only [Fin.sum_univ_four, Finset.sum_add_distrib, off_at, dev, dist]

/-- A standardised regression. -/
theorem std_at (n : Fin 2000) (j : Fin 4) : stdA m c (ix2 n j) = std (regr m c) j n.val := by
  unfold stdA
  pointwise
  rw [loc_at, mean_at, dev_at, std]

/-- The decoded box of a row. -/
theorem box_at (n : Fin 2000) :
    boxA (ancA m c) (stdA m c) (ix2 n 0)
      = corner (argRois m c (ix2 n 1)) (argRois m c (ix2 n 3)) (std (regr m c) 0 n.val) (std (regr m c) 2 n.val)
    ∧ boxA (ancA m c) (stdA m c) (ix2 n 1)
      = corner (argRois m c (ix2 n 0)) (argRois m c (ix2 n 2)) (std (regr m c) 1 n.val) (std (regr m c) 3 n.val)
    ∧ boxA (ancA m c) (stdA m c) (ix2 n 2) = side (argRois m c (ix2 n 1)) (argRois m c (ix2 n 3)) (std (regr m c) 2 n.val)
    ∧ boxA (ancA m c) (stdA m c) (ix2 n 3) = side (argRois m c (ix2 n 0)) (argRois m c (ix2 n 2)) (std (regr m c) 3 n.val) := by
  unfold boxA
  have q := beside_at (col1 (argRois m c)) (col0 (argRois m c)) (subf (col3 (argRois m c)) (col1 (argRois m c)))
    (subf (col2 (argRois m c)) (col0 (argRois m c))) n
  have r := col_at (argRois m c) n
  have k := col_at (ancA m c) n
  have s := col_at (stdA m c) n
  have h : halfA (ix1 n) = Ideal.ofBits .f32 0x3F000000#32 := by pointwise [halfA]
  have q0 : ancA m c (ix2 n 0) = argRois m c (ix2 n 1) := q.1.trans r.2.1
  have q1 : ancA m c (ix2 n 1) = argRois m c (ix2 n 0) := q.2.1.trans r.1
  have q2 : ancA m c (ix2 n 2) = argRois m c (ix2 n 3) - argRois m c (ix2 n 1) := by
    refine q.2.2.1.trans ?_
    pointwise
    rw [r.2.2.2, r.2.1]
  have q3 : ancA m c (ix2 n 3) = argRois m c (ix2 n 2) - argRois m c (ix2 n 0) := by
    refine q.2.2.2.trans ?_
    pointwise
    rw [r.2.2.1, r.1]
  rw [(beside_at _ _ _ _ n).1, (beside_at _ _ _ _ n).2.1, (beside_at _ _ _ _ n).2.2.1, (beside_at _ _ _ _ n).2.2.2]
  pointwise
  simp only [k.1, k.2.1, k.2.2.1, k.2.2.2, s.1, s.2.1, s.2.2.1, s.2.2.2, h, q0, q1, q2, q3, std_at, corner, side, and_self]

end Cert.Geo.Ref

end
-- ==== Proof.Geo.Pay.lean ====
/- The geometry call's stored values, each read at one index. -/
module

public import proofs.«01_k».proof.Proof.Geo.Rows
public import proofs.«01_k».proof.Proof.Gen.Kernel2Ideal.Skeleton

@[expose] public section

set_option maxRecDepth 16384

noncomputable section

namespace Cert.Geo

open Idealize.ShloMosaic Idealize.ShloMosaic.TcCoe Idealize.SL.Sem
open Cert.Kernel2Ideal Cert.Kernel2Ideal.Gen

/-- The validity mask as a bit: whether the row number is below 2000. -/
theorem valid_bit (a : Fin 16) (b : Fin 128) :
    IntOp.cmpi .slt (IntOp.addi (IntOp.muli (BitVec.ofNat 32 a.val) 128#32) (BitVec.ofNat 32 b.val)) 2000#32
      = if 128 * a.val + b.val < 2000 then 1#1 else 0#1 := by
  revert a b
  decide +kernel

/-- The validity mask as a number: one on the 2000 rows of the table, zero on the padding. -/
theorem mask_at (a : Fin 16) (b : Fin 128) : k0_pay5 (F := Ideal) (ix2 a b) = if 128 * a.val + b.val < 2000 then 1 else 0 := by
  pointwise [k0_pay5]
  rw [valid_bit]
  split
  · simp [FloatOps.sitofp]
  · simp [FloatOps.sitofp]

/-- A masked sum over the 16 by 128 array is the sum over the table's rows. -/
theorem masked_sum (x : FVec Ideal S16x128 .f32) (f : ℕ → EReal) (h : ∀ (a : Fin 16) (b : Fin 128), x (ix2 a b) = f (128 * a.val + b.val)) :
    ∑ a : Fin 16, ∑ b : Fin 128, x (ix2 a b) * k0_pay5 (F := Ideal) (ix2 a b) = ∑ n : Fin 2000, f n.val := by
  rw [← sum_rows f]
  simp only [mask_at, h, mul_ite, mul_one, mul_zero]

section Table

variable (L : Fin 4 → ℕ → EReal) (x0 x1 x2 x3 : FVec Ideal S16x128 .f32)
  (h0 : ∀ (a : Fin 16) (b : Fin 128), x0 (ix2 a b) = L 0 (128 * a.val + b.val))
  (h1 : ∀ (a : Fin 16) (b : Fin 128), x1 (ix2 a b) = L 1 (128 * a.val + b.val))
  (h2 : ∀ (a : Fin 16) (b : Fin 128), x2 (ix2 a b) = L 2 (128 * a.val + b.val))
  (h3 : ∀ (a : Fin 16) (b : Fin 128), x3 (ix2 a b) = L 3 (128 * a.val + b.val))

include h0 h1 h2 h3

/-- The kernel's mean. -/
theorem avg_at : k0_pay10 (F := Ideal) x0 x1 x2 x3 = avg L := by
  pointwise [k0_pay10, k0_pay6, k0_pay7, k0_pay8, k0_pay9]
  rw [masked_sum x0 (L 0) h0, masked_sum x1 (L 1) h1, masked_sum x2 (L 2) h2, masked_sum x3 (L 3) h3, avg]

/-- The kernel's standard deviation. -/
theorem dev_at : k0_pay12 (F := Ideal) k0_pay5 (k0_pay7 x1) (k0_pay8 x2) (k0_pay9 x3) (k0_pay10 x0 x1 x2 x3) (k0_pay11 x0 x1 x2 x3) = dev L := by
  pointwise [k0_pay12, k0_pay11, k0_pay6, k0_pay7, k0_pay8, k0_pay9]
  rw [avg_at L x0 x1 x2 x3 h0 h1 h2 h3]
  rw [masked_sum (fun i => (x0 i - avg L) * (x0 i - avg L)) (dist L 0) fun a b => by simp only [h0, dist],
    masked_sum (fun i => (x1 i - avg L) * (x1 i - avg L)) (dist L 1) fun a b => by simp only [h1, dist],
    masked_sum (fun i => (x2 i - avg L) * (x2 i - avg L)) (dist L 2) fun a b => by simp only [h2, dist],
    masked_sum (fun i => (x3 i - avg L) * (x3 i - avg L)) (dist L 3) fun a b => by simp only [h3, dist]]
  rfl

variable (a : Fin 16) (b : Fin 128)

/-- The standardised first column. -/
theorem std0_at : k0_pay13 (F := Ideal) k0_pay5 (k0_pay6 x0) (k0_pay7 x1) (k0_pay8 x2) (k0_pay9 x3) (k0_pay10 x0 x1 x2 x3) (k0_pay11 x0 x1 x2 x3) (ix2 a b)
    = std L 0 (128 * a.val + b.val) := by
  pointwise [k0_pay13, k0_pay6]
  rw [dev_at L x0 x1 x2 x3 h0 h1 h2 h3, avg_at L x0 x1 x2 x3 h0 h1 h2 h3, h0, std]

/-- The standardised second column. -/
theorem std1_at : k0_pay14 (F := Ideal) k0_pay5 (k0_pay7 x1) (k0_pay8 x2) (k0_pay9 x3) (k0_pay10 x0 x1 x2 x3) (k0_pay11 x0 x1 x2 x3) (ix2 a b)
    = std L 1 (128 * a.val + b.val) := by
  unfold k0_pay14
  pointwise
  rw [dev_at L x0 x1 x2 x3 h0 h1 h2 h3, avg_at L x0 x1 x2 x3 h0 h1 h2 h3]
  pointwise [k0_pay7]
  rw [h1, std]

/-- The standardised third column. -/
theorem std2_at : k0_pay15 (F := Ideal) k0_pay5 (k0_pay7 x1) (k0_pay8 x2) (k0_pay9 x3) (k0_pay10 x0 x1 x2 x3) (k0_pay11 x0 x1 x2 x3) (ix2 a b)
    = std L 2 (128 * a.val + b.val) := by
  unfold k0_pay15
  pointwise
  rw [dev_at L x0 x1 x2 x3 h0 h1 h2 h3, avg_at L x0 x1 x2 x3 h0 h1 h2 h3]
  pointwise [k0_pay8]
  rw [h2, std]

/-- The standardised fourth column. -/
theorem std3_at : k0_pay16 (F := Ideal) k0_pay5 (k0_pay7 x1) (k0_pay8 x2) (k0_pay9 x3) (k0_pay10 x0 x1 x2 x3) (k0_pay11 x0 x1 x2 x3) (ix2 a b)
    = std L 3 (128 * a.val + b.val) := by
  unfold k0_pay16
  pointwise
  rw [dev_at L x0 x1 x2 x3 h0 h1 h2 h3, avg_at L x0 x1 x2 x3 h0 h1 h2 h3]
  pointwise [k0_pay9]
  rw [h3, std]

end Table

section Decode

variable (s t lo hi : FVec Ideal S16x128 .f32) (a : Fin 16) (b : Fin 128)

/-- The height, before the mask. -/
theorem height_at : k0_pay20 (F := Ideal) t hi lo (ix2 a b) = side (lo (ix2 a b)) (hi (ix2 a b)) (t (ix2 a b)) := by
  pointwise [k0_pay20, k0_pay18, side]

/-- The width, before the mask. -/
theorem width_at : k0_pay21 (F := Ideal) t hi lo (ix2 a b) = side (lo (ix2 a b)) (hi (ix2 a b)) (t (ix2 a b)) := by
  pointwise [k0_pay21, k0_pay19, side]

/-- The upper corner, before the mask. -/
theorem top_at : k0_pay22 (F := Ideal) s t (k0_pay17 lo) hi lo (ix2 a b)
    = corner (lo (ix2 a b)) (hi (ix2 a b)) (s (ix2 a b)) (t (ix2 a b)) := by
  pointwise [k0_pay22, k0_pay20, k0_pay18, k0_pay17, corner, side]

/-- The left corner, before the mask. -/
theorem left_at : k0_pay23 (F := Ideal) s t lo hi lo (ix2 a b)
    = corner (lo (ix2 a b)) (hi (ix2 a b)) (s (ix2 a b)) (t (ix2 a b)) := by
  pointwise [k0_pay23, k0_pay21, k0_pay19, corner, side]

end Decode

end Cert.Geo

end
-- ==== Proof.Geo.Windows.lean ====
/- What the geometry call's windows read and leave: its one grid point takes every array whole. -/
module

public import proofs.«01_k».proof.Proof.Geo.Pay
public import proofs.«01_k».proof.Proof.Gen.Kernel2Ideal.Frame

@[expose] public section

set_option maxRecDepth 16384

noncomputable section

namespace Cert.Geo

open Idealize.ShloMosaic Idealize.ShloMosaic.TcCoe Idealize.SL.Sem
open Cert.Kernel2Ideal Cert.Kernel2Ideal.Gen

variable (m : (ℓ : Loc nD τ sig) → Buf (Elt Ideal) ℓ) (c : Dev nD)

/-- The call's two arguments, as arrays. -/
abbrev inMisc : FVec Ideal S2048x128 .f32 := m ((c.tc : Thread nD τ).loc main_arg0)
/-- The anchor boxes. -/
abbrev inRois : FVec Ideal S2000x4 .f32 := m ((c.tc : Thread nD τ).loc main_arg1)

/-- The zero that the boxes are padded with. -/
def fill : FVec Ideal S_ .f32 := sitofp .f32 (constantI S_ 32 0#32)

/-- The host leaves the first regression of every row as a 16 by 128 array. -/
theorem entry_0 : V m c main_v2 = shapeCast S16x128 (shapeCast S2048 (extractStridedSlice S2048x1 ![0, 0] (inMisc m c) slices_S2048x128_S2048x1_0_0)
    shapeCasts_S2048x1_S2048) shapeCasts_S2048_S16x128 := by
  unfold V V0
  simp only [hostOps0, hostOps0_1, hostOps0_2, hostOps0_3, hostOps0_4, hostOps0_5, hostOps0_6, hostOps0_7, hostOps0_8,
    List.flatten_cons, List.flatten_nil, List.cons_append, List.nil_append, List.append_nil]
  entry_read
  rfl

/-- The host leaves the second regression of every row as a 16 by 128 array. -/
theorem entry_1 : V m c main_v5 = shapeCast S16x128 (shapeCast S2048 (extractStridedSlice S2048x1 ![0, 1] (inMisc m c) slices_S2048x128_S2048x1_0_1)
    shapeCasts_S2048x1_S2048) shapeCasts_S2048_S16x128 := by
  unfold V V0
  simp only [hostOps0, hostOps0_1, hostOps0_2, hostOps0_3, hostOps0_4, hostOps0_5, hostOps0_6, hostOps0_7, hostOps0_8,
    List.flatten_cons, List.flatten_nil, List.cons_append, List.nil_append, List.append_nil]
  entry_read
  rfl

/-- The host leaves the third regression of every row as a 16 by 128 array. -/
theorem entry_2 : V m c main_v8 = shapeCast S16x128 (shapeCast S2048 (extractStridedSlice S2048x1 ![0, 2] (inMisc m c) slices_S2048x128_S2048x1_0_2)
    shapeCasts_S2048x1_S2048) shapeCasts_S2048_S16x128 := by
  unfold V V0
  simp only [hostOps0, hostOps0_1, hostOps0_2, hostOps0_3, hostOps0_4, hostOps0_5, hostOps0_6, hostOps0_7, hostOps0_8,
    List.flatten_cons, List.flatten_nil, List.cons_append, List.nil_append, List.append_nil]
  entry_read
  rfl

/-- The host leaves the fourth regression of every row as a 16 by 128 array. -/
theorem entry_3 : V m c main_v11 = shapeCast S16x128 (shapeCast S2048 (extractStridedSlice S2048x1 ![0, 3] (inMisc m c) slices_S2048x128_S2048x1_0_3)
    shapeCasts_S2048x1_S2048) shapeCasts_S2048_S16x128 := by
  unfold V V0
  simp only [hostOps0, hostOps0_1, hostOps0_2, hostOps0_3, hostOps0_4, hostOps0_5, hostOps0_6, hostOps0_7, hostOps0_8,
    List.flatten_cons, List.flatten_nil, List.cons_append, List.nil_append, List.append_nil]
  entry_read
  rfl

/-- The host leaves the left ends of the boxes, padded, as a 16 by 128 array. -/
theorem entry_4 : V m c main_v15 = shapeCast S16x128 (pad S2048 ![0] ![48] ![0] (shapeCast S2000
    (extractStridedSlice S2000x1 ![0, 0] (inRois m c) slices_S2000x4_S2000x1_0_0) shapeCasts_S2000x1_S2000) fill pads_S2000_S2048_0480 h_S_)
    shapeCasts_S2048_S16x128 := by
  unfold V V0
  simp only [hostOps0, hostOps0_1, hostOps0_2, hostOps0_3, hostOps0_4, hostOps0_5, hostOps0_6, hostOps0_7, hostOps0_8,
    List.flatten_cons, List.flatten_nil, List.cons_append, List.nil_append, List.append_nil]
  entry_read
  rfl

/-- The host leaves the upper ends of the boxes, padded, as a 16 by 128 array. -/
theorem entry_5 : V m c main_v19 = shapeCast S16x128 (pad S2048 ![0] ![48] ![0] (shapeCast S2000
    (extractStridedSlice S2000x1 ![0, 1] (inRois m c) slices_S2000x4_S2000x1_0_1) shapeCasts_S2000x1_S2000) fill pads_S2000_S2048_0480 h_S_)
    shapeCasts_S2048_S16x128 := by
  unfold V V0
  simp only [hostOps0, hostOps0_1, hostOps0_2, hostOps0_3, hostOps0_4, hostOps0_5, hostOps0_6, hostOps0_7, hostOps0_8,
    List.flatten_cons, List.flatten_nil, List.cons_append, List.nil_append, List.append_nil]
  entry_read
  rfl

/-- The host leaves the right ends of the boxes, padded, as a 16 by 128 array. -/
theorem entry_6 : V m c main_v23 = shapeCast S16x128 (pad S2048 ![0] ![48] ![0] (shapeCast S2000
    (extractStridedSlice S2000x1 ![0, 2] (inRois m c) slices_S2000x4_S2000x1_0_2) shapeCasts_S2000x1_S2000) fill pads_S2000_S2048_0480 h_S_)
    shapeCasts_S2048_S16x128 := by
  unfold V V0
  simp only [hostOps0, hostOps0_1, hostOps0_2, hostOps0_3, hostOps0_4, hostOps0_5, hostOps0_6, hostOps0_7, hostOps0_8,
    List.flatten_cons, List.flatten_nil, List.cons_append, List.nil_append, List.append_nil]
  entry_read
  rfl

/-- The host leaves the lower ends of the boxes, padded, as a 16 by 128 array. -/
theorem entry_7 : V m c main_v27 = shapeCast S16x128 (pad S2048 ![0] ![48] ![0] (shapeCast S2000
    (extractStridedSlice S2000x1 ![0, 3] (inRois m c) slices_S2000x4_S2000x1_0_3) shapeCasts_S2000x1_S2000) fill pads_S2000_S2048_0480 h_S_)
    shapeCasts_S2048_S16x128 := by
  unfold V V0
  simp only [hostOps0, hostOps0_1, hostOps0_2, hostOps0_3, hostOps0_4, hostOps0_5, hostOps0_6, hostOps0_7, hostOps0_8,
    List.flatten_cons, List.flatten_nil, List.cons_append, List.nil_append, List.append_nil]
  entry_read
  rfl

/-- Window 0's block is its whole array. -/
theorem block_0 : iblk m c 0 t0_0 = V m c main_v2 := by
  show (win0_0.blk t0_0).view.read (Elt Ideal) (V m c main_v2) = _
  exact Memref.read_access_unit_zero (Elt Ideal) main_v2
    (show (fun a => (win0_0.index t0_0) a * main_v2.ty.shape.size a) = fun _ => 0 from
      funext fun a => by fin_cases a <;> decide) (fun a => by fin_cases a <;> decide) _

/-- Window 1's block is its whole array. -/
theorem block_1 : iblk m c 1 t0_0 = V m c main_v5 := by
  show (win0_1.blk t0_0).view.read (Elt Ideal) (V m c main_v5) = _
  exact Memref.read_access_unit_zero (Elt Ideal) main_v5
    (show (fun a => (win0_1.index t0_0) a * main_v5.ty.shape.size a) = fun _ => 0 from
      funext fun a => by fin_cases a <;> decide) (fun a => by fin_cases a <;> decide) _

/-- Window 2's block is its whole array. -/
theorem block_2 : iblk m c 2 t0_0 = V m c main_v8 := by
  show (win0_2.blk t0_0).view.read (Elt Ideal) (V m c main_v8) = _
  exact Memref.read_access_unit_zero (Elt Ideal) main_v8
    (show (fun a => (win0_2.index t0_0) a * main_v8.ty.shape.size a) = fun _ => 0 from
      funext fun a => by fin_cases a <;> decide) (fun a => by fin_cases a <;> decide) _

/-- Window 3's block is its whole array. -/
theorem block_3 : iblk m c 3 t0_0 = V m c main_v11 := by
  show (win0_3.blk t0_0).view.read (Elt Ideal) (V m c main_v11) = _
  exact Memref.read_access_unit_zero (Elt Ideal) main_v11
    (show (fun a => (win0_3.index t0_0) a * main_v11.ty.shape.size a) = fun _ => 0 from
      funext fun a => by fin_cases a <;> decide) (fun a => by fin_cases a <;> decide) _

/-- Window 4's block is its whole array. -/
theorem block_4 : iblk m c 4 t0_0 = V m c main_v15 := by
  show (win0_4.blk t0_0).view.read (Elt Ideal) (V m c main_v15) = _
  exact Memref.read_access_unit_zero (Elt Ideal) main_v15
    (show (fun a => (win0_4.index t0_0) a * main_v15.ty.shape.size a) = fun _ => 0 from
      funext fun a => by fin_cases a <;> decide) (fun a => by fin_cases a <;> decide) _

/-- Window 5's block is its whole array. -/
theorem block_5 : iblk m c 5 t0_0 = V m c main_v19 := by
  show (win0_5.blk t0_0).view.read (Elt Ideal) (V m c main_v19) = _
  exact Memref.read_access_unit_zero (Elt Ideal) main_v19
    (show (fun a => (win0_5.index t0_0) a * main_v19.ty.shape.size a) = fun _ => 0 from
      funext fun a => by fin_cases a <;> decide) (fun a => by fin_cases a <;> decide) _

/-- Window 6's block is its whole array. -/
theorem block_6 : iblk m c 6 t0_0 = V m c main_v23 := by
  show (win0_6.blk t0_0).view.read (Elt Ideal) (V m c main_v23) = _
  exact Memref.read_access_unit_zero (Elt Ideal) main_v23
    (show (fun a => (win0_6.index t0_0) a * main_v23.ty.shape.size a) = fun _ => 0 from
      funext fun a => by fin_cases a <;> decide) (fun a => by fin_cases a <;> decide) _

/-- Window 7's block is its whole array. -/
theorem block_7 : iblk m c 7 t0_0 = V m c main_v27 := by
  show (win0_7.blk t0_0).view.read (Elt Ideal) (V m c main_v27) = _
  exact Memref.read_access_unit_zero (Elt Ideal) main_v27
    (show (fun a => (win0_7.index t0_0) a * main_v27.ty.shape.size a) = fun _ => 0 from
      funext fun a => by fin_cases a <;> decide) (fun a => by fin_cases a <;> decide) _

/-- Output window 8's array after the call is what its one store leaves. -/
theorem arr_8 : (dats m 0 c).arrAt 8 cfg0.N = out0_8 (V m c main_v2) (V m c main_v5) (V m c main_v8) (V m c main_v11) (V m c main_v15) (V m c main_v19) (V m c main_v23) (V m c main_v27) := by
  have hf : (dats m 0 c).flushed 8 t0_0 = out0_8 (V m c main_v2) (V m c main_v5) (V m c main_v8) (V m c main_v11) (V m c main_v15) (V m c main_v19) (V m c main_v23) (V m c main_v27) := by
    show (cfg0.win 8).cut _ ((dats m 0 c).after 8 t0_0) = _
    rw [after0_8, block_0, block_1, block_2, block_3, block_4, block_5, block_6, block_7]
    exact funext fun _ => rfl
  have hw : ((cfg0.win 8).blk t0_0).view.read (Elt Ideal) ((dats m 0 c).arrAt 8 cfg0.N) = (dats m 0 c).flushed 8 t0_0 := by
    rw [show cfg0.N = t0_0.val + 1 from rfl, (dats m 0 c).arrAt_succ (8 : Fin 16) t0_0, flush0_8, if_pos rfl]
    exact View.read_write_univ _ _
  rw [hf] at hw
  refine Eq.trans (Eq.symm ?_) hw
  exact Memref.read_access_unit_zero (Elt Ideal) main_v28_0
    (show (fun a => (win0_8.index t0_0) a * main_v28_0.ty.shape.size a) = fun _ => 0 from
      funext fun a => by fin_cases a <;> decide) (fun a => by fin_cases a <;> decide) _

/-- Output window 9's array after the call is what its one store leaves. -/
theorem arr_9 : (dats m 0 c).arrAt 9 cfg0.N = out0_9 (V m c main_v2) (V m c main_v5) (V m c main_v8) (V m c main_v11) (V m c main_v15) (V m c main_v19) (V m c main_v23) (V m c main_v27) := by
  have hf : (dats m 0 c).flushed 9 t0_0 = out0_9 (V m c main_v2) (V m c main_v5) (V m c main_v8) (V m c main_v11) (V m c main_v15) (V m c main_v19) (V m c main_v23) (V m c main_v27) := by
    show (cfg0.win 9).cut _ ((dats m 0 c).after 9 t0_0) = _
    rw [after0_9, block_0, block_1, block_2, block_3, block_4, block_5, block_6, block_7]
    exact funext fun _ => rfl
  have hw : ((cfg0.win 9).blk t0_0).view.read (Elt Ideal) ((dats m 0 c).arrAt 9 cfg0.N) = (dats m 0 c).flushed 9 t0_0 := by
    rw [show cfg0.N = t0_0.val + 1 from rfl, (dats m 0 c).arrAt_succ (9 : Fin 16) t0_0, flush0_9, if_pos rfl]
    exact View.read_write_univ _ _
  rw [hf] at hw
  refine Eq.trans (Eq.symm ?_) hw
  exact Memref.read_access_unit_zero (Elt Ideal) main_v28_1
    (show (fun a => (win0_9.index t0_0) a * main_v28_1.ty.shape.size a) = fun _ => 0 from
      funext fun a => by fin_cases a <;> decide) (fun a => by fin_cases a <;> decide) _

/-- Output window 10's array after the call is what its one store leaves. -/
theorem arr_10 : (dats m 0 c).arrAt 10 cfg0.N = out0_10 (V m c main_v2) (V m c main_v5) (V m c main_v8) (V m c main_v11) (V m c main_v15) (V m c main_v19) (V m c main_v23) (V m c main_v27) := by
  have hf : (dats m 0 c).flushed 10 t0_0 = out0_10 (V m c main_v2) (V m c main_v5) (V m c main_v8) (V m c main_v11) (V m c main_v15) (V m c main_v19) (V m c main_v23) (V m c main_v27) := by
    show (cfg0.win 10).cut _ ((dats m 0 c).after 10 t0_0) = _
    rw [after0_10, block_0, block_1, block_2, block_3, block_4, block_5, block_6, block_7]
    exact funext fun _ => rfl
  have hw : ((cfg0.win 10).blk t0_0).view.read (Elt Ideal) ((dats m 0 c).arrAt 10 cfg0.N) = (dats m 0 c).flushed 10 t0_0 := by
    rw [show cfg0.N = t0_0.val + 1 from rfl, (dats m 0 c).arrAt_succ (10 : Fin 16) t0_0, flush0_10, if_pos rfl]
    exact View.read_write_univ _ _
  rw [hf] at hw
  refine Eq.trans (Eq.symm ?_) hw
  exact Memref.read_access_unit_zero (Elt Ideal) main_v28_2
    (show (fun a => (win0_10.index t0_0) a * main_v28_2.ty.shape.size a) = fun _ => 0 from
      funext fun a => by fin_cases a <;> decide) (fun a => by fin_cases a <;> decide) _

/-- Output window 11's array after the call is what its one store leaves. -/
theorem arr_11 : (dats m 0 c).arrAt 11 cfg0.N = out0_11 (V m c main_v2) (V m c main_v5) (V m c main_v8) (V m c main_v11) (V m c main_v15) (V m c main_v19) (V m c main_v23) (V m c main_v27) := by
  have hf : (dats m 0 c).flushed 11 t0_0 = out0_11 (V m c main_v2) (V m c main_v5) (V m c main_v8) (V m c main_v11) (V m c main_v15) (V m c main_v19) (V m c main_v23) (V m c main_v27) := by
    show (cfg0.win 11).cut _ ((dats m 0 c).after 11 t0_0) = _
    rw [after0_11, block_0, block_1, block_2, block_3, block_4, block_5, block_6, block_7]
    exact funext fun _ => rfl
  have hw : ((cfg0.win 11).blk t0_0).view.read (Elt Ideal) ((dats m 0 c).arrAt 11 cfg0.N) = (dats m 0 c).flushed 11 t0_0 := by
    rw [show cfg0.N = t0_0.val + 1 from rfl, (dats m 0 c).arrAt_succ (11 : Fin 16) t0_0, flush0_11, if_pos rfl]
    exact View.read_write_univ _ _
  rw [hf] at hw
  refine Eq.trans (Eq.symm ?_) hw
  exact Memref.read_access_unit_zero (Elt Ideal) main_v28_3
    (show (fun a => (win0_11.index t0_0) a * main_v28_3.ty.shape.size a) = fun _ => 0 from
      funext fun a => by fin_cases a <;> decide) (fun a => by fin_cases a <;> decide) _

/-- Output window 12's array after the call is what its one store leaves. -/
theorem arr_12 : (dats m 0 c).arrAt 12 cfg0.N = out0_12 (V m c main_v2) (V m c main_v5) (V m c main_v8) (V m c main_v11) (V m c main_v15) (V m c main_v19) (V m c main_v23) (V m c main_v27) := by
  have hf : (dats m 0 c).flushed 12 t0_0 = out0_12 (V m c main_v2) (V m c main_v5) (V m c main_v8) (V m c main_v11) (V m c main_v15) (V m c main_v19) (V m c main_v23) (V m c main_v27) := by
    show (cfg0.win 12).cut _ ((dats m 0 c).after 12 t0_0) = _
    rw [after0_12, block_0, block_1, block_2, block_3, block_4, block_5, block_6, block_7]
    exact funext fun _ => rfl
  have hw : ((cfg0.win 12).blk t0_0).view.read (Elt Ideal) ((dats m 0 c).arrAt 12 cfg0.N) = (dats m 0 c).flushed 12 t0_0 := by
    rw [show cfg0.N = t0_0.val + 1 from rfl, (dats m 0 c).arrAt_succ (12 : Fin 16) t0_0, flush0_12, if_pos rfl]
    exact View.read_write_univ _ _
  rw [hf] at hw
  refine Eq.trans (Eq.symm ?_) hw
  exact Memref.read_access_unit_zero (Elt Ideal) main_v28_4
    (show (fun a => (win0_12.index t0_0) a * main_v28_4.ty.shape.size a) = fun _ => 0 from
      funext fun a => by fin_cases a <;> decide) (fun a => by fin_cases a <;> decide) _

/-- Output window 13's array after the call is what its one store leaves. -/
theorem arr_13 : (dats m 0 c).arrAt 13 cfg0.N = out0_13 (V m c main_v2) (V m c main_v5) (V m c main_v8) (V m c main_v11) (V m c main_v15) (V m c main_v19) (V m c main_v23) (V m c main_v27) := by
  have hf : (dats m 0 c).flushed 13 t0_0 = out0_13 (V m c main_v2) (V m c main_v5) (V m c main_v8) (V m c main_v11) (V m c main_v15) (V m c main_v19) (V m c main_v23) (V m c main_v27) := by
    show (cfg0.win 13).cut _ ((dats m 0 c).after 13 t0_0) = _
    rw [after0_13, block_0, block_1, block_2, block_3, block_4, block_5, block_6, block_7]
    exact funext fun _ => rfl
  have hw : ((cfg0.win 13).blk t0_0).view.read (Elt Ideal) ((dats m 0 c).arrAt 13 cfg0.N) = (dats m 0 c).flushed 13 t0_0 := by
    rw [show cfg0.N = t0_0.val + 1 from rfl, (dats m 0 c).arrAt_succ (13 : Fin 16) t0_0, flush0_13, if_pos rfl]
    exact View.read_write_univ _ _
  rw [hf] at hw
  refine Eq.trans (Eq.symm ?_) hw
  exact Memref.read_access_unit_zero (Elt Ideal) main_v28_5
    (show (fun a => (win0_13.index t0_0) a * main_v28_5.ty.shape.size a) = fun _ => 0 from
      funext fun a => by fin_cases a <;> decide) (fun a => by fin_cases a <;> decide) _

/-- Output window 14's array after the call is what its one store leaves. -/
theorem arr_14 : (dats m 0 c).arrAt 14 cfg0.N = out0_14 (V m c main_v2) (V m c main_v5) (V m c main_v8) (V m c main_v11) (V m c main_v15) (V m c main_v19) (V m c main_v23) (V m c main_v27) := by
  have hf : (dats m 0 c).flushed 14 t0_0 = out0_14 (V m c main_v2) (V m c main_v5) (V m c main_v8) (V m c main_v11) (V m c main_v15) (V m c main_v19) (V m c main_v23) (V m c main_v27) := by
    show (cfg0.win 14).cut _ ((dats m 0 c).after 14 t0_0) = _
    rw [after0_14, block_0, block_1, block_2, block_3, block_4, block_5, block_6, block_7]
    exact funext fun _ => rfl
  have hw : ((cfg0.win 14).blk t0_0).view.read (Elt Ideal) ((dats m 0 c).arrAt 14 cfg0.N) = (dats m 0 c).flushed 14 t0_0 := by
    rw [show cfg0.N = t0_0.val + 1 from rfl, (dats m 0 c).arrAt_succ (14 : Fin 16) t0_0, flush0_14, if_pos rfl]
    exact View.read_write_univ _ _
  rw [hf] at hw
  refine Eq.trans (Eq.symm ?_) hw
  exact Memref.read_access_unit_zero (Elt Ideal) main_v28_6
    (show (fun a => (win0_14.index t0_0) a * main_v28_6.ty.shape.size a) = fun _ => 0 from
      funext fun a => by fin_cases a <;> decide) (fun a => by fin_cases a <;> decide) _

/-- Output window 15's array after the call is what its one store leaves. -/
theorem arr_15 : (dats m 0 c).arrAt 15 cfg0.N = out0_15 (V m c main_v2) (V m c main_v5) (V m c main_v8) (V m c main_v11) (V m c main_v15) (V m c main_v19) (V m c main_v23) (V m c main_v27) := by
  have hf : (dats m 0 c).flushed 15 t0_0 = out0_15 (V m c main_v2) (V m c main_v5) (V m c main_v8) (V m c main_v11) (V m c main_v15) (V m c main_v19) (V m c main_v23) (V m c main_v27) := by
    show (cfg0.win 15).cut _ ((dats m 0 c).after 15 t0_0) = _
    rw [after0_15, block_0, block_1, block_2, block_3, block_4, block_5, block_6, block_7]
    exact funext fun _ => rfl
  have hw : ((cfg0.win 15).blk t0_0).view.read (Elt Ideal) ((dats m 0 c).arrAt 15 cfg0.N) = (dats m 0 c).flushed 15 t0_0 := by
    rw [show cfg0.N = t0_0.val + 1 from rfl, (dats m 0 c).arrAt_succ (15 : Fin 16) t0_0, flush0_15, if_pos rfl]
    exact View.read_write_univ _ _
  rw [hf] at hw
  refine Eq.trans (Eq.symm ?_) hw
  exact Memref.read_access_unit_zero (Elt Ideal) main_v28_7
    (show (fun a => (win0_15.index t0_0) a * main_v28_7.ty.shape.size a) = fun _ => 0 from
      funext fun a => by fin_cases a <;> decide) (fun a => by fin_cases a <;> decide) _

end Cert.Geo

end
-- ==== Proof.Geo.Blocks.lean ====
/- The geometry call's input and output arrays, read at one index as functions of the two arguments. -/
module

public import proofs.«01_k».proof.Proof.Geo.Windows
public import Idealize.ShloMosaic.Lib.Pipeline.ValueKit.Basic

@[expose] public section

set_option maxRecDepth 16384

noncomputable section

namespace Cert.Geo

open Idealize.ShloMosaic Idealize.ShloMosaic.TcCoe Idealize.SL.Sem
open Cert.Kernel2Ideal Cert.Kernel2Ideal.Gen

/-- The row of the 16 by 128 array where row `n` of the table stands. -/
def rowOf (n : Fin 2000) : Fin 16 := ⟨n.val / 128, by omega⟩

/-- The lane where it stands. -/
def laneOf (n : Fin 2000) : Fin 128 := ⟨n.val % 128, by omega⟩

/-- A load of the whole array reads the array. -/
theorem load_at (x : FVec Ideal S16x128 .f32) : View.ld (Val := Elt Ideal) (e' := .f32) x r0_0 = x :=
  View.ld_unit_lit (Val := Elt Ideal) (e := .f32) (S := S16x128) _ x (by decide)

/-- Row and lane together give the number back. -/
theorem number_at (n : Fin 2000) : 128 * (rowOf n).val + (laneOf n).val = n.val := Nat.div_add_mod n.val 128

variable (m : (ℓ : Loc nD τ sig) → Buf (Elt Ideal) ℓ) (c : Dev nD)

/-- The call's table of regressions. -/
abbrev regr : Fin 4 → ℕ → EReal := regrOf (inMisc m c)

/-- A folded vector at the place of row `n`. -/
theorem fold_at (y : FVec Ideal S2048 .f32) (n : Fin 2000) :
    shapeCast S16x128 y shapeCasts_S2048_S16x128 (ix2 (rowOf n) (laneOf n)) = y (ix1 ⟨n.val, by omega⟩) := by
  pointwise
  refine congrArg y (congrArg ix1 (Fin.ext ?_))
  show (rowOf n).val * 128 + (laneOf n).val = n.val
  rw [← number_at n]
  ring_nf

/-- Column 0 of the table as the call reads it. -/
theorem regr_0 (a : Fin 16) (b : Fin 128) : (V m c main_v2 : FVec Ideal S16x128 .f32) (ix2 a b) = regr m c 0 (128 * a.val + b.val) := by
  rw [entry_0]
  refine Eq.trans ?_ (dif_pos (show 128 * a.val + b.val < 2048 by omega)).symm
  pointwise
  refine congrArg (inMisc m c) (congrArg₂ ix2 (Fin.ext ?_) rfl)
  show a.val * 128 + b.val = 128 * a.val + b.val
  ring_nf

/-- Column 1 of the table as the call reads it. -/
theorem regr_1 (a : Fin 16) (b : Fin 128) : (V m c main_v5 : FVec Ideal S16x128 .f32) (ix2 a b) = regr m c 1 (128 * a.val + b.val) := by
  rw [entry_1]
  refine Eq.trans ?_ (dif_pos (show 128 * a.val + b.val < 2048 by omega)).symm
  pointwise
  refine congrArg (inMisc m c) (congrArg₂ ix2 (Fin.ext ?_) rfl)
  show a.val * 128 + b.val = 128 * a.val + b.val
  ring_nf

/-- Column 2 of the table as the call reads it. -/
theorem regr_2 (a : Fin 16) (b : Fin 128) : (V m c main_v8 : FVec Ideal S16x128 .f32) (ix2 a b) = regr m c 2 (128 * a.val + b.val) := by
  rw [entry_2]
  refine Eq.trans ?_ (dif_pos (show 128 * a.val + b.val < 2048 by omega)).symm
  pointwise
  refine congrArg (inMisc m c) (congrArg₂ ix2 (Fin.ext ?_) rfl)
  show a.val * 128 + b.val = 128 * a.val + b.val
  ring_nf

/-- Column 3 of the table as the call reads it. -/
theorem regr_3 (a : Fin 16) (b : Fin 128) : (V m c main_v11 : FVec Ideal S16x128 .f32) (ix2 a b) = regr m c 3 (128 * a.val + b.val) := by
  rw [entry_3]
  refine Eq.trans ?_ (dif_pos (show 128 * a.val + b.val < 2048 by omega)).symm
  pointwise
  refine congrArg (inMisc m c) (congrArg₂ ix2 (Fin.ext ?_) rfl)
  show a.val * 128 + b.val = 128 * a.val + b.val
  ring_nf

/-- Column 0 of the boxes as the call reads it. -/
theorem box_0 (n : Fin 2000) : (V m c main_v15 : FVec Ideal S16x128 .f32) (ix2 (rowOf n) (laneOf n)) = inRois m c (ix2 n 0) := by
  rw [entry_4, fold_at]
  pointwise

/-- Column 1 of the boxes as the call reads it. -/
theorem box_1 (n : Fin 2000) : (V m c main_v19 : FVec Ideal S16x128 .f32) (ix2 (rowOf n) (laneOf n)) = inRois m c (ix2 n 1) := by
  rw [entry_5, fold_at]
  pointwise

/-- Column 2 of the boxes as the call reads it. -/
theorem box_2 (n : Fin 2000) : (V m c main_v23 : FVec Ideal S16x128 .f32) (ix2 (rowOf n) (laneOf n)) = inRois m c (ix2 n 2) := by
  rw [entry_6, fold_at]
  pointwise

/-- Column 3 of the boxes as the call reads it. -/
theorem box_3 (n : Fin 2000) : (V m c main_v27 : FVec Ideal S16x128 .f32) (ix2 (rowOf n) (laneOf n)) = inRois m c (ix2 n 3) := by
  rw [entry_7, fold_at]
  pointwise

/-- The call leaves the standardised first regression of row `n`. -/
theorem left_0 (n : Fin 2000) : (out0_8 (V m c main_v2) (V m c main_v5) (V m c main_v8) (V m c main_v11) (V m c main_v15) (V m c main_v19) (V m c main_v23) (V m c main_v27) : FVec Ideal S16x128 .f32) (ix2 (rowOf n) (laneOf n)) = std (regr m c) 0 n.val := by
  unfold_out out0_8
  rw [View.canon_cons_unit_lit _ _ _ (by decide)]
  simp only [load_at]
  unfold k0_pay24
  rw [mulf_apply, Ideal.mulf_def]
  rw [std0_at (regr m c) _ _ _ _ (regr_0 m c) (regr_1 m c) (regr_2 m c) (regr_3 m c), mask_at, number_at, if_pos n.isLt, mul_one]

/-- The call leaves the standardised second regression of row `n`. -/
theorem left_1 (n : Fin 2000) : (out0_9 (V m c main_v2) (V m c main_v5) (V m c main_v8) (V m c main_v11) (V m c main_v15) (V m c main_v19) (V m c main_v23) (V m c main_v27) : FVec Ideal S16x128 .f32) (ix2 (rowOf n) (laneOf n)) = std (regr m c) 1 n.val := by
  unfold_out out0_9
  rw [View.canon_cons_unit_lit _ _ _ (by decide)]
  simp only [load_at]
  unfold k0_pay25
  rw [mulf_apply, Ideal.mulf_def]
  rw [std1_at (regr m c) _ _ _ _ (regr_0 m c) (regr_1 m c) (regr_2 m c) (regr_3 m c), mask_at, number_at, if_pos n.isLt, mul_one]

/-- The call leaves the standardised third regression of row `n`. -/
theorem left_2 (n : Fin 2000) : (out0_10 (V m c main_v2) (V m c main_v5) (V m c main_v8) (V m c main_v11) (V m c main_v15) (V m c main_v19) (V m c main_v23) (V m c main_v27) : FVec Ideal S16x128 .f32) (ix2 (rowOf n) (laneOf n)) = std (regr m c) 2 n.val := by
  unfold_out out0_10
  rw [View.canon_cons_unit_lit _ _ _ (by decide)]
  simp only [load_at]
  unfold k0_pay26
  rw [mulf_apply, Ideal.mulf_def]
  rw [std2_at (regr m c) _ _ _ _ (regr_0 m c) (regr_1 m c) (regr_2 m c) (regr_3 m c), mask_at, number_at, if_pos n.isLt, mul_one]

/-- The call leaves the standardised fourth regression of row `n`. -/
theorem left_3 (n : Fin 2000) : (out0_11 (V m c main_v2) (V m c main_v5) (V m c main_v8) (V m c main_v11) (V m c main_v15) (V m c main_v19) (V m c main_v23) (V m c main_v27) : FVec Ideal S16x128 .f32) (ix2 (rowOf n) (laneOf n)) = std (regr m c) 3 n.val := by
  unfold_out out0_11
  rw [View.canon_cons_unit_lit _ _ _ (by decide)]
  simp only [load_at]
  unfold k0_pay27
  rw [mulf_apply, Ideal.mulf_def]
  rw [std3_at (regr m c) _ _ _ _ (regr_0 m c) (regr_1 m c) (regr_2 m c) (regr_3 m c), mask_at, number_at, if_pos n.isLt, mul_one]

/-- The call leaves the upper corner of the decoded box `n`. -/
theorem left_4 (n : Fin 2000) : (out0_12 (V m c main_v2) (V m c main_v5) (V m c main_v8) (V m c main_v11) (V m c main_v15) (V m c main_v19) (V m c main_v23) (V m c main_v27) : FVec Ideal S16x128 .f32) (ix2 (rowOf n) (laneOf n)) = corner (inRois m c (ix2 n 1)) (inRois m c (ix2 n 3)) (std (regr m c) 0 n.val) (std (regr m c) 2 n.val) := by
  unfold_out out0_12
  rw [View.canon_cons_unit_lit _ _ _ (by decide)]
  simp only [load_at]
  unfold k0_pay1
  rw [mulf_apply, Ideal.mulf_def]
  rw [top_at, std0_at (regr m c) _ _ _ _ (regr_0 m c) (regr_1 m c) (regr_2 m c) (regr_3 m c), std2_at (regr m c) _ _ _ _ (regr_0 m c) (regr_1 m c) (regr_2 m c) (regr_3 m c), box_1, box_3, mask_at, number_at, if_pos n.isLt, mul_one]

/-- The call leaves the left corner of the decoded box `n`. -/
theorem left_5 (n : Fin 2000) : (out0_13 (V m c main_v2) (V m c main_v5) (V m c main_v8) (V m c main_v11) (V m c main_v15) (V m c main_v19) (V m c main_v23) (V m c main_v27) : FVec Ideal S16x128 .f32) (ix2 (rowOf n) (laneOf n)) = corner (inRois m c (ix2 n 0)) (inRois m c (ix2 n 2)) (std (regr m c) 1 n.val) (std (regr m c) 3 n.val) := by
  unfold_out out0_13
  rw [View.canon_cons_unit_lit _ _ _ (by decide)]
  simp only [load_at]
  unfold k0_pay2
  rw [mulf_apply, Ideal.mulf_def]
  rw [left_at, std1_at (regr m c) _ _ _ _ (regr_0 m c) (regr_1 m c) (regr_2 m c) (regr_3 m c), std3_at (regr m c) _ _ _ _ (regr_0 m c) (regr_1 m c) (regr_2 m c) (regr_3 m c), box_0, box_2, mask_at, number_at, if_pos n.isLt, mul_one]

/-- The call leaves the height of the decoded box `n`. -/
theorem left_6 (n : Fin 2000) : (out0_14 (V m c main_v2) (V m c main_v5) (V m c main_v8) (V m c main_v11) (V m c main_v15) (V m c main_v19) (V m c main_v23) (V m c main_v27) : FVec Ideal S16x128 .f32) (ix2 (rowOf n) (laneOf n)) = side (inRois m c (ix2 n 1)) (inRois m c (ix2 n 3)) (std (regr m c) 2 n.val) := by
  unfold_out out0_14
  rw [View.canon_cons_unit_lit _ _ _ (by decide)]
  simp only [load_at]
  unfold k0_pay3
  rw [mulf_apply, Ideal.mulf_def]
  rw [height_at, std2_at (regr m c) _ _ _ _ (regr_0 m c) (regr_1 m c) (regr_2 m c) (regr_3 m c), box_1, box_3, mask_at, number_at, if_pos n.isLt, mul_one]

/-- The call leaves the width of the decoded box `n`. -/
theorem left_7 (n : Fin 2000) : (out0_15 (V m c main_v2) (V m c main_v5) (V m c main_v8) (V m c main_v11) (V m c main_v15) (V m c main_v19) (V m c main_v23) (V m c main_v27) : FVec Ideal S16x128 .f32) (ix2 (rowOf n) (laneOf n)) = side (inRois m c (ix2 n 0)) (inRois m c (ix2 n 2)) (std (regr m c) 3 n.val) := by
  unfold_out out0_15
  rw [View.canon_cons_unit_lit _ _ _ (by decide)]
  simp only [load_at]
  unfold k0_pay4
  rw [mulf_apply, Ideal.mulf_def]
  rw [width_at, std3_at (regr m c) _ _ _ _ (regr_0 m c) (regr_1 m c) (regr_2 m c) (regr_3 m c), box_0, box_2, mask_at, number_at, if_pos n.isLt, mul_one]

end Cert.Geo

end
-- ==== Proof.Geo.Run.lean ====
/- The geometry call's run: what it leaves in its two results. -/
module

public import proofs.«01_k».proof.Proof.Geo.Blocks
public import Idealize.ShloMosaic.Lib.Claim

@[expose] public section

set_option maxRecDepth 16384

noncomputable section

namespace Cert.Geo

open Idealize.ShloMosaic Idealize.ShloMosaic.TcCoe Idealize.SL.Sem
open Cert.Kernel2Ideal Cert.Kernel2Ideal.Gen

/-- A 16 by 128 array as a column of 2000 rows, the padding cut off. -/
def flatCol (y : FVec Ideal S16x128 .f32) : FVec Ideal S2000x1 .f32 :=
  broadcastInDim S2000x1 ![0] bcast_S2000_S2000x1_0 (extractStridedSlice S2000 ![0] (shapeCast S2048 y shapeCasts_S16x128_S2048) slices_S2048_S2000_0)

/-- Four such columns side by side. -/
def table (y0 y1 y2 y3 : FVec Ideal S16x128 .f32) : FVec Ideal S2000x4 .f32 :=
  concatenate S2000x4 1 [⟨S2000x1, flatCol y0⟩, ⟨S2000x1, flatCol y1⟩, ⟨S2000x1, flatCol y2⟩, ⟨S2000x1, flatCol y3⟩]
    concatenates_S2000x1_S2000x1_S2000x1_S2000x1_S2000x4_d1

/-- The columns of the table, read at a row. -/
theorem table_at (y0 y1 y2 y3 : FVec Ideal S16x128 .f32) (n : Fin 2000) :
    table y0 y1 y2 y3 (ix2 n 0) = y0 (ix2 (rowOf n) (laneOf n)) ∧ table y0 y1 y2 y3 (ix2 n 1) = y1 (ix2 (rowOf n) (laneOf n))
    ∧ table y0 y1 y2 y3 (ix2 n 2) = y2 (ix2 (rowOf n) (laneOf n)) ∧ table y0 y1 y2 y3 (ix2 n 3) = y3 (ix2 (rowOf n) (laneOf n)) := by
  refine ⟨?_, ?_, ?_, ?_⟩
  · pointwise [table, flatCol]
    rfl
  · pointwise [table, flatCol]
    rfl
  · pointwise [table, flatCol]
    rfl
  · pointwise [table, flatCol]
    rfl

/-- Columns that are equal one by one stand side by side alike. -/
theorem beside_congr {u0 u1 u2 u3 v0 v1 v2 v3 : FVec Ideal S2000x1 .f32} (h0 : u0 = v0) (h1 : u1 = v1) (h2 : u2 = v2) (h3 : u3 = v3) :
    concatenate S2000x4 1 [⟨S2000x1, u0⟩, ⟨S2000x1, u1⟩, ⟨S2000x1, u2⟩, ⟨S2000x1, u3⟩] concatenates_S2000x1_S2000x1_S2000x1_S2000x1_S2000x4_d1
      = concatenate S2000x4 1 [⟨S2000x1, v0⟩, ⟨S2000x1, v1⟩, ⟨S2000x1, v2⟩, ⟨S2000x1, v3⟩] concatenates_S2000x1_S2000x1_S2000x1_S2000x1_S2000x4_d1 := by
  rw [h0, h1, h2, h3]

/-- The host operations after the call build the first result from the first four arrays. -/
theorem tail_loc (X : Valuation τ sig (Elt Ideal)) : StableHlo.after hostOps1 X (Proc.tc.devRef main_v41)
    = table (X (Proc.tc.devRef main_v28_0)) (X (Proc.tc.devRef main_v28_1)) (X (Proc.tc.devRef main_v28_2)) (X (Proc.tc.devRef main_v28_3)) := by
  simp only [hostOps1]
  after_results_simp
  refine beside_congr ?_ ?_ ?_ ?_
  all_goals (dsimp only [Matrix.cons_val]; after_results_simp; rfl)

/-- The host operations after the call build the second result from the last four arrays. -/
theorem tail_box (X : Valuation τ sig (Elt Ideal)) : StableHlo.after hostOps1 X (Proc.tc.devRef main_v54)
    = table (X (Proc.tc.devRef main_v28_4)) (X (Proc.tc.devRef main_v28_5)) (X (Proc.tc.devRef main_v28_6)) (X (Proc.tc.devRef main_v28_7)) := by
  simp only [hostOps1]
  after_results_simp
  refine beside_congr ?_ ?_ ?_ ?_
  all_goals (dsimp only [Matrix.cons_val]; after_results_simp; rfl)

variable (m : (ℓ : Loc nD τ sig) → Buf (Elt Ideal) ℓ) (g : Dev nD → PrngReg)

/-- The array that output `k` of the call holds after it. -/
def outArr (c : Dev nD) (k : Fin 8) : FVec Ideal S16x128 .f32 := match k with
  | 0 => (dats m 0 c).arrAt 8 cfg0.N
  | 1 => (dats m 0 c).arrAt 9 cfg0.N
  | 2 => (dats m 0 c).arrAt 10 cfg0.N
  | 3 => (dats m 0 c).arrAt 11 cfg0.N
  | 4 => (dats m 0 c).arrAt 12 cfg0.N
  | 5 => (dats m 0 c).arrAt 13 cfg0.N
  | 6 => (dats m 0 c).arrAt 14 cfg0.N
  | 7 => (dats m 0 c).arrAt 15 cfg0.N

/-- Different windows have different arrays. -/
theorem arrays_inj : Function.Injective (Pipeline.arrRef (cfgs 0).spec) := by decide +kernel

/-- The buffers right after the call. -/
abbrev after (c : Dev nD) := Pipeline.withArrays (cfgs 0).spec c (V0 m c) (fun w => (dats m 0 c).arrAt w (cfgs 0).N)

/-- After the call the first four result buffers hold those arrays. -/
theorem exit_loc (c : Dev nD) : after m c (Proc.tc.devRef main_v28_0) = outArr m c 0 ∧ after m c (Proc.tc.devRef main_v28_1) = outArr m c 1
    ∧ after m c (Proc.tc.devRef main_v28_2) = outArr m c 2 ∧ after m c (Proc.tc.devRef main_v28_3) = outArr m c 3 :=
  have e := Pipeline.withArrays_arr (cfgs 0).spec arrays_inj c (V0 m c) (fun w => (dats m 0 c).arrAt w (cfgs 0).N)
  ⟨e (8 : Fin 16), e (9 : Fin 16), e (10 : Fin 16), e (11 : Fin 16)⟩

/-- After the call the last four result buffers hold those arrays. -/
theorem exit_box (c : Dev nD) : after m c (Proc.tc.devRef main_v28_4) = outArr m c 4 ∧ after m c (Proc.tc.devRef main_v28_5) = outArr m c 5
    ∧ after m c (Proc.tc.devRef main_v28_6) = outArr m c 6 ∧ after m c (Proc.tc.devRef main_v28_7) = outArr m c 7 :=
  have e := Pipeline.withArrays_arr (cfgs 0).spec arrays_inj c (V0 m c) (fun w => (dats m 0 c).arrAt w (cfgs 0).N)
  ⟨e (12 : Fin 16), e (13 : Fin 16), e (14 : Fin 16), e (15 : Fin 16)⟩

/-- Tables of equal arrays are equal. -/
theorem table_congr {x0 x1 x2 x3 y0 y1 y2 y3 : FVec Ideal S16x128 .f32} (h : x0 = y0 ∧ x1 = y1 ∧ x2 = y2 ∧ x3 = y3) :
    table x0 x1 x2 x3 = table y0 y1 y2 y3 := by
  rw [h.1, h.2.1, h.2.2.1, h.2.2.2]

/-- The two results are the tables of the eight arrays. -/
theorem results : θ_run defs (onTc (τ := τ) (main (F := Ideal))) ⟨m, fun _ => 0, g⟩ (fun r => ∀ c : Dev nD,
    r.2.mem ((c.tc : Thread nD τ).loc main_v41) = table (outArr m c 0) (outArr m c 1) (outArr m c 2) (outArr m c 3)
    ∧ r.2.mem ((c.tc : Thread nD τ).loc main_v54) = table (outArr m c 4) (outArr m c 5) (outArr m c 6) (outArr m c 7)) := by
  run_from run_main m g
  all_goals (unfold Pipeline.afterTail₀; simp only [List.flatten_cons, List.flatten_nil, List.append_nil])
  · exact (tail_loc (after m c)).trans (table_congr (exit_loc m c))
  · exact (tail_box (after m c)).trans (table_congr (exit_box m c))

end Cert.Geo

end
-- ==== Proof.Geo.Agree.lean ====
/- The geometry call and the reference leave the same standardised regressions and the same decoded boxes. -/
module

public import proofs.«01_k».proof.Proof.Geo.Ref
public import proofs.«01_k».proof.Proof.Geo.Run

@[expose] public section

set_option maxRecDepth 16384

noncomputable section

namespace Cert.Geo

open Idealize.ShloMosaic Idealize.ShloMosaic.TcCoe Idealize.SL.Sem
open Cert.Kernel2Ideal Cert.Kernel2Ideal.Gen

variable (m : (ℓ : Loc nD τ sig) → Buf (Elt Ideal) ℓ)
  (m' : (ℓ : Loc Cert.Reference2Ideal.nD Cert.Reference2Ideal.τ Cert.Reference2Ideal.sig) → Buf (Elt Ideal) ℓ) (c : Dev nD)

/-- Two tables of 2000 rows and four columns are equal when their columns are, row by row. -/
theorem table_ext {x y : FVec Ideal S2000x4 .f32} (h0 : ∀ n : Fin 2000, x (ix2 n 0) = y (ix2 n 0)) (h1 : ∀ n : Fin 2000, x (ix2 n 1) = y (ix2 n 1))
    (h2 : ∀ n : Fin 2000, x (ix2 n 2) = y (ix2 n 2)) (h3 : ∀ n : Fin 2000, x (ix2 n 3) = y (ix2 n 3)) : x = y := by
  funext i
  idx_vars i
  fin_cases i1
  · exact h0 i0
  · exact h1 i0
  · exact h2 i0
  · exact h3 i0

/-- The standardised regressions are equal. -/
theorem loc_same (h : Ref.argMisc m' c = inMisc m c) :
    Ref.stdA m' c = table (outArr m c 0) (outArr m c 1) (outArr m c 2) (outArr m c 3) := by
  have r : Ref.regr m' c = regr m c := congrArg regrOf h
  refine table_ext (fun n => ?_) (fun n => ?_) (fun n => ?_) (fun n => ?_)
  · exact ((Ref.std_at m' c n 0).trans (congrArg (fun L => std L 0 n.val) r)).trans
      ((table_at _ _ _ _ n).1.trans ((congrFun (arr_8 m c) _).trans (left_0 m c n))).symm
  · exact ((Ref.std_at m' c n 1).trans (congrArg (fun L => std L 1 n.val) r)).trans
      ((table_at _ _ _ _ n).2.1.trans ((congrFun (arr_9 m c) _).trans (left_1 m c n))).symm
  · exact ((Ref.std_at m' c n 2).trans (congrArg (fun L => std L 2 n.val) r)).trans
      ((table_at _ _ _ _ n).2.2.1.trans ((congrFun (arr_10 m c) _).trans (left_2 m c n))).symm
  · exact ((Ref.std_at m' c n 3).trans (congrArg (fun L => std L 3 n.val) r)).trans
      ((table_at _ _ _ _ n).2.2.2.trans ((congrFun (arr_11 m c) _).trans (left_3 m c n))).symm

/-- The decoded boxes are equal. -/
theorem box_same (h : Ref.argMisc m' c = inMisc m c) (k : Ref.argRois m' c = inRois m c) :
    Cert.Reference2Ideal.Value.res_main_v75 m' c = table (outArr m c 4) (outArr m c 5) (outArr m c 6) (outArr m c 7) := by
  have r : Ref.regr m' c = regr m c := congrArg regrOf h
  refine (Ref.result_box m' c).trans (table_ext (fun n => ?_) (fun n => ?_) (fun n => ?_) (fun n => ?_))
  · exact (Ref.box_at m' c n).1.trans ((congrArg₂ (fun q L => corner (q (ix2 n 1)) (q (ix2 n 3)) (std L 0 n.val) (std L 2 n.val)) k r).trans
      ((table_at _ _ _ _ n).1.trans ((congrFun (arr_12 m c) _).trans (left_4 m c n))).symm)
  · exact (Ref.box_at m' c n).2.1.trans ((congrArg₂ (fun q L => corner (q (ix2 n 0)) (q (ix2 n 2)) (std L 1 n.val) (std L 3 n.val)) k r).trans
      ((table_at _ _ _ _ n).2.1.trans ((congrFun (arr_13 m c) _).trans (left_5 m c n))).symm)
  · exact (Ref.box_at m' c n).2.2.1.trans ((congrArg₂ (fun q L => side (q (ix2 n 1)) (q (ix2 n 3)) (std L 2 n.val)) k r).trans
      ((table_at _ _ _ _ n).2.2.1.trans ((congrFun (arr_14 m c) _).trans (left_6 m c n))).symm)
  · exact (Ref.box_at m' c n).2.2.2.trans ((congrArg₂ (fun q L => side (q (ix2 n 0)) (q (ix2 n 2)) (std L 3 n.val)) k r).trans
      ((table_at _ _ _ _ n).2.2.2.trans ((congrFun (arr_15 m c) _).trans (left_7 m c n))).symm)

end Cert.Geo

end
-- ==== Proof.Target.Pay.lean ====
/- The target slice of the geometry call, read at one index: the choice among the 64 boxes and what is made of it. -/
module

public import proofs.«01_k».proof.Proof.Gen.Kernel3Ideal.Frame
public import Idealize.ShloMosaic.Lib.Pointwise
public import Idealize.ShloMosaic.Lib.Pipeline.ValueKit.Basic

@[expose] public section

set_option maxRecDepth 16384

noncomputable section

namespace Cert.Target

open Idealize.ShloMosaic Idealize.ShloMosaic.TcCoe Idealize.SL.Sem
open Cert.Kernel3Ideal Cert.Kernel3Ideal.Gen

/-- The choice among the first `n` entries of a list by a word: the entry that the word names, `z` if it names none. -/
def pick {α : Type} (f : ℕ → α) (z : α) (w : BitVec 32) : ℕ → α
  | 0 => z
  | n + 1 => Scalar.select (IntOp.cmpi .eq w (BitVec.ofNat 32 n)) (f n) (pick f z w n)

/-- A word that names an entry chooses it. -/
theorem pick_eq {α : Type} (f : ℕ → α) (z : α) (k : ℕ) (n : ℕ) (h : k < n) (hn : n ≤ 64) : pick f z (BitVec.ofNat 32 k) n = f k := by
  induction n with
  | zero => omega
  | succ n ih =>
    show Scalar.select (IntOp.cmpi .eq (BitVec.ofNat 32 k) (BitVec.ofNat 32 n)) (f n) (pick f z (BitVec.ofNat 32 k) n) = f k
    rcases Nat.lt_or_ge k n with hk | hk
    · have hne : BitVec.ofNat 32 k ≠ BitVec.ofNat 32 n := fun e => by
        have := congrArg BitVec.toNat e
        simp only [BitVec.toNat_ofNat] at this
        omega
      have hb : (BitVec.ofNat 32 k == BitVec.ofNat 32 n) = false := by simpa using hne
      rw [ih hk (by omega)]
      simp [IntOp.cmpi, Scalar.select, hb]
    · have e : k = n := by omega
      subst e
      simp [IntOp.cmpi, Scalar.select]

/-- An entry of one row of 64, by its number. -/
def row64 {α : Type} (x : S1x64.Idx → α) (k : ℕ) : α := if h : k < 64 then x (ix2 0 ⟨k, h⟩) else x (ix2 0 0)

/-- The validity test of row `a`, lane `b`. -/
theorem valid_bit (a : Fin 16) (b : Fin 128) :
    IntOp.cmpi .slt (IntOp.addi (IntOp.muli (BitVec.ofNat 32 a.val) 128#32) (BitVec.ofNat 32 b.val)) 2000#32
      = if 128 * a.val + b.val < 2000 then 1#1 else 0#1 := by
  revert a b
  decide +kernel

/-- A row's mask as a number, by the bit of its test. -/
theorem mask_at (a : Fin 16) (b : Fin 128) (h : 128 * a.val + b.val < 2000) : k0_pay1 (F := Ideal) (ix2 a b) = 1 := by
  pointwise [k0_pay1]
  rw [valid_bit, if_pos h]
  simp [FloatOps.sitofp]

/-- The mask of such a row as a word. -/
theorem mask_word : FloatOps.fptosi (F := Ideal) (φ := .f32) 32 (FloatOps.sitofp (F := Ideal) .f32 (BitVec.setWidth 32 1#1)) = 1#32 := by
  simp [FloatOps.sitofp, FloatOps.fptosi]
  rw [← EReal.coe_one]
  simp only [Ideal.fptosi]
  rw [show Ideal.toIntClamped (-(2 ^ (32 - 1) : Nat)) ((2 ^ (32 - 1) : Nat) - 1) ((1 : ℝ) : EReal) = 1 from by
      show max (-2147483648 : ℤ) (min 2147483647 (if (0 : ℝ) ≤ 1 then ⌊(1 : ℝ)⌋ else ⌈(1 : ℝ)⌉)) = 1
      norm_num]
  rfl

/-- The call's height target at a row that is no padding. -/
theorem out_13 (x0 : Vec Ideal S16x128 .i32) (x1 x2 x3 x4 x5 : Vec Ideal S16x128 .f32) (x6 x7 x8 x9 : Vec Ideal S1x64 .f32) (x10 : Vec Ideal S1x64 .i32) (a : Fin 16) (b : Fin 128) (h : 128 * a.val + b.val < 2000) :
    out0_13 (F := Ideal) x0 x1 x2 x3 x4 x5 x6 x7 x8 x9 x10 (ix2 a b)
      = Ideal.log (Ideal.div (pick (row64 x8) (Ideal.ofBits .f32 0x00000000#32) (x0 (ix2 a b)) 64) (x5 (ix2 a b) - x3 (ix2 a b))) := by
  unfold_out out0_13
  rw [View.canon_cons_unit_lit _ _ _ (by decide)]
  have e := mask_at a b h
  revert e
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256]
  intro e
  rw [e, mul_one]
  rfl

/-- The call's width target at a row that is no padding. -/
theorem out_14 (x0 : Vec Ideal S16x128 .i32) (x1 x2 x3 x4 x5 : Vec Ideal S16x128 .f32) (x6 x7 x8 x9 : Vec Ideal S1x64 .f32) (x10 : Vec Ideal S1x64 .i32) (a : Fin 16) (b : Fin 128) (h : 128 * a.val + b.val < 2000) :
    out0_14 (F := Ideal) x0 x1 x2 x3 x4 x5 x6 x7 x8 x9 x10 (ix2 a b)
      = Ideal.log (Ideal.div (pick (row64 x9) (Ideal.ofBits .f32 0x00000000#32) (x0 (ix2 a b)) 64) (x4 (ix2 a b) - x2 (ix2 a b))) := by
  unfold_out out0_14
  rw [View.canon_cons_unit_lit _ _ _ (by decide)]
  have e := mask_at a b h
  revert e
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256]
  intro e
  rw [e, mul_one]
  rfl

/-- The call's vertical target at a row that is no padding. -/
theorem out_11 (x0 : Vec Ideal S16x128 .i32) (x1 x2 x3 x4 x5 : Vec Ideal S16x128 .f32) (x6 x7 x8 x9 : Vec Ideal S1x64 .f32) (x10 : Vec Ideal S1x64 .i32) (a : Fin 16) (b : Fin 128) (h : 128 * a.val + b.val < 2000) :
    out0_11 (F := Ideal) x0 x1 x2 x3 x4 x5 x6 x7 x8 x9 x10 (ix2 a b)
      = Ideal.div ((pick (row64 x6) (Ideal.ofBits .f32 0x00000000#32) (x0 (ix2 a b)) 64
            + Ideal.ofBits .f32 0x3F000000#32 * pick (row64 x8) (Ideal.ofBits .f32 0x00000000#32) (x0 (ix2 a b)) 64)
          - (x3 (ix2 a b) + Ideal.ofBits .f32 0x3F000000#32 * (x5 (ix2 a b) - x3 (ix2 a b))))
        (x5 (ix2 a b) - x3 (ix2 a b)) := by
  unfold_out out0_11
  rw [View.canon_cons_unit_lit _ _ _ (by decide)]
  have e := mask_at a b h
  revert e
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256]
  intro e
  rw [e, mul_one]
  rfl

/-- The call's horizontal target at a row that is no padding. -/
theorem out_12 (x0 : Vec Ideal S16x128 .i32) (x1 x2 x3 x4 x5 : Vec Ideal S16x128 .f32) (x6 x7 x8 x9 : Vec Ideal S1x64 .f32) (x10 : Vec Ideal S1x64 .i32) (a : Fin 16) (b : Fin 128) (h : 128 * a.val + b.val < 2000) :
    out0_12 (F := Ideal) x0 x1 x2 x3 x4 x5 x6 x7 x8 x9 x10 (ix2 a b)
      = Ideal.div ((pick (row64 x7) (Ideal.ofBits .f32 0x00000000#32) (x0 (ix2 a b)) 64
            + Ideal.ofBits .f32 0x3F000000#32 * pick (row64 x9) (Ideal.ofBits .f32 0x00000000#32) (x0 (ix2 a b)) 64)
          - (x2 (ix2 a b) + Ideal.ofBits .f32 0x3F000000#32 * (x4 (ix2 a b) - x2 (ix2 a b))))
        (x4 (ix2 a b) - x2 (ix2 a b)) := by
  unfold_out out0_12
  rw [View.canon_cons_unit_lit _ _ _ (by decide)]
  have e := mask_at a b h
  revert e
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256]
  intro e
  rw [e, mul_one]
  rfl

/-- The call's label at a row that is no padding. -/
theorem out_15 (x0 : Vec Ideal S16x128 .i32) (x1 x2 x3 x4 x5 : Vec Ideal S16x128 .f32) (x6 x7 x8 x9 : Vec Ideal S1x64 .f32) (x10 : Vec Ideal S1x64 .i32) (a : Fin 16) (b : Fin 128) (h : 128 * a.val + b.val < 2000) :
    out0_15 (F := Ideal) x0 x1 x2 x3 x4 x5 x6 x7 x8 x9 x10 (ix2 a b)
      = if x1 (ix2 a b) < Ideal.ofBits .f32 0x3ECCCCCD#32 then 0#32 else pick (row64 x10) 0#32 (x0 (ix2 a b)) 64 := by
  unfold_out out0_15
  rw [View.canon_cons_unit_lit _ _ _ (by decide)]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256]
  rw [valid_bit, if_pos h, mask_word]
  show _ * 1#32 = _
  rw [BitVec.mul_one]
  rfl

end Cert.Target

end
-- ==== Proof.Target.Windows.lean ====
/- What the target slice's windows read and leave: its one grid point takes every array whole. -/
module

public import proofs.«01_k».proof.Proof.Target.Pay

@[expose] public section

set_option maxRecDepth 16384

noncomputable section

namespace Cert.Target

open Idealize.ShloMosaic Idealize.ShloMosaic.TcCoe Idealize.SL.Sem
open Cert.Kernel3Ideal Cert.Kernel3Ideal.Gen

variable (m : (ℓ : Loc nD τ sig) → Buf (Elt Ideal) ℓ) (c : Dev nD)

/-- The chosen indices. -/
abbrev inIdx : IVec S2000 32 := m ((c.tc : Thread nD τ).loc main_arg0)
/-- The largest overlaps. -/
abbrev inIou : FVec Ideal S2000 .f32 := m ((c.tc : Thread nD τ).loc main_arg1)
/-- The anchor boxes. -/
abbrev inRois : FVec Ideal S2000x4 .f32 := m ((c.tc : Thread nD τ).loc main_arg2)
/-- The ground-truth boxes. -/
abbrev inGt : FVec Ideal S64x4 .f32 := m ((c.tc : Thread nD τ).loc main_arg3)
/-- Their labels. -/
abbrev inLab : IVec S64 32 := m ((c.tc : Thread nD τ).loc main_arg4)

/-- The zero that the vectors are padded with. -/
def fill : FVec Ideal S_ .f32 := sitofp .f32 (constantI S_ 32 0#32)

/-- The row of the 16 by 128 array where row `n` of the table stands. -/
def rowOf (n : Fin 2000) : Fin 16 := ⟨n.val / 128, by omega⟩

/-- The lane where it stands. -/
def laneOf (n : Fin 2000) : Fin 128 := ⟨n.val % 128, by omega⟩

/-- Row and lane together give the number back. -/
theorem number_at (n : Fin 2000) : 128 * (rowOf n).val + (laneOf n).val = n.val := Nat.div_add_mod n.val 128

/-- A folded vector at the place of row `n`. -/
theorem fold_at {e : EltTy} (y : Vec Ideal S2048 e) (n : Fin 2000) :
    shapeCast S16x128 y shapeCasts_S2048_S16x128 (ix2 (rowOf n) (laneOf n)) = y (ix1 ⟨n.val, by omega⟩) := by
  pointwise
  refine congrArg y (congrArg ix1 (Fin.ext ?_))
  show (rowOf n).val * 128 + (laneOf n).val = n.val
  rw [← number_at n]
  ring_nf

/-- What the host lays out for window 0. -/
theorem entry_0 : V m c main_v1 = shapeCast S16x128 (pad S2048 ![0] ![48] ![0] (inIdx m c) (constantI S_ 32 0#32) pads_S2000_S2048_0480 h_S_) shapeCasts_S2048_S16x128 := by
  unfold V V0
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.cons_append, List.nil_append, List.append_nil]
  entry_read
  rfl

/-- What the host lays out for window 1. -/
theorem entry_1 : V m c main_v3 = shapeCast S16x128 (pad S2048 ![0] ![48] ![0] (inIou m c) fill pads_S2000_S2048_0480 h_S_) shapeCasts_S2048_S16x128 := by
  unfold V V0
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.cons_append, List.nil_append, List.append_nil]
  entry_read
  rfl

/-- What the host lays out for window 2. -/
theorem entry_2 : V m c main_v7 = shapeCast S16x128 (pad S2048 ![0] ![48] ![0] (shapeCast S2000
    (extractStridedSlice S2000x1 ![0, 0] (inRois m c) slices_S2000x4_S2000x1_0_0) shapeCasts_S2000x1_S2000) fill pads_S2000_S2048_0480 h_S_) shapeCasts_S2048_S16x128 := by
  unfold V V0
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.cons_append, List.nil_append, List.append_nil]
  entry_read
  rfl

/-- What the host lays out for window 3. -/
theorem entry_3 : V m c main_v11 = shapeCast S16x128 (pad S2048 ![0] ![48] ![0] (shapeCast S2000
    (extractStridedSlice S2000x1 ![0, 1] (inRois m c) slices_S2000x4_S2000x1_0_1) shapeCasts_S2000x1_S2000) fill pads_S2000_S2048_0480 h_S_) shapeCasts_S2048_S16x128 := by
  unfold V V0
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.cons_append, List.nil_append, List.append_nil]
  entry_read
  rfl

/-- What the host lays out for window 4. -/
theorem entry_4 : V m c main_v15 = shapeCast S16x128 (pad S2048 ![0] ![48] ![0] (shapeCast S2000
    (extractStridedSlice S2000x1 ![0, 2] (inRois m c) slices_S2000x4_S2000x1_0_2) shapeCasts_S2000x1_S2000) fill pads_S2000_S2048_0480 h_S_) shapeCasts_S2048_S16x128 := by
  unfold V V0
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.cons_append, List.nil_append, List.append_nil]
  entry_read
  rfl

/-- What the host lays out for window 5. -/
theorem entry_5 : V m c main_v19 = shapeCast S16x128 (pad S2048 ![0] ![48] ![0] (shapeCast S2000
    (extractStridedSlice S2000x1 ![0, 3] (inRois m c) slices_S2000x4_S2000x1_0_3) shapeCasts_S2000x1_S2000) fill pads_S2000_S2048_0480 h_S_) shapeCasts_S2048_S16x128 := by
  unfold V V0
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.cons_append, List.nil_append, List.append_nil]
  entry_read
  rfl

/-- What the host lays out for window 6. -/
theorem entry_6 : V m c main_v22 = broadcastInDim S1x64 ![1] bcast_S64_S1x64_1 (shapeCast S64 (extractStridedSlice S64x1 ![0, 0] (inGt m c) slices_S64x4_S64x1_0_0) shapeCasts_S64x1_S64) := by
  unfold V V0
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.cons_append, List.nil_append, List.append_nil]
  entry_read
  rfl

/-- What the host lays out for window 7. -/
theorem entry_7 : V m c main_v25 = broadcastInDim S1x64 ![1] bcast_S64_S1x64_1 (shapeCast S64 (extractStridedSlice S64x1 ![0, 1] (inGt m c) slices_S64x4_S64x1_0_1) shapeCasts_S64x1_S64) := by
  unfold V V0
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.cons_append, List.nil_append, List.append_nil]
  entry_read
  rfl

/-- What the host lays out for window 8. -/
theorem entry_8 : V m c main_v28 = broadcastInDim S1x64 ![1] bcast_S64_S1x64_1 (shapeCast S64 (extractStridedSlice S64x1 ![0, 2] (inGt m c) slices_S64x4_S64x1_0_2) shapeCasts_S64x1_S64) := by
  unfold V V0
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.cons_append, List.nil_append, List.append_nil]
  entry_read
  rfl

/-- What the host lays out for window 9. -/
theorem entry_9 : V m c main_v31 = broadcastInDim S1x64 ![1] bcast_S64_S1x64_1 (shapeCast S64 (extractStridedSlice S64x1 ![0, 3] (inGt m c) slices_S64x4_S64x1_0_3) shapeCasts_S64x1_S64) := by
  unfold V V0
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.cons_append, List.nil_append, List.append_nil]
  entry_read
  rfl

/-- What the host lays out for window 10. -/
theorem entry_10 : V m c main_v32 = broadcastInDim S1x64 ![1] bcast_S64_S1x64_1 (inLab m c) := by
  unfold V V0
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.cons_append, List.nil_append, List.append_nil]
  entry_read
  rfl

/-- Window 0's block is its whole array. -/
theorem block_0 : iblk m c 0 t0_0 = V m c main_v1 := by
  show (win0_0.blk t0_0).view.read (Elt Ideal) (V m c main_v1) = _
  exact Memref.read_access_unit_zero (Elt Ideal) main_v1
    (show (fun a => (win0_0.index t0_0) a * main_v1.ty.shape.size a) = fun _ => 0 from
      funext fun a => by fin_cases a <;> decide) (fun a => by fin_cases a <;> decide) _

/-- Window 1's block is its whole array. -/
theorem block_1 : iblk m c 1 t0_0 = V m c main_v3 := by
  show (win0_1.blk t0_0).view.read (Elt Ideal) (V m c main_v3) = _
  exact Memref.read_access_unit_zero (Elt Ideal) main_v3
    (show (fun a => (win0_1.index t0_0) a * main_v3.ty.shape.size a) = fun _ => 0 from
      funext fun a => by fin_cases a <;> decide) (fun a => by fin_cases a <;> decide) _

/-- Window 2's block is its whole array. -/
theorem block_2 : iblk m c 2 t0_0 = V m c main_v7 := by
  show (win0_2.blk t0_0).view.read (Elt Ideal) (V m c main_v7) = _
  exact Memref.read_access_unit_zero (Elt Ideal) main_v7
    (show (fun a => (win0_2.index t0_0) a * main_v7.ty.shape.size a) = fun _ => 0 from
      funext fun a => by fin_cases a <;> decide) (fun a => by fin_cases a <;> decide) _

/-- Window 3's block is its whole array. -/
theorem block_3 : iblk m c 3 t0_0 = V m c main_v11 := by
  show (win0_3.blk t0_0).view.read (Elt Ideal) (V m c main_v11) = _
  exact Memref.read_access_unit_zero (Elt Ideal) main_v11
    (show (fun a => (win0_3.index t0_0) a * main_v11.ty.shape.size a) = fun _ => 0 from
      funext fun a => by fin_cases a <;> decide) (fun a => by fin_cases a <;> decide) _

/-- Window 4's block is its whole array. -/
theorem block_4 : iblk m c 4 t0_0 = V m c main_v15 := by
  show (win0_4.blk t0_0).view.read (Elt Ideal) (V m c main_v15) = _
  exact Memref.read_access_unit_zero (Elt Ideal) main_v15
    (show (fun a => (win0_4.index t0_0) a * main_v15.ty.shape.size a) = fun _ => 0 from
      funext fun a => by fin_cases a <;> decide) (fun a => by fin_cases a <;> decide) _

/-- Window 5's block is its whole array. -/
theorem block_5 : iblk m c 5 t0_0 = V m c main_v19 := by
  show (win0_5.blk t0_0).view.read (Elt Ideal) (V m c main_v19) = _
  exact Memref.read_access_unit_zero (Elt Ideal) main_v19
    (show (fun a => (win0_5.index t0_0) a * main_v19.ty.shape.size a) = fun _ => 0 from
      funext fun a => by fin_cases a <;> decide) (fun a => by fin_cases a <;> decide) _

/-- Window 6's block is its whole array. -/
theorem block_6 : iblk m c 6 t0_0 = V m c main_v22 := by
  show (win0_6.blk t0_0).view.read (Elt Ideal) (V m c main_v22) = _
  exact Memref.read_access_unit_zero (Elt Ideal) main_v22
    (show (fun a => (win0_6.index t0_0) a * main_v22.ty.shape.size a) = fun _ => 0 from
      funext fun a => by fin_cases a <;> decide) (fun a => by fin_cases a <;> decide) _

/-- Window 7's block is its whole array. -/
theorem block_7 : iblk m c 7 t0_0 = V m c main_v25 := by
  show (win0_7.blk t0_0).view.read (Elt Ideal) (V m c main_v25) = _
  exact Memref.read_access_unit_zero (Elt Ideal) main_v25
    (show (fun a => (win0_7.index t0_0) a * main_v25.ty.shape.size a) = fun _ => 0 from
      funext fun a => by fin_cases a <;> decide) (fun a => by fin_cases a <;> decide) _

/-- Window 8's block is its whole array. -/
theorem block_8 : iblk m c 8 t0_0 = V m c main_v28 := by
  show (win0_8.blk t0_0).view.read (Elt Ideal) (V m c main_v28) = _
  exact Memref.read_access_unit_zero (Elt Ideal) main_v28
    (show (fun a => (win0_8.index t0_0) a * main_v28.ty.shape.size a) = fun _ => 0 from
      funext fun a => by fin_cases a <;> decide) (fun a => by fin_cases a <;> decide) _

/-- Window 9's block is its whole array. -/
theorem block_9 : iblk m c 9 t0_0 = V m c main_v31 := by
  show (win0_9.blk t0_0).view.read (Elt Ideal) (V m c main_v31) = _
  exact Memref.read_access_unit_zero (Elt Ideal) main_v31
    (show (fun a => (win0_9.index t0_0) a * main_v31.ty.shape.size a) = fun _ => 0 from
      funext fun a => by fin_cases a <;> decide) (fun a => by fin_cases a <;> decide) _

/-- Window 10's block is its whole array. -/
theorem block_10 : iblk m c 10 t0_0 = V m c main_v32 := by
  show (win0_10.blk t0_0).view.read (Elt Ideal) (V m c main_v32) = _
  exact Memref.read_access_unit_zero (Elt Ideal) main_v32
    (show (fun a => (win0_10.index t0_0) a * main_v32.ty.shape.size a) = fun _ => 0 from
      funext fun a => by fin_cases a <;> decide) (fun a => by fin_cases a <;> decide) _

/-- Output window 11's array after the call is what its one store leaves. -/
theorem arr_11 : (dats m 0 c).arrAt 11 cfg0.N = out0_11 (V m c main_v1) (V m c main_v3) (V m c main_v7) (V m c main_v11) (V m c main_v15) (V m c main_v19) (V m c main_v22) (V m c main_v25) (V m c main_v28) (V m c main_v31) (V m c main_v32) := by
  have hf : (dats m 0 c).flushed 11 t0_0 = out0_11 (V m c main_v1) (V m c main_v3) (V m c main_v7) (V m c main_v11) (V m c main_v15) (V m c main_v19) (V m c main_v22) (V m c main_v25) (V m c main_v28) (V m c main_v31) (V m c main_v32) := by
    show (cfg0.win 11).cut _ ((dats m 0 c).after 11 t0_0) = _
    rw [after0_11, block_0, block_1, block_2, block_3, block_4, block_5, block_6, block_7, block_8, block_9, block_10]
    exact funext fun _ => rfl
  have hw : ((cfg0.win 11).blk t0_0).view.read (Elt Ideal) ((dats m 0 c).arrAt 11 cfg0.N) = (dats m 0 c).flushed 11 t0_0 := by
    rw [show cfg0.N = t0_0.val + 1 from rfl, (dats m 0 c).arrAt_succ (11 : Fin 16) t0_0, flush0_11, if_pos rfl]
    exact View.read_write_univ _ _
  rw [hf] at hw
  refine Eq.trans (Eq.symm ?_) hw
  exact Memref.read_access_unit_zero (Elt Ideal) main_v33_0
    (show (fun a => (win0_11.index t0_0) a * main_v33_0.ty.shape.size a) = fun _ => 0 from
      funext fun a => by fin_cases a <;> decide) (fun a => by fin_cases a <;> decide) _

/-- Output window 12's array after the call is what its one store leaves. -/
theorem arr_12 : (dats m 0 c).arrAt 12 cfg0.N = out0_12 (V m c main_v1) (V m c main_v3) (V m c main_v7) (V m c main_v11) (V m c main_v15) (V m c main_v19) (V m c main_v22) (V m c main_v25) (V m c main_v28) (V m c main_v31) (V m c main_v32) := by
  have hf : (dats m 0 c).flushed 12 t0_0 = out0_12 (V m c main_v1) (V m c main_v3) (V m c main_v7) (V m c main_v11) (V m c main_v15) (V m c main_v19) (V m c main_v22) (V m c main_v25) (V m c main_v28) (V m c main_v31) (V m c main_v32) := by
    show (cfg0.win 12).cut _ ((dats m 0 c).after 12 t0_0) = _
    rw [after0_12, block_0, block_1, block_2, block_3, block_4, block_5, block_6, block_7, block_8, block_9, block_10]
    exact funext fun _ => rfl
  have hw : ((cfg0.win 12).blk t0_0).view.read (Elt Ideal) ((dats m 0 c).arrAt 12 cfg0.N) = (dats m 0 c).flushed 12 t0_0 := by
    rw [show cfg0.N = t0_0.val + 1 from rfl, (dats m 0 c).arrAt_succ (12 : Fin 16) t0_0, flush0_12, if_pos rfl]
    exact View.read_write_univ _ _
  rw [hf] at hw
  refine Eq.trans (Eq.symm ?_) hw
  exact Memref.read_access_unit_zero (Elt Ideal) main_v33_1
    (show (fun a => (win0_12.index t0_0) a * main_v33_1.ty.shape.size a) = fun _ => 0 from
      funext fun a => by fin_cases a <;> decide) (fun a => by fin_cases a <;> decide) _

/-- Output window 13's array after the call is what its one store leaves. -/
theorem arr_13 : (dats m 0 c).arrAt 13 cfg0.N = out0_13 (V m c main_v1) (V m c main_v3) (V m c main_v7) (V m c main_v11) (V m c main_v15) (V m c main_v19) (V m c main_v22) (V m c main_v25) (V m c main_v28) (V m c main_v31) (V m c main_v32) := by
  have hf : (dats m 0 c).flushed 13 t0_0 = out0_13 (V m c main_v1) (V m c main_v3) (V m c main_v7) (V m c main_v11) (V m c main_v15) (V m c main_v19) (V m c main_v22) (V m c main_v25) (V m c main_v28) (V m c main_v31) (V m c main_v32) := by
    show (cfg0.win 13).cut _ ((dats m 0 c).after 13 t0_0) = _
    rw [after0_13, block_0, block_1, block_2, block_3, block_4, block_5, block_6, block_7, block_8, block_9, block_10]
    exact funext fun _ => rfl
  have hw : ((cfg0.win 13).blk t0_0).view.read (Elt Ideal) ((dats m 0 c).arrAt 13 cfg0.N) = (dats m 0 c).flushed 13 t0_0 := by
    rw [show cfg0.N = t0_0.val + 1 from rfl, (dats m 0 c).arrAt_succ (13 : Fin 16) t0_0, flush0_13, if_pos rfl]
    exact View.read_write_univ _ _
  rw [hf] at hw
  refine Eq.trans (Eq.symm ?_) hw
  exact Memref.read_access_unit_zero (Elt Ideal) main_v33_2
    (show (fun a => (win0_13.index t0_0) a * main_v33_2.ty.shape.size a) = fun _ => 0 from
      funext fun a => by fin_cases a <;> decide) (fun a => by fin_cases a <;> decide) _

/-- Output window 14's array after the call is what its one store leaves. -/
theorem arr_14 : (dats m 0 c).arrAt 14 cfg0.N = out0_14 (V m c main_v1) (V m c main_v3) (V m c main_v7) (V m c main_v11) (V m c main_v15) (V m c main_v19) (V m c main_v22) (V m c main_v25) (V m c main_v28) (V m c main_v31) (V m c main_v32) := by
  have hf : (dats m 0 c).flushed 14 t0_0 = out0_14 (V m c main_v1) (V m c main_v3) (V m c main_v7) (V m c main_v11) (V m c main_v15) (V m c main_v19) (V m c main_v22) (V m c main_v25) (V m c main_v28) (V m c main_v31) (V m c main_v32) := by
    show (cfg0.win 14).cut _ ((dats m 0 c).after 14 t0_0) = _
    rw [after0_14, block_0, block_1, block_2, block_3, block_4, block_5, block_6, block_7, block_8, block_9, block_10]
    exact funext fun _ => rfl
  have hw : ((cfg0.win 14).blk t0_0).view.read (Elt Ideal) ((dats m 0 c).arrAt 14 cfg0.N) = (dats m 0 c).flushed 14 t0_0 := by
    rw [show cfg0.N = t0_0.val + 1 from rfl, (dats m 0 c).arrAt_succ (14 : Fin 16) t0_0, flush0_14, if_pos rfl]
    exact View.read_write_univ _ _
  rw [hf] at hw
  refine Eq.trans (Eq.symm ?_) hw
  exact Memref.read_access_unit_zero (Elt Ideal) main_v33_3
    (show (fun a => (win0_14.index t0_0) a * main_v33_3.ty.shape.size a) = fun _ => 0 from
      funext fun a => by fin_cases a <;> decide) (fun a => by fin_cases a <;> decide) _

/-- Output window 15's array after the call is what its one store leaves. -/
theorem arr_15 : (dats m 0 c).arrAt 15 cfg0.N = out0_15 (V m c main_v1) (V m c main_v3) (V m c main_v7) (V m c main_v11) (V m c main_v15) (V m c main_v19) (V m c main_v22) (V m c main_v25) (V m c main_v28) (V m c main_v31) (V m c main_v32) := by
  have hf : (dats m 0 c).flushed 15 t0_0 = out0_15 (V m c main_v1) (V m c main_v3) (V m c main_v7) (V m c main_v11) (V m c main_v15) (V m c main_v19) (V m c main_v22) (V m c main_v25) (V m c main_v28) (V m c main_v31) (V m c main_v32) := by
    show (cfg0.win 15).cut _ ((dats m 0 c).after 15 t0_0) = _
    rw [after0_15, block_0, block_1, block_2, block_3, block_4, block_5, block_6, block_7, block_8, block_9, block_10]
    exact funext fun _ => rfl
  have hw : ((cfg0.win 15).blk t0_0).view.read (Elt Ideal) ((dats m 0 c).arrAt 15 cfg0.N) = (dats m 0 c).flushed 15 t0_0 := by
    rw [show cfg0.N = t0_0.val + 1 from rfl, (dats m 0 c).arrAt_succ (15 : Fin 16) t0_0, flush0_15, if_pos rfl]
    exact View.read_write_univ _ _
  rw [hf] at hw
  refine Eq.trans (Eq.symm ?_) hw
  exact Memref.read_access_unit_zero (Elt Ideal) main_v33_4
    (show (fun a => (win0_15.index t0_0) a * main_v33_4.ty.shape.size a) = fun _ => 0 from
      funext fun a => by fin_cases a <;> decide) (fun a => by fin_cases a <;> decide) _

end Cert.Target

end
-- ==== Proof.Target.Blocks.lean ====
/- What the target slice computes at a row, in the terms of its arguments. -/
module

public import proofs.«01_k».proof.Proof.Target.Windows

@[expose] public section

set_option maxRecDepth 16384

noncomputable section

namespace Cert.Target

open Idealize.ShloMosaic Idealize.ShloMosaic.TcCoe Idealize.SL.Sem
open Cert.Kernel3Ideal Cert.Kernel3Ideal.Gen

variable (m : (ℓ : Loc nD τ sig) → Buf (Elt Ideal) ℓ) (c : Dev nD)

/-- The chosen index of a row as the call reads it. -/
theorem at_0 (n : Fin 2000) : (V m c main_v1 : IVec S16x128 32) (ix2 (rowOf n) (laneOf n)) = inIdx m c (ix1 n) := by
  rw [entry_0]
  refine (fold_at (e := .i32) _ n).trans ?_
  pointwise

/-- Its largest overlap. -/
theorem at_1 (n : Fin 2000) : (V m c main_v3 : FVec Ideal S16x128 .f32) (ix2 (rowOf n) (laneOf n)) = inIou m c (ix1 n) := by
  rw [entry_1]
  refine (fold_at (e := .f32) _ n).trans ?_
  pointwise

/-- Column 0 of its box. -/
theorem at_2 (n : Fin 2000) : (V m c main_v7 : FVec Ideal S16x128 .f32) (ix2 (rowOf n) (laneOf n)) = inRois m c (ix2 n 0) := by
  rw [entry_2]
  refine (fold_at (e := .f32) _ n).trans ?_
  pointwise

/-- Column 1 of its box. -/
theorem at_3 (n : Fin 2000) : (V m c main_v11 : FVec Ideal S16x128 .f32) (ix2 (rowOf n) (laneOf n)) = inRois m c (ix2 n 1) := by
  rw [entry_3]
  refine (fold_at (e := .f32) _ n).trans ?_
  pointwise

/-- Column 2 of its box. -/
theorem at_4 (n : Fin 2000) : (V m c main_v15 : FVec Ideal S16x128 .f32) (ix2 (rowOf n) (laneOf n)) = inRois m c (ix2 n 2) := by
  rw [entry_4]
  refine (fold_at (e := .f32) _ n).trans ?_
  pointwise

/-- Column 3 of its box. -/
theorem at_5 (n : Fin 2000) : (V m c main_v19 : FVec Ideal S16x128 .f32) (ix2 (rowOf n) (laneOf n)) = inRois m c (ix2 n 3) := by
  rw [entry_5]
  refine (fold_at (e := .f32) _ n).trans ?_
  pointwise

/-- Column 0 of a ground-truth box as the call reads it. -/
theorem at_6 (k : Fin 64) : row64 (V m c main_v22 : FVec Ideal S1x64 .f32) k.val = inGt m c (ix2 k 0) := by
  refine (dif_pos k.isLt).trans ?_
  rw [entry_6]
  pointwise

/-- Column 1 of a ground-truth box as the call reads it. -/
theorem at_7 (k : Fin 64) : row64 (V m c main_v25 : FVec Ideal S1x64 .f32) k.val = inGt m c (ix2 k 1) := by
  refine (dif_pos k.isLt).trans ?_
  rw [entry_7]
  pointwise

/-- Column 2 of a ground-truth box as the call reads it. -/
theorem at_8 (k : Fin 64) : row64 (V m c main_v28 : FVec Ideal S1x64 .f32) k.val = inGt m c (ix2 k 2) := by
  refine (dif_pos k.isLt).trans ?_
  rw [entry_8]
  pointwise

/-- Column 3 of a ground-truth box as the call reads it. -/
theorem at_9 (k : Fin 64) : row64 (V m c main_v31 : FVec Ideal S1x64 .f32) k.val = inGt m c (ix2 k 3) := by
  refine (dif_pos k.isLt).trans ?_
  rw [entry_9]
  pointwise

/-- Its label. -/
theorem at_10 (k : Fin 64) : row64 (V m c main_v32 : IVec S1x64 32) k.val = inLab m c (ix1 k) := by
  refine (dif_pos k.isLt).trans ?_
  rw [entry_10]
  pointwise

/-- A size target: the logarithm of the ratio of the sizes. -/
def sizeT (g lo hi : EReal) : EReal := Ideal.log (Ideal.div g (hi - lo))

/-- A position target: the distance of the centres by the anchor's size. -/
def posT (g s lo hi : EReal) : EReal :=
  Ideal.div ((g + Ideal.ofBits .f32 0x3F000000#32 * s) - (lo + Ideal.ofBits .f32 0x3F000000#32 * (hi - lo))) (hi - lo)

/-- The label target: the label of the chosen box, 0 where the overlap is below the threshold. -/
def labT (u : EReal) (l : BitVec 32) : BitVec 32 := if u < Ideal.ofBits .f32 0x3ECCCCCD#32 then 0#32 else l

/-- A row's place is no padding. -/
theorem place_lt (n : Fin 2000) : 128 * (rowOf n).val + (laneOf n).val < 2000 := (number_at n).trans_lt n.isLt

variable (n : Fin 2000) (k : Fin 64) (h : inIdx m c (ix1 n) = BitVec.ofNat 32 k.val)
include h

/-- The call leaves the vertical position target of row `n`. -/
theorem left_11 : ((dats m 0 c).arrAt 11 cfg0.N : FVec Ideal S16x128 .f32) (ix2 (rowOf n) (laneOf n)) = posT (inGt m c (ix2 k 0)) (inGt m c (ix2 k 2)) (inRois m c (ix2 n 1)) (inRois m c (ix2 n 3)) := by
  refine (congrFun (arr_11 m c) _).trans ((out_11 _ _ _ _ _ _ _ _ _ _ _ _ _ (place_lt n)).trans ?_)
  rw [at_0, h]
  simp only [pick_eq _ _ k.val 64 k.isLt (le_refl 64)]
  rw [at_6, at_8, at_3, at_5]
  rfl

/-- The call leaves the horizontal position target of row `n`. -/
theorem left_12 : ((dats m 0 c).arrAt 12 cfg0.N : FVec Ideal S16x128 .f32) (ix2 (rowOf n) (laneOf n)) = posT (inGt m c (ix2 k 1)) (inGt m c (ix2 k 3)) (inRois m c (ix2 n 0)) (inRois m c (ix2 n 2)) := by
  refine (congrFun (arr_12 m c) _).trans ((out_12 _ _ _ _ _ _ _ _ _ _ _ _ _ (place_lt n)).trans ?_)
  rw [at_0, h]
  simp only [pick_eq _ _ k.val 64 k.isLt (le_refl 64)]
  rw [at_7, at_9, at_2, at_4]
  rfl

/-- The call leaves the height target of row `n`. -/
theorem left_13 : ((dats m 0 c).arrAt 13 cfg0.N : FVec Ideal S16x128 .f32) (ix2 (rowOf n) (laneOf n)) = sizeT (inGt m c (ix2 k 2)) (inRois m c (ix2 n 1)) (inRois m c (ix2 n 3)) := by
  refine (congrFun (arr_13 m c) _).trans ((out_13 _ _ _ _ _ _ _ _ _ _ _ _ _ (place_lt n)).trans ?_)
  rw [at_0, h]
  simp only [pick_eq _ _ k.val 64 k.isLt (le_refl 64)]
  rw [at_8, at_3, at_5]
  rfl

/-- The call leaves the width target of row `n`. -/
theorem left_14 : ((dats m 0 c).arrAt 14 cfg0.N : FVec Ideal S16x128 .f32) (ix2 (rowOf n) (laneOf n)) = sizeT (inGt m c (ix2 k 3)) (inRois m c (ix2 n 0)) (inRois m c (ix2 n 2)) := by
  refine (congrFun (arr_14 m c) _).trans ((out_14 _ _ _ _ _ _ _ _ _ _ _ _ _ (place_lt n)).trans ?_)
  rw [at_0, h]
  simp only [pick_eq _ _ k.val 64 k.isLt (le_refl 64)]
  rw [at_9, at_2, at_4]
  rfl

/-- The call leaves the label target of row `n`. -/
theorem left_15 : ((dats m 0 c).arrAt 15 cfg0.N : IVec S16x128 32) (ix2 (rowOf n) (laneOf n)) = labT (inIou m c (ix1 n)) (inLab m c (ix1 k)) := by
  refine (congrFun (arr_15 m c) _).trans ((out_15 _ _ _ _ _ _ _ _ _ _ _ _ _ (place_lt n)).trans ?_)
  rw [at_0, h]
  simp only [pick_eq _ _ k.val 64 k.isLt (le_refl 64)]
  rw [at_10, at_1]
  rfl

end Cert.Target

end
-- ==== Proof.Target.Ref.lean ====
/- What the target slice's reference computes at a row. -/
module

public import proofs.«01_k».proof.Proof.Target.Blocks
public import proofs.«01_k».proof.Proof.Head.Gather
public import proofs.«01_k».proof.Proof.Gen.Reference3Ideal.Run

@[expose] public section

set_option maxRecDepth 16384

noncomputable section

namespace Cert.Target.Ref

open Idealize.ShloMosaic Idealize.ShloMosaic.TcCoe Idealize.SL.Sem
open Cert.Reference3Ideal Cert.Reference3Ideal.Gen

/-- A column of a table as a vector. -/
def col0 (x : FVec Ideal S2000x4 .f32) : FVec Ideal S2000 .f32 :=
  shapeCast S2000 (extractStridedSlice S2000x1 ![0, 0] x slices_S2000x4_S2000x1_0_0) shapeCasts_S2000x1_S2000
/-- The second column. -/
def col1 (x : FVec Ideal S2000x4 .f32) : FVec Ideal S2000 .f32 :=
  shapeCast S2000 (extractStridedSlice S2000x1 ![0, 1] x slices_S2000x4_S2000x1_0_1) shapeCasts_S2000x1_S2000
/-- The third column. -/
def col2 (x : FVec Ideal S2000x4 .f32) : FVec Ideal S2000 .f32 :=
  shapeCast S2000 (extractStridedSlice S2000x1 ![0, 2] x slices_S2000x4_S2000x1_0_2) shapeCasts_S2000x1_S2000
/-- The fourth column. -/
def col3 (x : FVec Ideal S2000x4 .f32) : FVec Ideal S2000 .f32 :=
  shapeCast S2000 (extractStridedSlice S2000x1 ![0, 3] x slices_S2000x4_S2000x1_0_3) shapeCasts_S2000x1_S2000

/-- A vector as a column. -/
def up (y : FVec Ideal S2000 .f32) : FVec Ideal S2000x1 .f32 := broadcastInDim S2000x1 ![0] bcast_S2000_S2000x1_0 y

/-- Four vectors side by side. -/
def beside (y0 y1 y2 y3 : FVec Ideal S2000 .f32) : FVec Ideal S2000x4 .f32 :=
  concatenate S2000x4 1 [⟨S2000x1, up y0⟩, ⟨S2000x1, up y1⟩, ⟨S2000x1, up y2⟩, ⟨S2000x1, up y3⟩]
    concatenates_S2000x1_S2000x1_S2000x1_S2000x1_S2000x4_d1

/-- The columns at a row. -/
theorem col_at (x : FVec Ideal S2000x4 .f32) (n : Fin 2000) :
    col0 x (ix1 n) = x (ix2 n 0) ∧ col1 x (ix1 n) = x (ix2 n 1) ∧ col2 x (ix1 n) = x (ix2 n 2) ∧ col3 x (ix1 n) = x (ix2 n 3) := by
  refine ⟨?_, ?_, ?_, ?_⟩
  · pointwise [col0]
  · pointwise [col1]
  · pointwise [col2]
  · pointwise [col3]

/-- Four vectors side by side, read at a row. -/
theorem beside_at (y0 y1 y2 y3 : FVec Ideal S2000 .f32) (n : Fin 2000) :
    beside y0 y1 y2 y3 (ix2 n 0) = y0 (ix1 n) ∧ beside y0 y1 y2 y3 (ix2 n 1) = y1 (ix1 n)
    ∧ beside y0 y1 y2 y3 (ix2 n 2) = y2 (ix1 n) ∧ beside y0 y1 y2 y3 (ix2 n 3) = y3 (ix1 n) := by
  refine ⟨?_, ?_, ?_, ?_⟩
  · pointwise [beside, up]
  · pointwise [beside, up]
  · pointwise [beside, up]
  · pointwise [beside, up]

/-- The gather of the boxes at a result index, where the row's start index names a box. -/
theorem box_gather (x : FVec Ideal S64x4 .f32) (idx : IVec S2000x1 32) (n : Fin 2000) (k : Fin 64) (j : Fin 4) (h : idx (ix2 n 0) = BitVec.ofNat 32 k.val) :
    Host.gather gather_S64x4_S2000x1_S2000x4_1_0_n_n_0_1_14 x idx (ix2 n j) = x (ix2 k j) := by
  have hk : (BitVec.ofNat 32 k.val).toInt.toNat = k.val := by rw [Cert.Head.word_toInt _ (by omega)]; rfl
  unfold Host.gather
  congr 1
  funext a
  refine Fin.ext ?_
  show (gather_S64x4_S2000x1_S2000x4_1_0_n_n_0_1_14).start (ix2 n j) idx a + (gather_S64x4_S2000x1_S2000x4_1_0_n_n_0_1_14).batchCoord (ix2 n j) a + (gather_S64x4_S2000x1_S2000x4_1_0_n_n_0_1_14).offCoord (ix2 n j) a = _
  rw [GatherDims.batchCoord_eq_zero _ _ _ List.not_mem_nil]
  match a with
  | ⟨0, h0a⟩ =>
    rw [GatherDims.offCoord_eq_zero _ _ _ (fun h => ((GatherDims.mem_sKept _ _).mp h).1 (show (0 : Fin 2) ∈ [(0 : Fin 2)] by decide))]
    unfold GatherDims.start
    rw [dif_pos (show (⟨0, h0a⟩ : Fin 2) ∈ (gather_S64x4_S2000x1_S2000x4_1_0_n_n_0_1_14).startIndexMap from (show (0 : Fin 2) ∈ [(0 : Fin 2)] by decide))]
    have hsi : ∀ h, (gather_S64x4_S2000x1_S2000x4_1_0_n_n_0_1_14).siIdx (ix2 n j) ⟨List.idxOf (0 : Fin 2) (gather_S64x4_S2000x1_S2000x4_1_0_n_n_0_1_14).startIndexMap, h⟩ = ix2 n 0 := by
      intro h; funext b; refine Fin.ext ?_
      match b with
      | ⟨0, _⟩ => rfl
      | ⟨1, _⟩ => rfl
    erw [hsi]
    rw [h, hk]
    have := k.isLt
    show min k.val (64 - 1) + 0 + 0 = k.val
    omega
  | ⟨1, h1a⟩ =>
    unfold GatherDims.start
    rw [dif_neg (show (⟨1, h1a⟩ : Fin 2) ∉ (gather_S64x4_S2000x1_S2000x4_1_0_n_n_0_1_14).startIndexMap from (show (1 : Fin 2) ∉ [(0 : Fin 2)] by decide))]
    simp only [Nat.zero_add]
    rfl

/-- The gather of the labels likewise. -/
theorem label_gather (x : IVec S64 32) (idx : IVec S2000x1 32) (n : Fin 2000) (k : Fin 64) (h : idx (ix2 n 0) = BitVec.ofNat 32 k.val) :
    Host.gather gather_S64_S2000x1_S2000_n_0_n_n_0_1_1 x idx (ix1 n) = x (ix1 k) := by
  have hk : (BitVec.ofNat 32 k.val).toInt.toNat = k.val := by rw [Cert.Head.word_toInt _ (by omega)]; rfl
  unfold Host.gather
  congr 1
  funext a
  refine Fin.ext ?_
  show (gather_S64_S2000x1_S2000_n_0_n_n_0_1_1).start (ix1 n) idx a + (gather_S64_S2000x1_S2000_n_0_n_n_0_1_1).batchCoord (ix1 n) a + (gather_S64_S2000x1_S2000_n_0_n_n_0_1_1).offCoord (ix1 n) a = _
  rw [GatherDims.batchCoord_eq_zero _ _ _ List.not_mem_nil]
  match a with
  | ⟨0, h0a⟩ =>
    rw [GatherDims.offCoord_eq_zero _ _ _ (fun h => ((GatherDims.mem_sKept _ _).mp h).1 (show (0 : Fin 1) ∈ [(0 : Fin 1)] by decide))]
    unfold GatherDims.start
    rw [dif_pos (show (⟨0, h0a⟩ : Fin 1) ∈ (gather_S64_S2000x1_S2000_n_0_n_n_0_1_1).startIndexMap from (show (0 : Fin 1) ∈ [(0 : Fin 1)] by decide))]
    have hsi : ∀ h, (gather_S64_S2000x1_S2000_n_0_n_n_0_1_1).siIdx (ix1 n) ⟨List.idxOf (0 : Fin 1) (gather_S64_S2000x1_S2000_n_0_n_n_0_1_1).startIndexMap, h⟩ = ix2 n 0 := by
      intro h; funext b; refine Fin.ext ?_
      match b with
      | ⟨0, _⟩ => rfl
      | ⟨1, _⟩ => rfl
    erw [hsi]
    rw [h, hk]
    have := k.isLt
    show min k.val (64 - 1) + 0 + 0 = k.val
    omega

variable (m : (ℓ : Loc nD τ sig) → Buf (Elt Ideal) ℓ) (c : Dev nD)

/-- The chosen indices. -/
abbrev argIdx : IVec S2000 32 := m ((c.tc : Thread nD τ).loc main_arg0)
/-- The largest overlaps. -/
abbrev argIou : FVec Ideal S2000 .f32 := m ((c.tc : Thread nD τ).loc main_arg1)
/-- The anchor boxes. -/
abbrev argRois : FVec Ideal S2000x4 .f32 := m ((c.tc : Thread nD τ).loc main_arg2)
/-- The ground-truth boxes. -/
abbrev argGt : FVec Ideal S64x4 .f32 := m ((c.tc : Thread nD τ).loc main_arg3)
/-- Their labels. -/
abbrev argLab : IVec S64 32 := m ((c.tc : Thread nD τ).loc main_arg4)

/-- The start indices of both gathers: a negative index counted from the end. -/
def startsA : IVec S2000x1 32 :=
  broadcastInDim S2000x1 ![0] bcast_S2000_S2000x1_0 (select (cmpi .slt (argIdx m c) (broadcastInDim S2000 ![] bcast_S_S2000 (constantI S_ 32 0#32)))
    (addi (argIdx m c) (broadcastInDim S2000 ![] bcast_S_S2000 (constantI S_ 32 64#32))) (argIdx m c))

/-- The start index of a row is its index. -/
theorem starts_at (n : Fin 2000) (k : Fin 64) (h : argIdx m c (ix1 n) = BitVec.ofNat 32 k.val) : startsA m c (ix2 n 0) = BitVec.ofNat 32 k.val := by
  pointwise [startsA]
  rw [h, Cert.Head.word_nonneg _ (by omega)]
  rfl

/-- The chosen boxes. -/
def pickedA : FVec Ideal S2000x4 .f32 := Host.gather gather_S64x4_S2000x1_S2000x4_1_0_n_n_0_1_14 (argGt m c) (startsA m c)

/-- The anchors as corner and sides. -/
def ancA : FVec Ideal S2000x4 .f32 :=
  beside (col1 (argRois m c)) (col0 (argRois m c)) (subf (col3 (argRois m c)) (col1 (argRois m c))) (subf (col2 (argRois m c)) (col0 (argRois m c)))

/-- One half in every row. -/
def halfA : FVec Ideal S2000 .f32 := broadcastInDim S2000 ![] bcast_S_S2000 (constant S_ .f32 0x3F000000#32)

/-- The targets from anchors and chosen boxes. -/
def locA (q d : FVec Ideal S2000x4 .f32) : FVec Ideal S2000x4 .f32 :=
  beside
    (Host.divf (subf (addf (col0 d) (mulf halfA (col2 d))) (addf (col0 q) (mulf halfA (col2 q)))) (col2 q))
    (Host.divf (subf (addf (col1 d) (mulf halfA (col3 d))) (addf (col1 q) (mulf halfA (col3 q)))) (col3 q))
    (Host.log (Host.divf (col2 d) (col2 q)))
    (Host.log (Host.divf (col3 d) (col3 q)))

/-- The reference's first result is made so. -/
theorem result_loc : Cert.Reference3Ideal.Value.res_main_v88 m c = locA (ancA m c) (pickedA m c) := rfl

/-- The reference's second result: the labels of the chosen boxes, 0 where the overlap is below the threshold. -/
def labA : IVec S2000 32 :=
  select (cmpf .olt (argIou m c) (broadcastInDim S2000 ![] bcast_S_S2000 (constant S_ .f32 0x3ECCCCCD#32)))
    (broadcastInDim S2000 ![] bcast_S_S2000 (id (constantI S_ 32 0#32)))
    (Host.gather gather_S64_S2000x1_S2000_n_0_n_n_0_1_1 (argLab m c) (startsA m c))

variable (n : Fin 2000) (k : Fin 64) (h : argIdx m c (ix1 n) = BitVec.ofNat 32 k.val)
include h

/-- A chosen box. -/
theorem picked_at (j : Fin 4) : pickedA m c (ix2 n j) = argGt m c (ix2 k j) := box_gather _ _ n k j (starts_at m c n k h)

/-- The label target of a row. -/
theorem lab_at : labA m c (ix1 n) = labT (argIou m c (ix1 n)) (argLab m c (ix1 k)) := by
  have g := label_gather (argLab m c) (startsA m c) n k (starts_at m c n k h)
  revert g
  unfold labA
  generalize Host.gather gather_S64_S2000x1_S2000_n_0_n_n_0_1_1 (argLab m c) (startsA m c) = w
  intro g
  pointwise
  rw [g, labT]
  rfl

/-- The box targets of a row. -/
theorem loc_at :
    locA (ancA m c) (pickedA m c) (ix2 n 0)
      = posT (argGt m c (ix2 k 0)) (argGt m c (ix2 k 2)) (argRois m c (ix2 n 1)) (argRois m c (ix2 n 3))
    ∧ locA (ancA m c) (pickedA m c) (ix2 n 1)
      = posT (argGt m c (ix2 k 1)) (argGt m c (ix2 k 3)) (argRois m c (ix2 n 0)) (argRois m c (ix2 n 2))
    ∧ locA (ancA m c) (pickedA m c) (ix2 n 2) = sizeT (argGt m c (ix2 k 2)) (argRois m c (ix2 n 1)) (argRois m c (ix2 n 3))
    ∧ locA (ancA m c) (pickedA m c) (ix2 n 3) = sizeT (argGt m c (ix2 k 3)) (argRois m c (ix2 n 0)) (argRois m c (ix2 n 2)) := by
  unfold locA
  have q := beside_at (col1 (argRois m c)) (col0 (argRois m c)) (subf (col3 (argRois m c)) (col1 (argRois m c)))
    (subf (col2 (argRois m c)) (col0 (argRois m c))) n
  have r := col_at (argRois m c) n
  have u := col_at (ancA m c) n
  have s := col_at (pickedA m c) n
  have hf : halfA (ix1 n) = Ideal.ofBits .f32 0x3F000000#32 := by pointwise [halfA]
  have q0 : ancA m c (ix2 n 0) = argRois m c (ix2 n 1) := q.1.trans r.2.1
  have q1 : ancA m c (ix2 n 1) = argRois m c (ix2 n 0) := q.2.1.trans r.1
  have q2 : ancA m c (ix2 n 2) = argRois m c (ix2 n 3) - argRois m c (ix2 n 1) := by
    refine q.2.2.1.trans ?_
    pointwise
    rw [r.2.2.2, r.2.1]
  have q3 : ancA m c (ix2 n 3) = argRois m c (ix2 n 2) - argRois m c (ix2 n 0) := by
    refine q.2.2.2.trans ?_
    pointwise
    rw [r.2.2.1, r.1]
  rw [(beside_at _ _ _ _ n).1, (beside_at _ _ _ _ n).2.1, (beside_at _ _ _ _ n).2.2.1, (beside_at _ _ _ _ n).2.2.2]
  pointwise
  simp only [u.1, u.2.1, u.2.2.1, u.2.2.2, s.1, s.2.1, s.2.2.1, s.2.2.2, hf, q0, q1, q2, q3, picked_at m c n k h, posT, sizeT, and_self]

end Cert.Target.Ref

end
-- ==== Proof.Target.Run.lean ====
/- The target slice's run: what it leaves in its two results. -/
module

public import proofs.«01_k».proof.Proof.Target.Blocks
public import Idealize.ShloMosaic.Lib.Claim

@[expose] public section

set_option maxRecDepth 16384

noncomputable section

namespace Cert.Target

open Idealize.ShloMosaic Idealize.ShloMosaic.TcCoe Idealize.SL.Sem
open Cert.Kernel3Ideal Cert.Kernel3Ideal.Gen

/-- A 16 by 128 array as 2000 entries, the padding cut off. -/
def flat {e : EltTy} (y : Vec Ideal S16x128 e) : Vec Ideal S2000 e :=
  extractStridedSlice S2000 ![0] (shapeCast S2048 y shapeCasts_S16x128_S2048) slices_S2048_S2000_0

/-- It, read at a row. -/
theorem flat_at {e : EltTy} (y : Vec Ideal S16x128 e) (n : Fin 2000) : flat y (ix1 n) = y (ix2 (rowOf n) (laneOf n)) := by
  pointwise [flat]
  rfl

/-- The same as a column. -/
def flatCol (y : FVec Ideal S16x128 .f32) : FVec Ideal S2000x1 .f32 :=
  broadcastInDim S2000x1 ![0] bcast_S2000_S2000x1_0 (extractStridedSlice S2000 ![0] (shapeCast S2048 y shapeCasts_S16x128_S2048) slices_S2048_S2000_0)

/-- Four such columns side by side. -/
def table (y0 y1 y2 y3 : FVec Ideal S16x128 .f32) : FVec Ideal S2000x4 .f32 :=
  concatenate S2000x4 1 [⟨S2000x1, flatCol y0⟩, ⟨S2000x1, flatCol y1⟩, ⟨S2000x1, flatCol y2⟩, ⟨S2000x1, flatCol y3⟩]
    concatenates_S2000x1_S2000x1_S2000x1_S2000x1_S2000x4_d1

/-- The columns of the table, read at a row. -/
theorem table_at (y0 y1 y2 y3 : FVec Ideal S16x128 .f32) (n : Fin 2000) :
    table y0 y1 y2 y3 (ix2 n 0) = y0 (ix2 (rowOf n) (laneOf n)) ∧ table y0 y1 y2 y3 (ix2 n 1) = y1 (ix2 (rowOf n) (laneOf n))
    ∧ table y0 y1 y2 y3 (ix2 n 2) = y2 (ix2 (rowOf n) (laneOf n)) ∧ table y0 y1 y2 y3 (ix2 n 3) = y3 (ix2 (rowOf n) (laneOf n)) := by
  refine ⟨?_, ?_, ?_, ?_⟩
  · pointwise [table, flatCol]
    rfl
  · pointwise [table, flatCol]
    rfl
  · pointwise [table, flatCol]
    rfl
  · pointwise [table, flatCol]
    rfl

/-- Columns that are equal one by one stand side by side alike. -/
theorem beside_congr {u0 u1 u2 u3 v0 v1 v2 v3 : FVec Ideal S2000x1 .f32} (h0 : u0 = v0) (h1 : u1 = v1) (h2 : u2 = v2) (h3 : u3 = v3) :
    concatenate S2000x4 1 [⟨S2000x1, u0⟩, ⟨S2000x1, u1⟩, ⟨S2000x1, u2⟩, ⟨S2000x1, u3⟩] concatenates_S2000x1_S2000x1_S2000x1_S2000x1_S2000x4_d1
      = concatenate S2000x4 1 [⟨S2000x1, v0⟩, ⟨S2000x1, v1⟩, ⟨S2000x1, v2⟩, ⟨S2000x1, v3⟩] concatenates_S2000x1_S2000x1_S2000x1_S2000x1_S2000x4_d1 := by
  rw [h0, h1, h2, h3]

/-- The host operations after the call build the first result from the first four arrays. -/
theorem tail_loc (X : Valuation τ sig (Elt Ideal)) : StableHlo.after hostOps1 X (Proc.tc.devRef main_v46)
    = table (X (Proc.tc.devRef main_v33_0)) (X (Proc.tc.devRef main_v33_1)) (X (Proc.tc.devRef main_v33_2)) (X (Proc.tc.devRef main_v33_3)) := by
  simp only [hostOps1]
  after_results_simp
  refine beside_congr ?_ ?_ ?_ ?_
  all_goals (dsimp only [Matrix.cons_val]; after_results_simp; rfl)

/-- The host operations after the call build the second result from the fifth array. -/
theorem tail_lab (X : Valuation τ sig (Elt Ideal)) : StableHlo.after hostOps1 X (Proc.tc.devRef main_v48)
    = flat (e := .i32) (X (Proc.tc.devRef main_v33_4)) := by
  simp only [hostOps1]
  after_results_simp
  rfl

variable (m : (ℓ : Loc nD τ sig) → Buf (Elt Ideal) ℓ) (g : Dev nD → PrngReg)

/-- The arrays that the first four outputs of the call hold after it. -/
def outArr (c : Dev nD) (k : Fin 4) : FVec Ideal S16x128 .f32 := match k with
  | 0 => (dats m 0 c).arrAt 11 cfg0.N
  | 1 => (dats m 0 c).arrAt 12 cfg0.N
  | 2 => (dats m 0 c).arrAt 13 cfg0.N
  | 3 => (dats m 0 c).arrAt 14 cfg0.N

/-- The array that the fifth output holds. -/
def outLab (c : Dev nD) : IVec S16x128 32 := (dats m 0 c).arrAt 15 cfg0.N

/-- Different windows have different arrays. -/
theorem arrays_inj : Function.Injective (Pipeline.arrRef (cfgs 0).spec) := by decide +kernel

/-- The buffers right after the call. -/
abbrev after (c : Dev nD) := Pipeline.withArrays (cfgs 0).spec c (V0 m c) (fun w => (dats m 0 c).arrAt w (cfgs 0).N)

/-- After the call the first four result buffers hold those arrays. -/
theorem exit_loc (c : Dev nD) : after m c (Proc.tc.devRef main_v33_0) = outArr m c 0 ∧ after m c (Proc.tc.devRef main_v33_1) = outArr m c 1
    ∧ after m c (Proc.tc.devRef main_v33_2) = outArr m c 2 ∧ after m c (Proc.tc.devRef main_v33_3) = outArr m c 3 :=
  have e := Pipeline.withArrays_arr (cfgs 0).spec arrays_inj c (V0 m c) (fun w => (dats m 0 c).arrAt w (cfgs 0).N)
  ⟨e (11 : Fin 16), e (12 : Fin 16), e (13 : Fin 16), e (14 : Fin 16)⟩

/-- After the call the fifth result buffer holds its array. -/
theorem exit_lab (c : Dev nD) : after m c (Proc.tc.devRef main_v33_4) = outLab m c :=
  Pipeline.withArrays_arr (cfgs 0).spec arrays_inj c (V0 m c) (fun w => (dats m 0 c).arrAt w (cfgs 0).N) (15 : Fin 16)

/-- Tables of equal arrays are equal. -/
theorem table_congr {x0 x1 x2 x3 y0 y1 y2 y3 : FVec Ideal S16x128 .f32} (h : x0 = y0 ∧ x1 = y1 ∧ x2 = y2 ∧ x3 = y3) :
    table x0 x1 x2 x3 = table y0 y1 y2 y3 := by
  rw [h.1, h.2.1, h.2.2.1, h.2.2.2]

/-- The two results are the table of the first four arrays and the fifth array. -/
theorem results : θ_run defs (onTc (τ := τ) (main (F := Ideal))) ⟨m, fun _ => 0, g⟩ (fun r => ∀ c : Dev nD,
    r.2.mem ((c.tc : Thread nD τ).loc main_v46) = table (outArr m c 0) (outArr m c 1) (outArr m c 2) (outArr m c 3)
    ∧ r.2.mem ((c.tc : Thread nD τ).loc main_v48) = flat (e := .i32) (outLab m c)) := by
  run_from run_main m g
  all_goals (unfold Pipeline.afterTail₀; simp only [List.flatten_cons, List.flatten_nil, List.append_nil])
  · exact (tail_loc (after m c)).trans (table_congr (exit_loc m c))
  · exact (tail_lab (after m c)).trans (congrArg (flat (e := .i32)) (exit_lab m c))

end Cert.Target

end
-- ==== Proof.Target.Chosen.lean ====
/- What the precondition says: every index names a ground-truth box. -/
module

public import proofs.«01_k».proof.Defs
public import proofs.«01_k».proof.Proof.Target.Windows

@[expose] public section

set_option maxRecDepth 16384

noncomputable section

namespace Cert.Target

open Idealize.ShloMosaic Idealize.ShloMosaic.TcCoe Idealize.SL.Sem
open Cert.Kernel3Ideal Cert.Kernel3Ideal.Gen

/-- The precondition's shape facts. -/
theorem chosen_facts : Cert.Pre_chosen.Facts where
  bcast_S_S2000 := by decide

/-- A word that is at least 0 and below 64 is one of the numbers 0 to 63. -/
theorem index_of (x : BitVec 32) (h : IntOp.cmpi .sge x 0#32 &&& IntOp.cmpi .slt x 64#32 = 1#1) : ∃ k : Fin 64, x = BitVec.ofNat 32 k.val := by
  have h1 : (0#32).sle x = true ∧ x.slt 64#32 = true := by
    revert h
    simp only [IntOp.cmpi]
    cases (0#32).sle x <;> cases x.slt 64#32 <;> simp
  have h2 : x.toNat < 64 := by
    have a := h1.1
    have b := h1.2
    simp only [BitVec.sle, BitVec.slt, decide_eq_true_eq, BitVec.toInt_eq_toNat_cond] at a b
    have : x.toNat < 2 ^ 32 := x.isLt
    simp at a b
    split at a <;> omega
  exact ⟨⟨x.toNat, h2⟩, by simp⟩

/-- Every row's index names a box. -/
theorem index (m : (ℓ : Loc nD τ sig) → Buf (Elt Ideal) ℓ) (h : haveI := chosen_facts; Cert.Pre_Kernel3Ideal_chosen m) (c : Dev nD) (n : Fin 2000) :
    ∃ k : Fin 64, inIdx m c (ix1 n) = BitVec.ofNat 32 k.val :=
  index_of _ (congrFun (h c) (ix1 n))

end Cert.Target

end
-- ==== Proof.Target.Agree.lean ====
/- The target slice and its reference leave the same box and label targets. -/
module

public import proofs.«01_k».proof.Proof.Target.Ref
public import proofs.«01_k».proof.Proof.Target.Run
public import proofs.«01_k».proof.Proof.Target.Chosen

@[expose] public section

set_option maxRecDepth 16384

noncomputable section

namespace Cert.Target

open Idealize.ShloMosaic Idealize.ShloMosaic.TcCoe Idealize.SL.Sem
open Cert.Kernel3Ideal Cert.Kernel3Ideal.Gen

/-- Two tables of 2000 rows and four columns are equal when their columns are, row by row. -/
theorem table_ext {x y : FVec Ideal S2000x4 .f32} (h0 : ∀ n : Fin 2000, x (ix2 n 0) = y (ix2 n 0)) (h1 : ∀ n : Fin 2000, x (ix2 n 1) = y (ix2 n 1))
    (h2 : ∀ n : Fin 2000, x (ix2 n 2) = y (ix2 n 2)) (h3 : ∀ n : Fin 2000, x (ix2 n 3) = y (ix2 n 3)) : x = y := by
  funext i
  idx_vars i
  fin_cases i1
  · exact h0 i0
  · exact h1 i0
  · exact h2 i0
  · exact h3 i0

variable (m : (ℓ : Loc nD τ sig) → Buf (Elt Ideal) ℓ)
  (m' : (ℓ : Loc Cert.Reference3Ideal.nD Cert.Reference3Ideal.τ Cert.Reference3Ideal.sig) → Buf (Elt Ideal) ℓ) (c : Dev nD)

/-- The arguments of the two programs agree. -/
structure Same : Prop where
  idx : Ref.argIdx m' c = inIdx m c
  iou : Ref.argIou m' c = inIou m c
  rois : Ref.argRois m' c = inRois m c
  gt : Ref.argGt m' c = inGt m c
  lab : Ref.argLab m' c = inLab m c

variable (s : Same m m' c) (h : haveI := chosen_facts; Cert.Pre_Kernel3Ideal_chosen m)
include s h

/-- The box targets are equal. -/
theorem loc_same : Cert.Reference3Ideal.Value.res_main_v88 m' c = table (outArr m c 0) (outArr m c 1) (outArr m c 2) (outArr m c 3) := by
  refine (Ref.result_loc m' c).trans (table_ext (fun n => ?_) (fun n => ?_) (fun n => ?_) (fun n => ?_))
  all_goals
    obtain ⟨k, hk⟩ := index m h c n
    have r := Ref.loc_at m' c n k ((congrFun s.idx _).trans hk)
    simp only [s.gt, s.rois] at r
  · exact r.1.trans ((table_at _ _ _ _ n).1.trans (left_11 m c n k hk)).symm
  · exact r.2.1.trans ((table_at _ _ _ _ n).2.1.trans (left_12 m c n k hk)).symm
  · exact r.2.2.1.trans ((table_at _ _ _ _ n).2.2.1.trans (left_13 m c n k hk)).symm
  · exact r.2.2.2.trans ((table_at _ _ _ _ n).2.2.2.trans (left_14 m c n k hk)).symm

/-- The label targets are equal. -/
theorem lab_same : Ref.labA m' c = flat (e := .i32) (outLab m c) := by
  funext i
  idx_vars i
  obtain ⟨k, hk⟩ := index m h c i0
  have r := Ref.lab_at m' c i0 k ((congrFun s.idx _).trans hk)
  simp only [s.iou, s.lab] at r
  exact r.trans ((flat_at _ i0).trans (left_15 m c i0 k hk)).symm

end Cert.Target

end
-- ==== Proof.Overlap.Pay.lean ====
/- What the overlap slice computes at a row and a lane: the best of 64 overlaps. -/
module

public import proofs.«01_k».proof.Proof.Gen.Kernel4Ideal.Frame
public import Idealize.ShloMosaic.Lib.Pointwise
public import Idealize.ShloMosaic.Lib.Pipeline.ValueKit.Basic

@[expose] public section

set_option maxRecDepth 16384

noncomputable section

namespace Cert.Overlap

open Idealize.ShloMosaic Idealize.ShloMosaic.TcCoe Idealize.SL.Sem
open Cert.Kernel4Ideal Cert.Kernel4Ideal.Gen

/-- The overlap of two boxes, each as corner and sides: the common area by the area of both together. -/
def iouE (py px ph pw gy gx gh gw : EReal) : EReal :=
  Ideal.div
    (max (min (py + ph) (gy + gh) - max py gy) 0 * max (min (px + pw) (gx + gw) - max px gx) 0)
    (ph * pw + gh * gw
      - max (min (py + ph) (gy + gh) - max py gy) 0 * max (min (px + pw) (gx + gw) - max px gx) 0)

/-- The largest of the first `n` entries of a list and -1. -/
def bestV (u : ℕ → EReal) : ℕ → EReal
  | 0 => Ideal.ofBits .f32 0xBF800000#32
  | n + 1 => max (bestV u n) (u n)

/-- The number of the first among them that is largest, 0 if none is above -1. -/
def bestI (u : ℕ → EReal) : ℕ → BitVec 32
  | 0 => 0#32
  | n + 1 => if bestV u n < u n then BitVec.ofNat 32 n else bestI u n

/-- An entry of one row of 64, by its number. -/
def row64 (x : S1x64.Idx → EReal) (k : ℕ) : EReal := if h : k < 64 then x (ix2 0 ⟨k, h⟩) else x (ix2 0 0)

/-- The call's largest overlap. -/
theorem out_9 (x0 x1 x2 x3 : Vec Ideal S16x128 .f32) (x4 x5 x6 x7 : Vec Ideal S1x64 .f32) (a : Fin 16) (b : Fin 128) :
    out0_9 (F := Ideal) x0 x1 x2 x3 x4 x5 x6 x7 (ix2 a b) = bestV (fun k => iouE (x0 (ix2 a b)) (x1 (ix2 a b)) (x2 (ix2 a b)) (x3 (ix2 a b)) (row64 x4 k) (row64 x5 k) (row64 x6 k) (row64 x7 k)) 64 := by
  unfold_out out0_9
  rw [View.canon_cons_unit_lit _ _ _ (by decide)]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433]
  rfl

end Cert.Overlap

end
-- ==== Proof.Overlap.Pay8.lean ====
/- The number of the best overlap. -/
module

public import proofs.«01_k».proof.Proof.Overlap.Pay

@[expose] public section

set_option maxRecDepth 16384

noncomputable section

namespace Cert.Overlap

open Idealize.ShloMosaic Idealize.ShloMosaic.TcCoe Idealize.SL.Sem
open Cert.Kernel4Ideal Cert.Kernel4Ideal.Gen

set_option maxHeartbeats 20000000 in
/-- The call's largest overlap's number. -/
theorem out_8 (x0 x1 x2 x3 : Vec Ideal S16x128 .f32) (x4 x5 x6 x7 : Vec Ideal S1x64 .f32) (a : Fin 16) (b : Fin 128) :
    out0_8 (F := Ideal) x0 x1 x2 x3 x4 x5 x6 x7 (ix2 a b) = bestI (fun k => iouE (x0 (ix2 a b)) (x1 (ix2 a b)) (x2 (ix2 a b)) (x3 (ix2 a b)) (row64 x4 k) (row64 x5 k) (row64 x6 k) (row64 x7 k)) 64 := by
  unfold_out out0_8
  rw [View.canon_cons_unit_lit _ _ _ (by decide)]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433]
  rfl

end Cert.Overlap

end
-- ==== Proof.Overlap.Windows.lean ====
/- What the overlap slice's windows read and leave: its one grid point takes every array whole. -/
module

public import proofs.«01_k».proof.Proof.Overlap.Pay8

@[expose] public section

set_option maxRecDepth 16384

noncomputable section

namespace Cert.Overlap

open Idealize.ShloMosaic Idealize.ShloMosaic.TcCoe Idealize.SL.Sem
open Cert.Kernel4Ideal Cert.Kernel4Ideal.Gen

variable (m : (ℓ : Loc nD τ sig) → Buf (Elt Ideal) ℓ) (c : Dev nD)

/-- The predicted boxes. -/
abbrev inPred : FVec Ideal S2000x4 .f32 := m ((c.tc : Thread nD τ).loc main_arg0)
/-- The ground-truth boxes. -/
abbrev inGt : FVec Ideal S64x4 .f32 := m ((c.tc : Thread nD τ).loc main_arg1)

/-- The zero that the vectors are padded with. -/
def fill : FVec Ideal S_ .f32 := sitofp .f32 (constantI S_ 32 0#32)

/-- The row of the 16 by 128 array where row `n` of the table stands. -/
def rowOf (n : Fin 2000) : Fin 16 := ⟨n.val / 128, by omega⟩

/-- The lane where it stands. -/
def laneOf (n : Fin 2000) : Fin 128 := ⟨n.val % 128, by omega⟩

/-- Row and lane together give the number back. -/
theorem number_at (n : Fin 2000) : 128 * (rowOf n).val + (laneOf n).val = n.val := Nat.div_add_mod n.val 128

/-- A folded vector at the place of row `n`. -/
theorem fold_at {e : EltTy} (y : Vec Ideal S2048 e) (n : Fin 2000) :
    shapeCast S16x128 y shapeCasts_S2048_S16x128 (ix2 (rowOf n) (laneOf n)) = y (ix1 ⟨n.val, by omega⟩) := by
  pointwise
  refine congrArg y (congrArg ix1 (Fin.ext ?_))
  show (rowOf n).val * 128 + (laneOf n).val = n.val
  rw [← number_at n]
  ring_nf

/-- What the host lays out for window 0. -/
theorem entry_0 : V m c main_v3 = shapeCast S16x128 (pad S2048 ![0] ![48] ![0] (shapeCast S2000
    (extractStridedSlice S2000x1 ![0, 0] (inPred m c) slices_S2000x4_S2000x1_0_0) shapeCasts_S2000x1_S2000) fill pads_S2000_S2048_0480 h_S_) shapeCasts_S2048_S16x128 := by
  unfold V V0
  simp only [hostOps0, hostOps0_1, hostOps0_2, hostOps0_3, hostOps0_4, hostOps0_5, hostOps0_6, hostOps0_7, hostOps0_8,
    List.flatten_cons, List.flatten_nil, List.cons_append, List.nil_append, List.append_nil]
  entry_read
  rfl

/-- What the host lays out for window 1. -/
theorem entry_1 : V m c main_v7 = shapeCast S16x128 (pad S2048 ![0] ![48] ![0] (shapeCast S2000
    (extractStridedSlice S2000x1 ![0, 1] (inPred m c) slices_S2000x4_S2000x1_0_1) shapeCasts_S2000x1_S2000) fill pads_S2000_S2048_0480 h_S_) shapeCasts_S2048_S16x128 := by
  unfold V V0
  simp only [hostOps0, hostOps0_1, hostOps0_2, hostOps0_3, hostOps0_4, hostOps0_5, hostOps0_6, hostOps0_7, hostOps0_8,
    List.flatten_cons, List.flatten_nil, List.cons_append, List.nil_append, List.append_nil]
  entry_read
  rfl

/-- What the host lays out for window 2. -/
theorem entry_2 : V m c main_v11 = shapeCast S16x128 (pad S2048 ![0] ![48] ![0] (shapeCast S2000
    (extractStridedSlice S2000x1 ![0, 2] (inPred m c) slices_S2000x4_S2000x1_0_2) shapeCasts_S2000x1_S2000) fill pads_S2000_S2048_0480 h_S_) shapeCasts_S2048_S16x128 := by
  unfold V V0
  simp only [hostOps0, hostOps0_1, hostOps0_2, hostOps0_3, hostOps0_4, hostOps0_5, hostOps0_6, hostOps0_7, hostOps0_8,
    List.flatten_cons, List.flatten_nil, List.cons_append, List.nil_append, List.append_nil]
  entry_read
  rfl

/-- What the host lays out for window 3. -/
theorem entry_3 : V m c main_v15 = shapeCast S16x128 (pad S2048 ![0] ![48] ![0] (shapeCast S2000
    (extractStridedSlice S2000x1 ![0, 3] (inPred m c) slices_S2000x4_S2000x1_0_3) shapeCasts_S2000x1_S2000) fill pads_S2000_S2048_0480 h_S_) shapeCasts_S2048_S16x128 := by
  unfold V V0
  simp only [hostOps0, hostOps0_1, hostOps0_2, hostOps0_3, hostOps0_4, hostOps0_5, hostOps0_6, hostOps0_7, hostOps0_8,
    List.flatten_cons, List.flatten_nil, List.cons_append, List.nil_append, List.append_nil]
  entry_read
  rfl

/-- What the host lays out for window 4. -/
theorem entry_4 : V m c main_v18 = broadcastInDim S1x64 ![1] bcast_S64_S1x64_1 (shapeCast S64 (extractStridedSlice S64x1 ![0, 0] (inGt m c) slices_S64x4_S64x1_0_0) shapeCasts_S64x1_S64) := by
  unfold V V0
  simp only [hostOps0, hostOps0_1, hostOps0_2, hostOps0_3, hostOps0_4, hostOps0_5, hostOps0_6, hostOps0_7, hostOps0_8,
    List.flatten_cons, List.flatten_nil, List.cons_append, List.nil_append, List.append_nil]
  entry_read
  rfl

/-- What the host lays out for window 5. -/
theorem entry_5 : V m c main_v21 = broadcastInDim S1x64 ![1] bcast_S64_S1x64_1 (shapeCast S64 (extractStridedSlice S64x1 ![0, 1] (inGt m c) slices_S64x4_S64x1_0_1) shapeCasts_S64x1_S64) := by
  unfold V V0
  simp only [hostOps0, hostOps0_1, hostOps0_2, hostOps0_3, hostOps0_4, hostOps0_5, hostOps0_6, hostOps0_7, hostOps0_8,
    List.flatten_cons, List.flatten_nil, List.cons_append, List.nil_append, List.append_nil]
  entry_read
  rfl

/-- What the host lays out for window 6. -/
theorem entry_6 : V m c main_v24 = broadcastInDim S1x64 ![1] bcast_S64_S1x64_1 (shapeCast S64 (extractStridedSlice S64x1 ![0, 2] (inGt m c) slices_S64x4_S64x1_0_2) shapeCasts_S64x1_S64) := by
  unfold V V0
  simp only [hostOps0, hostOps0_1, hostOps0_2, hostOps0_3, hostOps0_4, hostOps0_5, hostOps0_6, hostOps0_7, hostOps0_8,
    List.flatten_cons, List.flatten_nil, List.cons_append, List.nil_append, List.append_nil]
  entry_read
  rfl

/-- What the host lays out for window 7. -/
theorem entry_7 : V m c main_v27 = broadcastInDim S1x64 ![1] bcast_S64_S1x64_1 (shapeCast S64 (extractStridedSlice S64x1 ![0, 3] (inGt m c) slices_S64x4_S64x1_0_3) shapeCasts_S64x1_S64) := by
  unfold V V0
  simp only [hostOps0, hostOps0_1, hostOps0_2, hostOps0_3, hostOps0_4, hostOps0_5, hostOps0_6, hostOps0_7, hostOps0_8,
    List.flatten_cons, List.flatten_nil, List.cons_append, List.nil_append, List.append_nil]
  entry_read
  rfl

/-- Window 0's block is its whole array. -/
theorem block_0 : iblk m c 0 t0_0 = V m c main_v3 := by
  show (win0_0.blk t0_0).view.read (Elt Ideal) (V m c main_v3) = _
  exact Memref.read_access_unit_zero (Elt Ideal) main_v3
    (show (fun a => (win0_0.index t0_0) a * main_v3.ty.shape.size a) = fun _ => 0 from
      funext fun a => by fin_cases a <;> decide) (fun a => by fin_cases a <;> decide) _

/-- Window 1's block is its whole array. -/
theorem block_1 : iblk m c 1 t0_0 = V m c main_v7 := by
  show (win0_1.blk t0_0).view.read (Elt Ideal) (V m c main_v7) = _
  exact Memref.read_access_unit_zero (Elt Ideal) main_v7
    (show (fun a => (win0_1.index t0_0) a * main_v7.ty.shape.size a) = fun _ => 0 from
      funext fun a => by fin_cases a <;> decide) (fun a => by fin_cases a <;> decide) _

/-- Window 2's block is its whole array. -/
theorem block_2 : iblk m c 2 t0_0 = V m c main_v11 := by
  show (win0_2.blk t0_0).view.read (Elt Ideal) (V m c main_v11) = _
  exact Memref.read_access_unit_zero (Elt Ideal) main_v11
    (show (fun a => (win0_2.index t0_0) a * main_v11.ty.shape.size a) = fun _ => 0 from
      funext fun a => by fin_cases a <;> decide) (fun a => by fin_cases a <;> decide) _

/-- Window 3's block is its whole array. -/
theorem block_3 : iblk m c 3 t0_0 = V m c main_v15 := by
  show (win0_3.blk t0_0).view.read (Elt Ideal) (V m c main_v15) = _
  exact Memref.read_access_unit_zero (Elt Ideal) main_v15
    (show (fun a => (win0_3.index t0_0) a * main_v15.ty.shape.size a) = fun _ => 0 from
      funext fun a => by fin_cases a <;> decide) (fun a => by fin_cases a <;> decide) _

/-- Window 4's block is its whole array. -/
theorem block_4 : iblk m c 4 t0_0 = V m c main_v18 := by
  show (win0_4.blk t0_0).view.read (Elt Ideal) (V m c main_v18) = _
  exact Memref.read_access_unit_zero (Elt Ideal) main_v18
    (show (fun a => (win0_4.index t0_0) a * main_v18.ty.shape.size a) = fun _ => 0 from
      funext fun a => by fin_cases a <;> decide) (fun a => by fin_cases a <;> decide) _

/-- Window 5's block is its whole array. -/
theorem block_5 : iblk m c 5 t0_0 = V m c main_v21 := by
  show (win0_5.blk t0_0).view.read (Elt Ideal) (V m c main_v21) = _
  exact Memref.read_access_unit_zero (Elt Ideal) main_v21
    (show (fun a => (win0_5.index t0_0) a * main_v21.ty.shape.size a) = fun _ => 0 from
      funext fun a => by fin_cases a <;> decide) (fun a => by fin_cases a <;> decide) _

/-- Window 6's block is its whole array. -/
theorem block_6 : iblk m c 6 t0_0 = V m c main_v24 := by
  show (win0_6.blk t0_0).view.read (Elt Ideal) (V m c main_v24) = _
  exact Memref.read_access_unit_zero (Elt Ideal) main_v24
    (show (fun a => (win0_6.index t0_0) a * main_v24.ty.shape.size a) = fun _ => 0 from
      funext fun a => by fin_cases a <;> decide) (fun a => by fin_cases a <;> decide) _

/-- Window 7's block is its whole array. -/
theorem block_7 : iblk m c 7 t0_0 = V m c main_v27 := by
  show (win0_7.blk t0_0).view.read (Elt Ideal) (V m c main_v27) = _
  exact Memref.read_access_unit_zero (Elt Ideal) main_v27
    (show (fun a => (win0_7.index t0_0) a * main_v27.ty.shape.size a) = fun _ => 0 from
      funext fun a => by fin_cases a <;> decide) (fun a => by fin_cases a <;> decide) _

/-- Output window 8's array after the call is what its one store leaves. -/
theorem arr_8 : (dats m 0 c).arrAt 8 cfg0.N = out0_8 (V m c main_v3) (V m c main_v7) (V m c main_v11) (V m c main_v15) (V m c main_v18) (V m c main_v21) (V m c main_v24) (V m c main_v27) := by
  have hf : (dats m 0 c).flushed 8 t0_0 = out0_8 (V m c main_v3) (V m c main_v7) (V m c main_v11) (V m c main_v15) (V m c main_v18) (V m c main_v21) (V m c main_v24) (V m c main_v27) := by
    show (cfg0.win 8).cut _ ((dats m 0 c).after 8 t0_0) = _
    rw [after0_8, block_0, block_1, block_2, block_3, block_4, block_5, block_6, block_7]
    exact funext fun _ => rfl
  have hw : ((cfg0.win 8).blk t0_0).view.read (Elt Ideal) ((dats m 0 c).arrAt 8 cfg0.N) = (dats m 0 c).flushed 8 t0_0 := by
    rw [show cfg0.N = t0_0.val + 1 from rfl, (dats m 0 c).arrAt_succ (8 : Fin 10) t0_0, flush0_8, if_pos rfl]
    exact View.read_write_univ _ _
  rw [hf] at hw
  refine Eq.trans (Eq.symm ?_) hw
  exact Memref.read_access_unit_zero (Elt Ideal) main_v28_0
    (show (fun a => (win0_8.index t0_0) a * main_v28_0.ty.shape.size a) = fun _ => 0 from
      funext fun a => by fin_cases a <;> decide) (fun a => by fin_cases a <;> decide) _

/-- Output window 9's array after the call is what its one store leaves. -/
theorem arr_9 : (dats m 0 c).arrAt 9 cfg0.N = out0_9 (V m c main_v3) (V m c main_v7) (V m c main_v11) (V m c main_v15) (V m c main_v18) (V m c main_v21) (V m c main_v24) (V m c main_v27) := by
  have hf : (dats m 0 c).flushed 9 t0_0 = out0_9 (V m c main_v3) (V m c main_v7) (V m c main_v11) (V m c main_v15) (V m c main_v18) (V m c main_v21) (V m c main_v24) (V m c main_v27) := by
    show (cfg0.win 9).cut _ ((dats m 0 c).after 9 t0_0) = _
    rw [after0_9, block_0, block_1, block_2, block_3, block_4, block_5, block_6, block_7]
    exact funext fun _ => rfl
  have hw : ((cfg0.win 9).blk t0_0).view.read (Elt Ideal) ((dats m 0 c).arrAt 9 cfg0.N) = (dats m 0 c).flushed 9 t0_0 := by
    rw [show cfg0.N = t0_0.val + 1 from rfl, (dats m 0 c).arrAt_succ (9 : Fin 10) t0_0, flush0_9, if_pos rfl]
    exact View.read_write_univ _ _
  rw [hf] at hw
  refine Eq.trans (Eq.symm ?_) hw
  exact Memref.read_access_unit_zero (Elt Ideal) main_v28_1
    (show (fun a => (win0_9.index t0_0) a * main_v28_1.ty.shape.size a) = fun _ => 0 from
      funext fun a => by fin_cases a <;> decide) (fun a => by fin_cases a <;> decide) _

/-- Column 0 of a predicted box as the call reads it. -/
theorem at_0 (n : Fin 2000) : (V m c main_v3 : FVec Ideal S16x128 .f32) (ix2 (rowOf n) (laneOf n)) = inPred m c (ix2 n 0) := by
  rw [entry_0]
  refine (fold_at (e := .f32) _ n).trans ?_
  pointwise

/-- Column 1 of a predicted box as the call reads it. -/
theorem at_1 (n : Fin 2000) : (V m c main_v7 : FVec Ideal S16x128 .f32) (ix2 (rowOf n) (laneOf n)) = inPred m c (ix2 n 1) := by
  rw [entry_1]
  refine (fold_at (e := .f32) _ n).trans ?_
  pointwise

/-- Column 2 of a predicted box as the call reads it. -/
theorem at_2 (n : Fin 2000) : (V m c main_v11 : FVec Ideal S16x128 .f32) (ix2 (rowOf n) (laneOf n)) = inPred m c (ix2 n 2) := by
  rw [entry_2]
  refine (fold_at (e := .f32) _ n).trans ?_
  pointwise

/-- Column 3 of a predicted box as the call reads it. -/
theorem at_3 (n : Fin 2000) : (V m c main_v15 : FVec Ideal S16x128 .f32) (ix2 (rowOf n) (laneOf n)) = inPred m c (ix2 n 3) := by
  rw [entry_3]
  refine (fold_at (e := .f32) _ n).trans ?_
  pointwise

/-- Column 0 of a ground-truth box as the call reads it. -/
theorem at_4 : (V m c main_v18 : FVec Ideal S1x64 .f32) = fun q => inGt m c (ix2 (q 1) 0) := by
  rw [entry_4]
  funext q
  idx_vars q
  obtain rfl : q0 = 0 := Subsingleton.elim _ _
  pointwise

/-- Column 1 of a ground-truth box as the call reads it. -/
theorem at_5 : (V m c main_v21 : FVec Ideal S1x64 .f32) = fun q => inGt m c (ix2 (q 1) 1) := by
  rw [entry_5]
  funext q
  idx_vars q
  obtain rfl : q0 = 0 := Subsingleton.elim _ _
  pointwise

/-- Column 2 of a ground-truth box as the call reads it. -/
theorem at_6 : (V m c main_v24 : FVec Ideal S1x64 .f32) = fun q => inGt m c (ix2 (q 1) 2) := by
  rw [entry_6]
  funext q
  idx_vars q
  obtain rfl : q0 = 0 := Subsingleton.elim _ _
  pointwise

/-- Column 3 of a ground-truth box as the call reads it. -/
theorem at_7 : (V m c main_v27 : FVec Ideal S1x64 .f32) = fun q => inGt m c (ix2 (q 1) 3) := by
  rw [entry_7]
  funext q
  idx_vars q
  obtain rfl : q0 = 0 := Subsingleton.elim _ _
  pointwise

end Cert.Overlap

end
-- ==== Proof.Overlap.Run.lean ====
/- The overlap slice's run: what it leaves in its two results. -/
module

public import proofs.«01_k».proof.Proof.Overlap.Windows
public import Idealize.ShloMosaic.Lib.Claim

@[expose] public section

set_option maxRecDepth 16384

noncomputable section

namespace Cert.Overlap

open Idealize.ShloMosaic Idealize.ShloMosaic.TcCoe Idealize.SL.Sem
open Cert.Kernel4Ideal Cert.Kernel4Ideal.Gen

/-- A 16 by 128 array as 2000 entries, the padding cut off. -/
def flat {e : EltTy} (y : Vec Ideal S16x128 e) : Vec Ideal S2000 e :=
  extractStridedSlice S2000 ![0] (shapeCast S2048 y shapeCasts_S16x128_S2048) slices_S2048_S2000_0

/-- It, read at a row. -/
theorem flat_at {e : EltTy} (y : Vec Ideal S16x128 e) (n : Fin 2000) : flat y (ix1 n) = y (ix2 (rowOf n) (laneOf n)) := by
  pointwise [flat]
  rfl

/-- The host operations after the call build the first result from the first output. -/
theorem tail_idx (X : Valuation τ sig (Elt Ideal)) : StableHlo.after hostOps1 X (Proc.tc.devRef main_v30)
    = flat (e := .i32) (X (Proc.tc.devRef main_v28_0)) := by
  simp only [hostOps1]
  after_results_simp
  rfl

/-- The host operations after the call build the second result from the second output. -/
theorem tail_iou (X : Valuation τ sig (Elt Ideal)) : StableHlo.after hostOps1 X (Proc.tc.devRef main_v32)
    = flat (e := .f32) (X (Proc.tc.devRef main_v28_1)) := by
  simp only [hostOps1]
  after_results_simp
  rfl

variable (m : (ℓ : Loc nD τ sig) → Buf (Elt Ideal) ℓ) (g : Dev nD → PrngReg)

/-- The array of numbers that the call leaves. -/
def outIdx (c : Dev nD) : IVec S16x128 32 := (dats m 0 c).arrAt 8 cfg0.N

/-- The array of overlaps that the call leaves. -/
def outIou (c : Dev nD) : FVec Ideal S16x128 .f32 := (dats m 0 c).arrAt 9 cfg0.N

/-- Different windows have different arrays. -/
theorem arrays_inj : Function.Injective (Pipeline.arrRef (cfgs 0).spec) := by decide +kernel

/-- The buffers right after the call. -/
abbrev after (c : Dev nD) := Pipeline.withArrays (cfgs 0).spec c (V0 m c) (fun w => (dats m 0 c).arrAt w (cfgs 0).N)

/-- After the call the first result buffer holds its array. -/
theorem exit_idx (c : Dev nD) : after m c (Proc.tc.devRef main_v28_0) = outIdx m c :=
  Pipeline.withArrays_arr (cfgs 0).spec arrays_inj c (V0 m c) (fun w => (dats m 0 c).arrAt w (cfgs 0).N) (8 : Fin 10)

/-- After the call the second result buffer holds its array. -/
theorem exit_iou (c : Dev nD) : after m c (Proc.tc.devRef main_v28_1) = outIou m c :=
  Pipeline.withArrays_arr (cfgs 0).spec arrays_inj c (V0 m c) (fun w => (dats m 0 c).arrAt w (cfgs 0).N) (9 : Fin 10)

/-- The two results are the two arrays, the padding cut off. -/
theorem results : θ_run defs (onTc (τ := τ) (main (F := Ideal))) ⟨m, fun _ => 0, g⟩ (fun r => ∀ c : Dev nD,
    r.2.mem ((c.tc : Thread nD τ).loc main_v30) = flat (e := .i32) (outIdx m c)
    ∧ r.2.mem ((c.tc : Thread nD τ).loc main_v32) = flat (e := .f32) (outIou m c)) := by
  run_from run_main m g
  all_goals (unfold Pipeline.afterTail₀; simp only [List.flatten_cons, List.flatten_nil, List.append_nil])
  · exact (tail_idx (after m c)).trans (congrArg (flat (e := .i32)) (exit_idx m c))
  · exact (tail_iou (after m c)).trans (congrArg (flat (e := .f32)) (exit_iou m c))

end Cert.Overlap

end
-- ==== Proof.Overlap.RefRun.lean ====
/- The overlaps' reference as the list of its host operations, and its run. -/
module

public import proofs.«01_k».proof.Proof.Gen.Reference4Ideal
public import Idealize.ShloMosaic.Lib.StableHlo.Run

@[expose] public section

noncomputable section

namespace Cert.Overlap.Ref

open Cert.Reference4Ideal Cert.Reference4Ideal.Gen Idealize.ShloMosaic Idealize.ShloMosaic.TcCoe Idealize.SL.Sem Idealize.ShloMosaic.StableHlo

variable {F : FTy → Type} [FloatOps F]

/-- The operations in order, a called function's in its call's place. -/
abbrev ops : List (HloOp τ sig (Elt F)) :=
  [ unary main_arg0 main_v0 ((extractStridedSlice S2000x1 ![0, 0] · slices_S2000x4_S2000x1_0_0) : (⟨S2000x4, .f32⟩ : BufTy).Contents (Elt F) → (⟨S2000x1, .f32⟩ : BufTy).Contents (Elt F)),
    reshape main_v0 main_v1 (rfl : (.f32 : EltTy) = .f32) shapeCasts_S2000x1_S2000,
    unary main_arg0 main_v2 ((extractStridedSlice S2000x1 ![0, 1] · slices_S2000x4_S2000x1_0_1) : (⟨S2000x4, .f32⟩ : BufTy).Contents (Elt F) → (⟨S2000x1, .f32⟩ : BufTy).Contents (Elt F)),
    reshape main_v2 main_v3 (rfl : (.f32 : EltTy) = .f32) shapeCasts_S2000x1_S2000,
    unary main_arg0 main_v4 ((extractStridedSlice S2000x1 ![0, 0] · slices_S2000x4_S2000x1_0_0) : (⟨S2000x4, .f32⟩ : BufTy).Contents (Elt F) → (⟨S2000x1, .f32⟩ : BufTy).Contents (Elt F)),
    reshape main_v4 main_v5 (rfl : (.f32 : EltTy) = .f32) shapeCasts_S2000x1_S2000,
    unary main_arg0 main_v6 ((extractStridedSlice S2000x1 ![0, 2] · slices_S2000x4_S2000x1_0_2) : (⟨S2000x4, .f32⟩ : BufTy).Contents (Elt F) → (⟨S2000x1, .f32⟩ : BufTy).Contents (Elt F)),
    reshape main_v6 main_v7 (rfl : (.f32 : EltTy) = .f32) shapeCasts_S2000x1_S2000,
    binary main_v5 main_v7 main_v8 (addf : (⟨S2000, .f32⟩ : BufTy).Contents (Elt F) → (⟨S2000, .f32⟩ : BufTy).Contents (Elt F) → (⟨S2000, .f32⟩ : BufTy).Contents (Elt F)),
    unary main_arg0 main_v9 ((extractStridedSlice S2000x1 ![0, 1] · slices_S2000x4_S2000x1_0_1) : (⟨S2000x4, .f32⟩ : BufTy).Contents (Elt F) → (⟨S2000x1, .f32⟩ : BufTy).Contents (Elt F)),
    reshape main_v9 main_v10 (rfl : (.f32 : EltTy) = .f32) shapeCasts_S2000x1_S2000,
    unary main_arg0 main_v11 ((extractStridedSlice S2000x1 ![0, 3] · slices_S2000x4_S2000x1_0_3) : (⟨S2000x4, .f32⟩ : BufTy).Contents (Elt F) → (⟨S2000x1, .f32⟩ : BufTy).Contents (Elt F)),
    reshape main_v11 main_v12 (rfl : (.f32 : EltTy) = .f32) shapeCasts_S2000x1_S2000,
    binary main_v10 main_v12 main_v13 (addf : (⟨S2000, .f32⟩ : BufTy).Contents (Elt F) → (⟨S2000, .f32⟩ : BufTy).Contents (Elt F) → (⟨S2000, .f32⟩ : BufTy).Contents (Elt F)),
    unary main_arg1 main_v14 ((extractStridedSlice S64x1 ![0, 0] · slices_S64x4_S64x1_0_0) : (⟨S64x4, .f32⟩ : BufTy).Contents (Elt F) → (⟨S64x1, .f32⟩ : BufTy).Contents (Elt F)),
    reshape main_v14 main_v15 (rfl : (.f32 : EltTy) = .f32) shapeCasts_S64x1_S64,
    unary main_arg1 main_v16 ((extractStridedSlice S64x1 ![0, 1] · slices_S64x4_S64x1_0_1) : (⟨S64x4, .f32⟩ : BufTy).Contents (Elt F) → (⟨S64x1, .f32⟩ : BufTy).Contents (Elt F)),
    reshape main_v16 main_v17 (rfl : (.f32 : EltTy) = .f32) shapeCasts_S64x1_S64,
    unary main_arg1 main_v18 ((extractStridedSlice S64x1 ![0, 0] · slices_S64x4_S64x1_0_0) : (⟨S64x4, .f32⟩ : BufTy).Contents (Elt F) → (⟨S64x1, .f32⟩ : BufTy).Contents (Elt F)),
    reshape main_v18 main_v19 (rfl : (.f32 : EltTy) = .f32) shapeCasts_S64x1_S64,
    unary main_arg1 main_v20 ((extractStridedSlice S64x1 ![0, 2] · slices_S64x4_S64x1_0_2) : (⟨S64x4, .f32⟩ : BufTy).Contents (Elt F) → (⟨S64x1, .f32⟩ : BufTy).Contents (Elt F)),
    reshape main_v20 main_v21 (rfl : (.f32 : EltTy) = .f32) shapeCasts_S64x1_S64,
    binary main_v19 main_v21 main_v22 (addf : (⟨S64, .f32⟩ : BufTy).Contents (Elt F) → (⟨S64, .f32⟩ : BufTy).Contents (Elt F) → (⟨S64, .f32⟩ : BufTy).Contents (Elt F)),
    unary main_arg1 main_v23 ((extractStridedSlice S64x1 ![0, 1] · slices_S64x4_S64x1_0_1) : (⟨S64x4, .f32⟩ : BufTy).Contents (Elt F) → (⟨S64x1, .f32⟩ : BufTy).Contents (Elt F)),
    reshape main_v23 main_v24 (rfl : (.f32 : EltTy) = .f32) shapeCasts_S64x1_S64,
    unary main_arg1 main_v25 ((extractStridedSlice S64x1 ![0, 3] · slices_S64x4_S64x1_0_3) : (⟨S64x4, .f32⟩ : BufTy).Contents (Elt F) → (⟨S64x1, .f32⟩ : BufTy).Contents (Elt F)),
    reshape main_v25 main_v26 (rfl : (.f32 : EltTy) = .f32) shapeCasts_S64x1_S64,
    binary main_v24 main_v26 main_v27 (addf : (⟨S64, .f32⟩ : BufTy).Contents (Elt F) → (⟨S64, .f32⟩ : BufTy).Contents (Elt F) → (⟨S64, .f32⟩ : BufTy).Contents (Elt F)),
    unary main_v8 main_v28 (broadcastInDim S2000x1 ![0] bcast_S2000_S2000x1_0 : (⟨S2000, .f32⟩ : BufTy).Contents (Elt F) → (⟨S2000x1, .f32⟩ : BufTy).Contents (Elt F)),
    unary main_v22 main_v29 (broadcastInDim S1x64 ![1] bcast_S64_S1x64_1 : (⟨S64, .f32⟩ : BufTy).Contents (Elt F) → (⟨S1x64, .f32⟩ : BufTy).Contents (Elt F)),
    unary main_v28 main_v30 (broadcastInDim S2000x64 ![0, 1] bcast_S2000x1_S2000x64_0_1 : (⟨S2000x1, .f32⟩ : BufTy).Contents (Elt F) → (⟨S2000x64, .f32⟩ : BufTy).Contents (Elt F)),
    unary main_v29 main_v31 (broadcastInDim S2000x64 ![0, 1] bcast_S1x64_S2000x64_0_1 : (⟨S1x64, .f32⟩ : BufTy).Contents (Elt F) → (⟨S2000x64, .f32⟩ : BufTy).Contents (Elt F)),
    binary main_v30 main_v31 main_v32 (minimumf : (⟨S2000x64, .f32⟩ : BufTy).Contents (Elt F) → (⟨S2000x64, .f32⟩ : BufTy).Contents (Elt F) → (⟨S2000x64, .f32⟩ : BufTy).Contents (Elt F)),
    unary main_v1 main_v33 (broadcastInDim S2000x1 ![0] bcast_S2000_S2000x1_0 : (⟨S2000, .f32⟩ : BufTy).Contents (Elt F) → (⟨S2000x1, .f32⟩ : BufTy).Contents (Elt F)),
    unary main_v15 main_v34 (broadcastInDim S1x64 ![1] bcast_S64_S1x64_1 : (⟨S64, .f32⟩ : BufTy).Contents (Elt F) → (⟨S1x64, .f32⟩ : BufTy).Contents (Elt F)),
    unary main_v33 main_v35 (broadcastInDim S2000x64 ![0, 1] bcast_S2000x1_S2000x64_0_1 : (⟨S2000x1, .f32⟩ : BufTy).Contents (Elt F) → (⟨S2000x64, .f32⟩ : BufTy).Contents (Elt F)),
    unary main_v34 main_v36 (broadcastInDim S2000x64 ![0, 1] bcast_S1x64_S2000x64_0_1 : (⟨S1x64, .f32⟩ : BufTy).Contents (Elt F) → (⟨S2000x64, .f32⟩ : BufTy).Contents (Elt F)),
    binary main_v35 main_v36 main_v37 (maximumf : (⟨S2000x64, .f32⟩ : BufTy).Contents (Elt F) → (⟨S2000x64, .f32⟩ : BufTy).Contents (Elt F) → (⟨S2000x64, .f32⟩ : BufTy).Contents (Elt F)),
    binary main_v32 main_v37 main_v38 (subf : (⟨S2000x64, .f32⟩ : BufTy).Contents (Elt F) → (⟨S2000x64, .f32⟩ : BufTy).Contents (Elt F) → (⟨S2000x64, .f32⟩ : BufTy).Contents (Elt F)),
    nullary main_cst (constant S_ .f32 0x00000000#32),
    TRef.unary (TRef.of (T := ⟨S_, .f32⟩) main_cst) (TRef.of (T := ⟨S_, .f32⟩) main_call0_v0) id,
    TRef.unary (TRef.of (T := ⟨S_, .f32⟩) main_call0_v0) (TRef.of (T := ⟨S2000x64, .f32⟩) main_call0_v1) (broadcastInDim S2000x64 ![] bcast_S_S2000x64),
    TRef.binary (TRef.of (T := ⟨S2000x64, .f32⟩) main_call0_v1) (TRef.of (T := ⟨S2000x64, .f32⟩) main_v38) (TRef.of (T := ⟨S2000x64, .f32⟩) main_v39) maximumf,
    unary main_v13 main_v40 (broadcastInDim S2000x1 ![0] bcast_S2000_S2000x1_0 : (⟨S2000, .f32⟩ : BufTy).Contents (Elt F) → (⟨S2000x1, .f32⟩ : BufTy).Contents (Elt F)),
    unary main_v27 main_v41 (broadcastInDim S1x64 ![1] bcast_S64_S1x64_1 : (⟨S64, .f32⟩ : BufTy).Contents (Elt F) → (⟨S1x64, .f32⟩ : BufTy).Contents (Elt F)),
    unary main_v40 main_v42 (broadcastInDim S2000x64 ![0, 1] bcast_S2000x1_S2000x64_0_1 : (⟨S2000x1, .f32⟩ : BufTy).Contents (Elt F) → (⟨S2000x64, .f32⟩ : BufTy).Contents (Elt F)),
    unary main_v41 main_v43 (broadcastInDim S2000x64 ![0, 1] bcast_S1x64_S2000x64_0_1 : (⟨S1x64, .f32⟩ : BufTy).Contents (Elt F) → (⟨S2000x64, .f32⟩ : BufTy).Contents (Elt F)),
    binary main_v42 main_v43 main_v44 (minimumf : (⟨S2000x64, .f32⟩ : BufTy).Contents (Elt F) → (⟨S2000x64, .f32⟩ : BufTy).Contents (Elt F) → (⟨S2000x64, .f32⟩ : BufTy).Contents (Elt F)),
    unary main_v3 main_v45 (broadcastInDim S2000x1 ![0] bcast_S2000_S2000x1_0 : (⟨S2000, .f32⟩ : BufTy).Contents (Elt F) → (⟨S2000x1, .f32⟩ : BufTy).Contents (Elt F)),
    unary main_v17 main_v46 (broadcastInDim S1x64 ![1] bcast_S64_S1x64_1 : (⟨S64, .f32⟩ : BufTy).Contents (Elt F) → (⟨S1x64, .f32⟩ : BufTy).Contents (Elt F)),
    unary main_v45 main_v47 (broadcastInDim S2000x64 ![0, 1] bcast_S2000x1_S2000x64_0_1 : (⟨S2000x1, .f32⟩ : BufTy).Contents (Elt F) → (⟨S2000x64, .f32⟩ : BufTy).Contents (Elt F)),
    unary main_v46 main_v48 (broadcastInDim S2000x64 ![0, 1] bcast_S1x64_S2000x64_0_1 : (⟨S1x64, .f32⟩ : BufTy).Contents (Elt F) → (⟨S2000x64, .f32⟩ : BufTy).Contents (Elt F)),
    binary main_v47 main_v48 main_v49 (maximumf : (⟨S2000x64, .f32⟩ : BufTy).Contents (Elt F) → (⟨S2000x64, .f32⟩ : BufTy).Contents (Elt F) → (⟨S2000x64, .f32⟩ : BufTy).Contents (Elt F)),
    binary main_v44 main_v49 main_v50 (subf : (⟨S2000x64, .f32⟩ : BufTy).Contents (Elt F) → (⟨S2000x64, .f32⟩ : BufTy).Contents (Elt F) → (⟨S2000x64, .f32⟩ : BufTy).Contents (Elt F)),
    nullary main_cst_0 (constant S_ .f32 0x00000000#32),
    TRef.unary (TRef.of (T := ⟨S_, .f32⟩) main_cst_0) (TRef.of (T := ⟨S_, .f32⟩) main_call1_v0) id,
    TRef.unary (TRef.of (T := ⟨S_, .f32⟩) main_call1_v0) (TRef.of (T := ⟨S2000x64, .f32⟩) main_call1_v1) (broadcastInDim S2000x64 ![] bcast_S_S2000x64),
    TRef.binary (TRef.of (T := ⟨S2000x64, .f32⟩) main_call1_v1) (TRef.of (T := ⟨S2000x64, .f32⟩) main_v50) (TRef.of (T := ⟨S2000x64, .f32⟩) main_v51) maximumf,
    binary main_v39 main_v51 main_v52 (mulf : (⟨S2000x64, .f32⟩ : BufTy).Contents (Elt F) → (⟨S2000x64, .f32⟩ : BufTy).Contents (Elt F) → (⟨S2000x64, .f32⟩ : BufTy).Contents (Elt F)),
    unary main_arg0 main_v53 ((extractStridedSlice S2000x1 ![0, 2] · slices_S2000x4_S2000x1_0_2) : (⟨S2000x4, .f32⟩ : BufTy).Contents (Elt F) → (⟨S2000x1, .f32⟩ : BufTy).Contents (Elt F)),
    reshape main_v53 main_v54 (rfl : (.f32 : EltTy) = .f32) shapeCasts_S2000x1_S2000,
    unary main_arg0 main_v55 ((extractStridedSlice S2000x1 ![0, 3] · slices_S2000x4_S2000x1_0_3) : (⟨S2000x4, .f32⟩ : BufTy).Contents (Elt F) → (⟨S2000x1, .f32⟩ : BufTy).Contents (Elt F)),
    reshape main_v55 main_v56 (rfl : (.f32 : EltTy) = .f32) shapeCasts_S2000x1_S2000,
    binary main_v54 main_v56 main_v57 (mulf : (⟨S2000, .f32⟩ : BufTy).Contents (Elt F) → (⟨S2000, .f32⟩ : BufTy).Contents (Elt F) → (⟨S2000, .f32⟩ : BufTy).Contents (Elt F)),
    unary main_arg1 main_v58 ((extractStridedSlice S64x1 ![0, 2] · slices_S64x4_S64x1_0_2) : (⟨S64x4, .f32⟩ : BufTy).Contents (Elt F) → (⟨S64x1, .f32⟩ : BufTy).Contents (Elt F)),
    reshape main_v58 main_v59 (rfl : (.f32 : EltTy) = .f32) shapeCasts_S64x1_S64,
    unary main_arg1 main_v60 ((extractStridedSlice S64x1 ![0, 3] · slices_S64x4_S64x1_0_3) : (⟨S64x4, .f32⟩ : BufTy).Contents (Elt F) → (⟨S64x1, .f32⟩ : BufTy).Contents (Elt F)),
    reshape main_v60 main_v61 (rfl : (.f32 : EltTy) = .f32) shapeCasts_S64x1_S64,
    binary main_v59 main_v61 main_v62 (mulf : (⟨S64, .f32⟩ : BufTy).Contents (Elt F) → (⟨S64, .f32⟩ : BufTy).Contents (Elt F) → (⟨S64, .f32⟩ : BufTy).Contents (Elt F)),
    unary main_v57 main_v63 (broadcastInDim S2000x1 ![0] bcast_S2000_S2000x1_0 : (⟨S2000, .f32⟩ : BufTy).Contents (Elt F) → (⟨S2000x1, .f32⟩ : BufTy).Contents (Elt F)),
    unary main_v62 main_v64 (broadcastInDim S1x64 ![1] bcast_S64_S1x64_1 : (⟨S64, .f32⟩ : BufTy).Contents (Elt F) → (⟨S1x64, .f32⟩ : BufTy).Contents (Elt F)),
    unary main_v63 main_v65 (broadcastInDim S2000x64 ![0, 1] bcast_S2000x1_S2000x64_0_1 : (⟨S2000x1, .f32⟩ : BufTy).Contents (Elt F) → (⟨S2000x64, .f32⟩ : BufTy).Contents (Elt F)),
    unary main_v64 main_v66 (broadcastInDim S2000x64 ![0, 1] bcast_S1x64_S2000x64_0_1 : (⟨S1x64, .f32⟩ : BufTy).Contents (Elt F) → (⟨S2000x64, .f32⟩ : BufTy).Contents (Elt F)),
    binary main_v65 main_v66 main_v67 (addf : (⟨S2000x64, .f32⟩ : BufTy).Contents (Elt F) → (⟨S2000x64, .f32⟩ : BufTy).Contents (Elt F) → (⟨S2000x64, .f32⟩ : BufTy).Contents (Elt F)),
    binary main_v67 main_v52 main_v68 (subf : (⟨S2000x64, .f32⟩ : BufTy).Contents (Elt F) → (⟨S2000x64, .f32⟩ : BufTy).Contents (Elt F) → (⟨S2000x64, .f32⟩ : BufTy).Contents (Elt F)),
    binary main_v52 main_v68 main_v69 (Host.divf : (⟨S2000x64, .f32⟩ : BufTy).Contents (Elt F) → (⟨S2000x64, .f32⟩ : BufTy).Contents (Elt F) → (⟨S2000x64, .f32⟩ : BufTy).Contents (Elt F)),
    TRef.nullary (TRef.of (T := ⟨S2000x64, .i32⟩) main_call2_v0) (iotaInDim S2000x64 32 1),
    TRef.nullary (TRef.of (T := ⟨S_, .f32⟩) main_call2_cst) (constant S_ .f32 0xFF800000#32),
    TRef.nullary (TRef.of (T := ⟨S_, .i32⟩) main_call2_c) (constantI S_ 32 0#32),
    TRef.quaternary (TRef.of (T := ⟨S2000x64, .f32⟩) main_v69) (TRef.of (T := ⟨S2000x64, .i32⟩) main_call2_v0) (TRef.of (T := ⟨S_, .f32⟩) main_call2_cst) (TRef.of (T := ⟨S_, .i32⟩) main_call2_c) (TRef.of (T := ⟨S2000, .f32⟩) main_call2_v1_0) (fun x y u v j => (Host.argReduce reducer_argmax_f32_i32 x y u v reducesTo_S2000x64_S2000_d1 h_S_ j).1),
    TRef.quaternary (TRef.of (T := ⟨S2000x64, .f32⟩) main_v69) (TRef.of (T := ⟨S2000x64, .i32⟩) main_call2_v0) (TRef.of (T := ⟨S_, .f32⟩) main_call2_cst) (TRef.of (T := ⟨S_, .i32⟩) main_call2_c) (TRef.of (T := ⟨S2000, .i32⟩) main_v70) (fun x y u v j => (Host.argReduce reducer_argmax_f32_i32 x y u v reducesTo_S2000x64_S2000_d1 h_S_ j).2),
    unary main_v70 main_v71 (broadcastInDim S2000x1 ![0] bcast_S2000_S2000x1_0 : (⟨S2000, .i32⟩ : BufTy).Contents (Elt F) → (⟨S2000x1, .i32⟩ : BufTy).Contents (Elt F)),
    TRef.nullary (TRef.of (T := ⟨S_, .i32⟩) main_call3_c) (constantI S_ 32 0#32),
    TRef.unary (TRef.of (T := ⟨S_, .i32⟩) main_call3_c) (TRef.of (T := ⟨S2000x1, .i32⟩) main_call3_v0) (broadcastInDim S2000x1 ![] bcast_S_S2000x1),
    TRef.binary (TRef.of (T := ⟨S2000x1, .i32⟩) main_v71) (TRef.of (T := ⟨S2000x1, .i32⟩) main_call3_v0) (TRef.of (T := ⟨S2000x1, .i1⟩) main_call3_v1) (cmpi .slt),
    TRef.nullary (TRef.of (T := ⟨S_, .i32⟩) main_call3_c_0) (constantI S_ 32 64#32),
    TRef.unary (TRef.of (T := ⟨S_, .i32⟩) main_call3_c_0) (TRef.of (T := ⟨S2000x1, .i32⟩) main_call3_v2) (broadcastInDim S2000x1 ![] bcast_S_S2000x1),
    TRef.binary (TRef.of (T := ⟨S2000x1, .i32⟩) main_v71) (TRef.of (T := ⟨S2000x1, .i32⟩) main_call3_v2) (TRef.of (T := ⟨S2000x1, .i32⟩) main_call3_v3) addi,
    TRef.ternary (TRef.of (T := ⟨S2000x1, .i1⟩) main_call3_v1) (TRef.of (T := ⟨S2000x1, .i32⟩) main_call3_v3) (TRef.of (T := ⟨S2000x1, .i32⟩) main_v71) (TRef.of (T := ⟨S2000x1, .i32⟩) main_call3_v4) select,
    TRef.reshape (TRef.of (T := ⟨S2000x1, .i32⟩) main_call3_v4) (TRef.of (T := ⟨S2000x1x1, .i32⟩) main_call3_v5) (rfl : (.i32 : EltTy) = .i32) shapeCasts_S2000x1_S2000x1x1,
    TRef.nullary (TRef.of (T := ⟨S1, .i32⟩) main_call3_c_1) (constantI S1 32 63#32),
    TRef.nullary (TRef.of (T := ⟨S_, .i32⟩) main_call3_c_2) (constantI S_ 32 0#32),
    TRef.unary (TRef.of (T := ⟨S_, .i32⟩) main_call3_c_2) (TRef.of (T := ⟨S2000x1x1, .i32⟩) main_call3_v6) (broadcastInDim S2000x1x1 ![] bcast_S_S2000x1x1),
    TRef.binary (TRef.of (T := ⟨S2000x1x1, .i32⟩) main_call3_v5) (TRef.of (T := ⟨S2000x1x1, .i32⟩) main_call3_v6) (TRef.of (T := ⟨S2000x1x1, .i1⟩) main_call3_v7) (cmpi .sge),
    TRef.unary (TRef.of (T := ⟨S1, .i32⟩) main_call3_c_1) (TRef.of (T := ⟨S1x1x1, .i32⟩) main_call3_v8) (broadcastInDim S1x1x1 ![2] bcast_S1_S1x1x1_2),
    TRef.unary (TRef.of (T := ⟨S1x1x1, .i32⟩) main_call3_v8) (TRef.of (T := ⟨S2000x1x1, .i32⟩) main_call3_v9) (broadcastInDim S2000x1x1 ![0, 1, 2] bcast_S1x1x1_S2000x1x1_0_1_2),
    TRef.binary (TRef.of (T := ⟨S2000x1x1, .i32⟩) main_call3_v5) (TRef.of (T := ⟨S2000x1x1, .i32⟩) main_call3_v9) (TRef.of (T := ⟨S2000x1x1, .i1⟩) main_call3_v10) (cmpi .sle),
    TRef.binary (TRef.of (T := ⟨S2000x1x1, .i1⟩) main_call3_v7) (TRef.of (T := ⟨S2000x1x1, .i1⟩) main_call3_v10) (TRef.of (T := ⟨S2000x1x1, .i1⟩) main_call3_v11) andi,
    TRef.nullary (TRef.of (T := ⟨S_, .i1⟩) main_call3_c_3) (constantI S_ 1 1#1),
    TRef.binary (TRef.of (T := ⟨S2000x1x1, .i1⟩) main_call3_v11) (TRef.of (T := ⟨S_, .i1⟩) main_call3_c_3) (TRef.of (T := ⟨S2000x1, .i1⟩) main_call3_v12) (fun x v => Host.reduce IntOp.andi x v reducesTo_S2000x1x1_S2000x1_d2 h_S_),
    TRef.binary (TRef.of (T := ⟨S2000x64, .f32⟩) main_v69) (TRef.of (T := ⟨S2000x1x1, .i32⟩) main_call3_v5) (TRef.of (T := ⟨S2000x1, .f32⟩) main_call3_v13) (fun x i => Host.gather gather_S2000x64_S2000x1x1_S2000x1_n_1_0_0_1_2_11 x i),
    TRef.nullary (TRef.of (T := ⟨S_, .f32⟩) main_call3_cst) (constant S_ .f32 0x7FC00000#32),
    TRef.unary (TRef.of (T := ⟨S_, .f32⟩) main_call3_cst) (TRef.of (T := ⟨S2000x1, .f32⟩) main_call3_v14) (broadcastInDim S2000x1 ![] bcast_S_S2000x1),
    TRef.ternary (TRef.of (T := ⟨S2000x1, .i1⟩) main_call3_v12) (TRef.of (T := ⟨S2000x1, .f32⟩) main_call3_v13) (TRef.of (T := ⟨S2000x1, .f32⟩) main_call3_v14) (TRef.of (T := ⟨S2000x1, .f32⟩) main_v72) select,
    reshape main_v72 main_v73 (rfl : (.f32 : EltTy) = .f32) shapeCasts_S2000x1_S2000 ]

set_option maxRecDepth 8192 in
set_option maxHeartbeats 4000000 in
/-- The program is that list. -/
theorem main_eq (c : Dev nD) : main (F := F) c = seq ops := rfl

/-- No buffer is scoped. -/
theorem scopedRefs_eq : (Finset.univ.filter fun b : Ref sig .tc => b.isScoped) = ∅ := by decide

/-- No semaphore is scoped. -/
theorem scopedSems_eq : (Finset.univ.filter fun sm : SemLoc sig => sm.isScoped .tc) = ∅ := by decide

set_option maxRecDepth 8192 in
/-- Every operation's buffers belong to the program. -/
theorem ops_sub : (ops : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., binary_bufs_sub .., unary_bufs_sub .., reshape_bufs_sub .., unary_bufs_sub .., reshape_bufs_sub .., binary_bufs_sub .., unary_bufs_sub .., reshape_bufs_sub .., unary_bufs_sub .., reshape_bufs_sub .., unary_bufs_sub .., reshape_bufs_sub .., unary_bufs_sub .., reshape_bufs_sub .., binary_bufs_sub .., unary_bufs_sub .., reshape_bufs_sub .., unary_bufs_sub .., reshape_bufs_sub .., binary_bufs_sub .., unary_bufs_sub .., unary_bufs_sub .., unary_bufs_sub .., unary_bufs_sub .., binary_bufs_sub .., unary_bufs_sub .., unary_bufs_sub .., unary_bufs_sub .., unary_bufs_sub .., binary_bufs_sub .., binary_bufs_sub .., nullary_bufs_sub .., unary_bufs_sub .., unary_bufs_sub .., binary_bufs_sub .., unary_bufs_sub .., unary_bufs_sub .., unary_bufs_sub .., unary_bufs_sub .., binary_bufs_sub .., unary_bufs_sub .., unary_bufs_sub .., unary_bufs_sub .., unary_bufs_sub .., binary_bufs_sub .., binary_bufs_sub .., nullary_bufs_sub .., unary_bufs_sub .., unary_bufs_sub .., binary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., unary_bufs_sub .., unary_bufs_sub .., unary_bufs_sub .., unary_bufs_sub .., binary_bufs_sub .., binary_bufs_sub .., binary_bufs_sub .., nullary_bufs_sub .., nullary_bufs_sub .., nullary_bufs_sub .., quaternary_bufs_sub .., quaternary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub ..⟩

/-- Column 0 to 3 of the predicted boxes. -/
def pc0 (x : FVec F S2000x4 .f32) : FVec F S2000 .f32 := shapeCast S2000 (extractStridedSlice S2000x1 ![0, 0] x slices_S2000x4_S2000x1_0_0) shapeCasts_S2000x1_S2000
/-- The second column. -/
def pc1 (x : FVec F S2000x4 .f32) : FVec F S2000 .f32 := shapeCast S2000 (extractStridedSlice S2000x1 ![0, 1] x slices_S2000x4_S2000x1_0_1) shapeCasts_S2000x1_S2000
/-- The third column. -/
def pc2 (x : FVec F S2000x4 .f32) : FVec F S2000 .f32 := shapeCast S2000 (extractStridedSlice S2000x1 ![0, 2] x slices_S2000x4_S2000x1_0_2) shapeCasts_S2000x1_S2000
/-- The fourth column. -/
def pc3 (x : FVec F S2000x4 .f32) : FVec F S2000 .f32 := shapeCast S2000 (extractStridedSlice S2000x1 ![0, 3] x slices_S2000x4_S2000x1_0_3) shapeCasts_S2000x1_S2000
/-- Column 0 to 3 of the ground-truth boxes. -/
def gc0 (x : FVec F S64x4 .f32) : FVec F S64 .f32 := shapeCast S64 (extractStridedSlice S64x1 ![0, 0] x slices_S64x4_S64x1_0_0) shapeCasts_S64x1_S64
/-- The second column. -/
def gc1 (x : FVec F S64x4 .f32) : FVec F S64 .f32 := shapeCast S64 (extractStridedSlice S64x1 ![0, 1] x slices_S64x4_S64x1_0_1) shapeCasts_S64x1_S64
/-- The third column. -/
def gc2 (x : FVec F S64x4 .f32) : FVec F S64 .f32 := shapeCast S64 (extractStridedSlice S64x1 ![0, 2] x slices_S64x4_S64x1_0_2) shapeCasts_S64x1_S64
/-- The fourth column. -/
def gc3 (x : FVec F S64x4 .f32) : FVec F S64 .f32 := shapeCast S64 (extractStridedSlice S64x1 ![0, 3] x slices_S64x4_S64x1_0_3) shapeCasts_S64x1_S64
/-- A value of every predicted box, repeated along the ground-truth boxes. -/
def across (y : FVec F S2000 .f32) : FVec F S2000x64 .f32 := broadcastInDim S2000x64 ![0, 1] bcast_S2000x1_S2000x64_0_1 (broadcastInDim S2000x1 ![0] bcast_S2000_S2000x1_0 y)
/-- A value of every ground-truth box, repeated along the predicted boxes. -/
def down (y : FVec F S64 .f32) : FVec F S2000x64 .f32 := broadcastInDim S2000x64 ![0, 1] bcast_S1x64_S2000x64_0_1 (broadcastInDim S1x64 ![1] bcast_S64_S1x64_1 y)
/-- What is not negative, 0 in place of the rest. -/
def clipA (y : FVec F S2000x64 .f32) : FVec F S2000x64 .f32 := maximumf (broadcastInDim S2000x64 ![] bcast_S_S2000x64 (id (constant S_ .f32 0x00000000#32))) y
/-- The common areas. -/
def interA (p : FVec F S2000x4 .f32) (g : FVec F S64x4 .f32) : FVec F S2000x64 .f32 :=
  mulf (clipA (subf (minimumf (across (addf (pc0 p) (pc2 p))) (down (addf (gc0 g) (gc2 g)))) (maximumf (across (pc0 p)) (down (gc0 g)))))
    (clipA (subf (minimumf (across (addf (pc1 p) (pc3 p))) (down (addf (gc1 g) (gc3 g)))) (maximumf (across (pc1 p)) (down (gc1 g)))))
/-- The overlaps. -/
def iouA (p : FVec F S2000x4 .f32) (g : FVec F S64x4 .f32) : FVec F S2000x64 .f32 :=
  Host.divf (interA p g) (subf (addf (across (mulf (pc2 p) (pc3 p))) (down (mulf (gc2 g) (gc3 g)))) (interA p g))
/-- The number of the largest overlap of every row. -/
def argA (x : FVec F S2000x64 .f32) : IVec S2000 32 := fun j =>
  (Host.argReduce reducer_argmax_f32_i32 x (iotaInDim S2000x64 32 1) (constant S_ .f32 0xFF800000#32) (constantI S_ 32 0#32) reducesTo_S2000x64_S2000_d1 h_S_ j).2
/-- The indices as the last step takes them, a negative one counted from the end. -/
def startA (i : IVec S2000x1 32) : IVec S2000x1x1 32 :=
  shapeCast S2000x1x1 (select (cmpi .slt i (broadcastInDim S2000x1 ![] bcast_S_S2000x1 (constantI S_ 32 0#32))) (addi i (broadcastInDim S2000x1 ![] bcast_S_S2000x1 (constantI S_ 32 64#32))) i)
    shapeCasts_S2000x1_S2000x1x1
/-- The entries at the indices of their rows. -/
def takeA (x : FVec F S2000x64 .f32) (i : IVec S2000x1 32) : FVec F S2000x1 .f32 :=
  select
    (Host.reduce IntOp.andi (andi (cmpi .sge (startA i) (broadcastInDim S2000x1x1 ![] bcast_S_S2000x1x1 (constantI S_ 32 0#32)))
        (cmpi .sle (startA i) (broadcastInDim S2000x1x1 ![0, 1, 2] bcast_S1x1x1_S2000x1x1_0_1_2 (broadcastInDim S1x1x1 ![2] bcast_S1_S1x1x1_2 (constantI S1 32 63#32)))))
      (constantI S_ 1 1#1) reducesTo_S2000x1x1_S2000x1_d2 h_S_)
    (Host.gather gather_S2000x64_S2000x1x1_S2000x1_n_1_0_0_1_2_11 x (startA i))
    (broadcastInDim S2000x1 ![] bcast_S_S2000x1 (constant S_ .f32 0x7FC00000#32))
/-- The largest overlaps. -/
def topA (x : FVec F S2000x64 .f32) : FVec F S2000 .f32 :=
  shapeCast S2000 (takeA x (broadcastInDim S2000x1 ![0] bcast_S2000_S2000x1_0 (argA x))) shapeCasts_S2000x1_S2000

variable (m : (ℓ : Loc nD τ sig) → Buf (Elt F) ℓ) (c : Dev nD)

/-- The predicted boxes. -/
abbrev argPred : FVec F S2000x4 .f32 := m ((c.tc : Thread nD τ).loc main_arg0)
/-- The ground-truth boxes. -/
abbrev argGt : FVec F S64x4 .f32 := m ((c.tc : Thread nD τ).loc main_arg1)

set_option maxRecDepth 8192 in
set_option maxHeartbeats 40400000 in
/-- The run: every execution ends with the two results at these terms and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v70) = argA (iouA (argPred m c) (argGt m c))
      ∧ r.2.mem ((c.tc : Thread nD τ).loc main_v73) = topA (iouA (argPred m c) (argGt m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v70).trans (by simp only [ops, TRef.nullary, TRef.quaternary, TRef.ternary, TRef.binary, TRef.unary, TRef.reshape, TRef.toBuf, TRef.ofBuf, cast_eq]; after_results_simp <;> rfl),
      (h c main_v73).trans (by simp only [ops, TRef.nullary, TRef.quaternary, TRef.ternary, TRef.binary, TRef.unary, TRef.reshape, TRef.toBuf, TRef.ofBuf, cast_eq]; after_results_simp <;> rfl),
      (h c main_arg0).trans (by simp only [ops, TRef.nullary, TRef.quaternary, TRef.ternary, TRef.binary, TRef.unary, TRef.reshape, TRef.toBuf, TRef.ofBuf, cast_eq]; after_results_simp <;> rfl),
      (h c main_arg1).trans (by simp only [ops, TRef.nullary, TRef.quaternary, TRef.ternary, TRef.binary, TRef.unary, TRef.reshape, TRef.toBuf, TRef.ofBuf, cast_eq]; after_results_simp <;> rfl)⟩)
    (run_seq scopedRefs_eq scopedSems_eq defs main (fun _ => ops) main_eq (fun _ => ops_sub) m ρ)

end Cert.Overlap.Ref

end
-- ==== Proof.Overlap.Best.lean ====
/- Finding the first largest of a list, in two ways: by one step after the other, and by joining pairs. -/
module

public import proofs.«01_k».proof.Proof.Overlap.Pay
public import proofs.«01_k».proof.Proof.Gen.Reference4Ideal

@[expose] public section

noncomputable section

namespace Cert.Overlap

open Idealize.ShloMosaic Idealize.ShloMosaic.TcCoe

/-- Among the entries with a number in `S`, entry `j` is the largest, and the first of those. -/
def Top (u : ℕ → EReal) (S : ℕ → Prop) (j : ℕ) : Prop := S j ∧ ∀ k, S k → u k ≤ u j ∧ (u k = u j → j ≤ k)

/-- There is only one such entry. -/
theorem Top.unique {u : ℕ → EReal} {S : ℕ → Prop} {i j : ℕ} (hi : Top u S i) (hj : Top u S j) : i = j := by
  have a := hi.2 j hj.1
  have b := hj.2 i hi.1
  have e : u j = u i := le_antisymm a.1 b.1
  exact le_antisymm (a.2 e) (b.2 e.symm)

/-- One more entry, not above the largest so far and of a number not below its: the largest stays. -/
theorem Top.stay {u : ℕ → EReal} {S T : ℕ → Prop} {j n : ℕ} (h : Top u S j) (hT : ∀ k, T k ↔ S k ∨ k = n) (hn : u n ≤ u j) (hjn : u n = u j → j ≤ n) :
    Top u T j := by
  refine ⟨(hT j).2 (Or.inl h.1), fun k hk => ?_⟩
  rcases (hT k).1 hk with a | a
  · exact h.2 k a
  · subst a
    exact ⟨hn, hjn⟩

/-- One more entry, above the largest so far or equal to it and of a smaller number: it is the largest now. -/
theorem Top.move {u : ℕ → EReal} {S T : ℕ → Prop} {j n : ℕ} (h : Top u S j) (hT : ∀ k, T k ↔ S k ∨ k = n) (hn : u j ≤ u n) (hjn : u j = u n → n ≤ j) :
    Top u T n := by
  refine ⟨(hT n).2 (Or.inr rfl), fun k hk => ?_⟩
  rcases (hT k).1 hk with a | a
  · have b := h.2 k a
    refine ⟨b.1.trans hn, fun e => ?_⟩
    have e1 : u j = u n := le_antisymm hn (e ▸ b.1)
    exact (hjn e1).trans (b.2 (e.trans e1.symm))
  · subst a
    exact ⟨le_refl _, fun _ => le_refl _⟩

/-- The word that the kernel starts from is -1. -/
theorem start_word : Ideal.ofBits .f32 0xBF800000#32 = ((-1 : ℝ) : EReal) := by
  simp [Ideal.ofBits, Ideal.ieee, ← EReal.coe_one, ← EReal.coe_neg]
  norm_num

/-- Step by step the kernel arrives at the first largest entry, if all are above -1. -/
theorem best_top (u : ℕ → EReal) (hu : ∀ k, Ideal.ofBits .f32 0xBF800000#32 < u k) (n : ℕ) :
    ∃ j, Top u (· < n + 1) j ∧ bestV u (n + 1) = u j ∧ bestI u (n + 1) = BitVec.ofNat 32 j := by
  induction n with
  | zero =>
    refine ⟨0, ⟨by simp, fun k hk => ?_⟩, ?_, ?_⟩
    · obtain rfl : k = 0 := by omega
      exact ⟨le_refl _, fun _ => le_refl _⟩
    · exact max_eq_right (hu 0).le
    · exact if_pos (hu 0)
  | succ n ih =>
    obtain ⟨j, ht, hv, hi⟩ := ih
    have hT : ∀ k, k < n + 1 + 1 ↔ k < n + 1 ∨ k = n + 1 := fun k => by omega
    by_cases hc : u j < u (n + 1)
    · refine ⟨n + 1, ht.move hT hc.le (fun e => absurd e hc.ne), ?_, ?_⟩
      · show max (bestV u (n + 1)) (u (n + 1)) = _
        rw [hv]
        exact max_eq_right hc.le
      · show (if bestV u (n + 1) < u (n + 1) then _ else _) = _
        rw [hv]
        exact if_pos hc
    · have hj : j < n + 1 := ht.1
      refine ⟨j, ht.stay hT (not_lt.1 hc) (fun _ => by omega), ?_, ?_⟩
      · show max (bestV u (n + 1)) (u (n + 1)) = _
        rw [hv]
        exact max_eq_left (not_lt.1 hc)
      · show (if bestV u (n + 1) < u (n + 1) then _ else _) = _
        rw [hv, hi]
        exact if_neg hc

open Cert.Reference4Ideal

/-- Joining two pairs keeps the larger value, of equal ones that of the smaller number. -/
theorem join_eq (x y : EReal) (i j : ℕ) (hi : i < 64) (hj : j < 64) :
    reducer_argmax_f32_i32 (F := Ideal) (x, BitVec.ofNat 32 i) (y, BitVec.ofNat 32 j)
      = if y < x ∨ (x = y ∧ i < j) then (x, BitVec.ofNat 32 i) else (y, BitVec.ofNat 32 j) := by
  have hs : (BitVec.ofNat 32 i).slt (BitVec.ofNat 32 j) = decide (i < j) := by
    simp only [BitVec.slt, BitVec.toInt_eq_toNat_cond, BitVec.toNat_ofNat]
    rw [Nat.mod_eq_of_lt (by omega), Nat.mod_eq_of_lt (by omega), if_pos (by omega), if_pos (by omega)]
    simp
  by_cases h1 : y < x
  · simp [reducer_argmax_f32_i32, Ideal.cmpf_def, Ideal.cmp, IntOp.ori, IntOp.andi, IntOp.cmpi, Scalar.select, h1, hs, h1.ne']
  · by_cases h2 : x = y
    · subst h2
      by_cases h3 : i < j <;>
        simp [reducer_argmax_f32_i32, Ideal.cmpf_def, Ideal.cmp, IntOp.ori, IntOp.andi, IntOp.cmpi, Scalar.select, hs, h3]
    · simp [reducer_argmax_f32_i32, Ideal.cmpf_def, Ideal.cmp, IntOp.ori, IntOp.andi, IntOp.cmpi, Scalar.select, h1, hs, h2]

/-- Joining with the pair that the reference starts from leaves the other pair. -/
theorem join_start (y : EReal) (j : ℕ) (hy : ⊥ < y) :
    reducer_argmax_f32_i32 (F := Ideal) (⊥, 0#32) (y, BitVec.ofNat 32 j) = (y, BitVec.ofNat 32 j) := by
  simp [reducer_argmax_f32_i32, Ideal.cmpf_def, Ideal.cmp, IntOp.ori, IntOp.andi, IntOp.cmpi, Scalar.select, hy.ne]

/-- Joining a list of entries to a pair that is their first largest so far gives the first largest of all. -/
theorem join_list (u : ℕ → EReal) (l : List ℕ) (hl : ∀ k ∈ l, k < 64) (S : ℕ → Prop) (j : ℕ) (hj : j < 64) (h : Top u S j) :
    ∃ i, Top u (fun k => S k ∨ k ∈ l) i ∧
      (l.map fun k => (u k, BitVec.ofNat 32 k)).foldl (reducer_argmax_f32_i32 (F := Ideal)) (u j, BitVec.ofNat 32 j) = (u i, BitVec.ofNat 32 i) := by
  induction l generalizing S j with
  | nil => exact ⟨j, by simpa using h, rfl⟩
  | cons n l ih =>
    have hn : n < 64 := hl n (by simp)
    have hl' : ∀ k ∈ l, k < 64 := fun k hk => hl k (by simp [hk])
    have hs : ∀ (i : ℕ), Top u (fun k => (S k ∨ k = n) ∨ k ∈ l) i → Top u (fun k => S k ∨ k ∈ n :: l) i := fun i hi => by
      simpa [or_assoc] using hi
    simp only [List.map_cons, List.foldl_cons]
    rw [join_eq _ _ _ _ hj hn]
    by_cases hc : u n < u j ∨ (u j = u n ∧ j < n)
    · rw [if_pos hc]
      obtain ⟨i, a, b⟩ := ih hl' (fun k => S k ∨ k = n) j hj (h.stay (fun k => Iff.rfl) (hc.elim (fun q => q.le) (fun q => q.1.ge))
        (fun e => hc.elim (fun q => absurd e q.ne) (fun q => q.2.le)))
      exact ⟨i, hs i a, b⟩
    · rw [if_neg hc]
      push Not at hc
      obtain ⟨i, a, b⟩ := ih hl' (fun k => S k ∨ k = n) n hn (h.move (fun k => Iff.rfl) hc.1 hc.2)
      exact ⟨i, hs i a, b⟩

/-- From the reference's start. -/
theorem join_all (u : ℕ → EReal) (hu : ∀ k, ⊥ < u k) (l : List ℕ) (hl : ∀ k, k ∈ l ↔ k < 64) :
    ∃ i, Top u (· < 64) i ∧ (l.map fun k => (u k, BitVec.ofNat 32 k)).foldl (reducer_argmax_f32_i32 (F := Ideal)) (⊥, 0#32) = (u i, BitVec.ofNat 32 i) := by
  cases l with
  | nil => exact absurd ((hl 0).2 (by omega)) (by simp)
  | cons n l =>
    simp only [List.map_cons, List.foldl_cons]
    rw [join_start _ _ (hu n)]
    obtain ⟨i, a, b⟩ := join_list u l (fun k hk => (hl k).1 (by simp [hk])) (fun k => k = n) n ((hl n).1 (by simp))
      ⟨rfl, fun k hk => by subst hk; exact ⟨le_refl _, fun _ => le_refl _⟩⟩
    refine ⟨i, ?_, b⟩
    have e : (fun k => k = n ∨ k ∈ l) = (fun k => k < 64) := funext fun k => propext (by rw [← hl k]; simp)
    rw [← e]
    exact a

/-- How far two intervals lie over each other is at most the length of the first. -/
theorem common_le (a l b k : EReal) (hl : 0 < l) : max (min (a + l) (b + k) - max a b) 0 ≤ l := by
  refine max_le ?_ hl.le
  induction a using EReal.rec with
  | bot =>
    rw [EReal.bot_add, min_eq_left bot_le, EReal.bot_sub]
    exact bot_le
  | top =>
    rw [max_eq_left le_top, EReal.sub_top]
    exact bot_le
  | coe r =>
    refine (EReal.sub_le_sub (min_le_left _ _) (le_max_left _ _)).trans ?_
    induction l using EReal.rec with
    | bot => exact absurd hl (by simp)
    | top => exact le_top
    | coe s =>
      norm_cast
      linarith

/-- The overlap of two boxes of positive sides is not negative. -/
theorem iou_nonneg (py px ph pw gy gx gh gw : EReal) (h1 : 0 < ph) (h2 : 0 < pw) (h3 : 0 < gh) (h4 : 0 < gw) :
    0 ≤ iouE py px ph pw gy gx gh gw := by
  have i1 := common_le py ph gy gh h1
  have i2 := common_le px pw gx gw h2
  have j1 : 0 ≤ max (min (py + ph) (gy + gh) - max py gy) 0 := le_max_right _ _
  have j2 : 0 ≤ max (min (px + pw) (gx + gw) - max px gx) 0 := le_max_right _ _
  unfold iouE
  generalize max (min (py + ph) (gy + gh) - max py gy) 0 = u at i1 j1
  generalize max (min (px + pw) (gx + gw) - max px gx) 0 = v at i2 j2
  have hp : 0 < ph * pw := EReal.mul_pos h1 h2
  have hg : 0 < gh * gw := EReal.mul_pos h3 h4
  have hi : 0 ≤ u * v := mul_nonneg j1 j2
  have hle : u * v ≤ ph * pw + gh * gw := (mul_le_mul i1 i2 j2 h1.le).trans (le_add_of_nonneg_right hg.le)
  generalize u * v = w at hi hle
  induction w using EReal.rec with
  | bot => exact absurd hi (by simp)
  | top => rw [EReal.sub_top, Ideal.div, if_neg (by simp), EReal.inv_bot, mul_zero]
  | coe r =>
    have hd : 0 ≤ ph * pw + gh * gw - (r : EReal) := (EReal.sub_nonneg (Or.inr (EReal.coe_ne_top r)) (Or.inr (EReal.coe_ne_bot r))).2 hle
    by_cases hz : ph * pw + gh * gw - (r : EReal) = 0
    · rw [Ideal.div, if_pos hz, if_pos]
      · exact le_top
      · refine lt_of_le_of_ne hi fun e => ?_
        rw [← e, sub_zero] at hz
        exact absurd hz (add_pos_of_pos_of_nonneg hp hg.le).ne'
    · rw [Ideal.div, if_neg hz]
      exact mul_nonneg hi (EReal.inv_nonneg_of_nonneg hd)

end Cert.Overlap

end
-- ==== Proof.Overlap.RefAt.lean ====
/- The overlaps' reference at a row: the overlaps, the number of the first largest, and that one itself. -/
module

public import proofs.«01_k».proof.Proof.Overlap.RefRun
public import proofs.«01_k».proof.Proof.Overlap.Best

@[expose] public section

set_option maxRecDepth 16384

noncomputable section

namespace Cert.Overlap.Ref

open Cert.Reference4Ideal Cert.Reference4Ideal.Gen Idealize.ShloMosaic Idealize.ShloMosaic.TcCoe

/-- The reference's overlap of two boxes. -/
theorem iou_at (p : FVec Ideal S2000x4 .f32) (g : FVec Ideal S64x4 .f32) (n : Fin 2000) (k : Fin 64) :
    iouA p g (ix2 n k) = iouE (p (ix2 n 0)) (p (ix2 n 1)) (p (ix2 n 2)) (p (ix2 n 3)) (g (ix2 k 0)) (g (ix2 k 1)) (g (ix2 k 2)) (g (ix2 k 3)) := by
  pointwise [iouA, interA, clipA, across, down, pc0, pc1, pc2, pc3, gc0, gc1, gc2, gc3]
  have z : (id (constant (F := Ideal) S_ .f32 0x00000000#32) ix0 : EReal) = 0 := by
    show Ideal.ofBits .f32 0x00000000#32 = 0
    simp [Ideal.ofBits, Ideal.ieee]
  rw [z]
  simp only [iouE, max_comm (0 : EReal)]

/-- A row of the overlaps, by the number of the ground-truth box. -/
def rowU (x : FVec Ideal S2000x64 .f32) (n : Fin 2000) (k : ℕ) : EReal := if h : k < 64 then x (ix2 n ⟨k, h⟩) else x (ix2 n 0)

/-- An index of the table is in row `n` when dropping its column leaves `n`. -/
theorem row_of_drop (i : S2000x64.Idx) (n : Fin 2000) : reducesTo_S2000x64_S2000_d1.drop i = ix1 n ↔ i 0 = n := by
  constructor
  · intro h
    exact Fin.ext (congrArg (fun q : S2000.Idx => (q 0).val) h)
  · intro h
    funext b
    obtain rfl : b = 0 := Subsingleton.elim _ _
    exact Fin.ext (congrArg Fin.val h)

/-- The word that the reference starts from is minus infinity. -/
theorem bot_word : Ideal.ofBits .f32 0xFF800000#32 = (⊥ : EReal) := by simp [Ideal.ofBits, Ideal.ieee]

/-- The reference's number of the largest overlap is that of the first largest one. -/
theorem arg_at (x : FVec Ideal S2000x64 .f32) (n : Fin 2000) (hu : ∀ k, ⊥ < rowU x n k) :
    ∃ i, Top (rowU x n) (· < 64) i ∧ argA x (ix1 n) = BitVec.ofNat 32 i := by
  let l : List ℕ := ((List.finRange S2000x64.numel).filter fun t => reducesTo_S2000x64_S2000_d1.drop (S2000x64.rowMajor.symm t) = ix1 n).map
    fun t => (S2000x64.rowMajor.symm t 1).val
  have hl : ∀ k, k ∈ l ↔ k < 64 := fun k => by
    constructor
    · intro hk
      obtain ⟨t, _, rfl⟩ := List.mem_map.1 hk
      exact (S2000x64.rowMajor.symm t 1).isLt
    · intro hk
      refine List.mem_map.2 ⟨S2000x64.rowMajor (ix2 n ⟨k, hk⟩), List.mem_filter.2 ⟨List.mem_finRange _, ?_⟩, ?_⟩
      · rw [Equiv.symm_apply_apply]
        exact decide_eq_true ((row_of_drop _ n).2 rfl)
      · rw [Equiv.symm_apply_apply]
        rfl
  obtain ⟨i, ht, hf⟩ := join_all (rowU x n) hu l hl
  refine ⟨i, ht, ?_⟩
  have e : Host.argReduceFiber x (iotaInDim S2000x64 32 1) reducesTo_S2000x64_S2000_d1 (ix1 n) = l.map fun k => (rowU x n k, BitVec.ofNat 32 k) := by
    unfold Host.argReduceFiber
    rw [List.map_map]
    refine List.map_congr_left fun t ht => ?_
    have h0 : S2000x64.rowMajor.symm t 0 = n := (row_of_drop _ n).1 (of_decide_eq_true (List.mem_filter.1 ht).2)
    show (x (S2000x64.rowMajor.symm t), BitVec.ofNat 32 (S2000x64.rowMajor.symm t 1).val)
      = (rowU x n (S2000x64.rowMajor.symm t 1).val, BitVec.ofNat 32 (S2000x64.rowMajor.symm t 1).val)
    generalize S2000x64.rowMajor.symm t = q at h0
    have hq : q = ix2 n (q 1) := by
      funext b
      match b with
      | ⟨0, _⟩ => exact h0
      | ⟨1, _⟩ => rfl
    have hv : x q = rowU x n (q 1).val := by
      refine Eq.trans ?_ (dif_pos (show (q 1).val < 64 from (q 1).isLt)).symm
      exact congrArg x hq
    rw [hv]
  unfold argA
  rw [Ideal.argReduce_eq_reduce2, Host.reduce2_eq_foldl_fiber, e]
  show (List.foldl _ (Ideal.ofBits .f32 0xFF800000#32, 0#32) _).2 = _
  rw [bot_word, hf]

/-- Entries that are all one stay so when they are joined by `and`. -/
theorem all_ones {ι : Type} (l : List ι) (x : ι → BitVec 1) (h : ∀ i ∈ l, x i = 1#1) : l.foldl (fun r i => IntOp.andi r (x i)) 1#1 = 1#1 := by
  induction l with
  | nil => rfl
  | cons a l ih =>
    rw [List.foldl_cons, h a (by simp)]
    exact ih fun i hi => h i (by simp [hi])

/-- A small natural number's word, read signed. -/
theorem word_toInt (k : ℕ) (h : k < 2 ^ 31) : (BitVec.ofNat 32 k).toInt = (k : ℤ) := by
  rw [BitVec.toInt_eq_toNat_of_lt]
  · simp only [BitVec.toNat_ofNat]; omega
  · simp only [BitVec.toNat_ofNat]; omega

/-- It is not negative. -/
theorem word_nonneg (k : ℕ) (h : k < 2 ^ 31) : IntOp.cmpi .slt (BitVec.ofNat 32 k) 0#32 = 0#1 := by
  have : (BitVec.ofNat 32 k).slt 0#32 = false := by
    simp only [BitVec.slt, word_toInt k h]
    simp
  simp [IntOp.cmpi, this]

/-- It is between 0 and 63. -/
theorem word_range (k : ℕ) (h : k < 64) : IntOp.andi (IntOp.cmpi .sge (BitVec.ofNat 32 k) 0#32) (IntOp.cmpi .sle (BitVec.ofNat 32 k) 63#32) = 1#1 := by
  have a : (0#32).sle (BitVec.ofNat 32 k) = true := by
    simp only [BitVec.sle, word_toInt k (by omega)]
    simp
  have b : (BitVec.ofNat 32 k).sle 63#32 = true := by
    simp only [BitVec.sle, word_toInt k (by omega)]
    simp
    omega
  simp [IntOp.cmpi, IntOp.andi, a, b]

/-- The gather at a row whose start index names a column. -/
theorem gather_at (x : FVec Ideal S2000x64 .f32) (idx : IVec S2000x1x1 32) (n : Fin 2000) (k : Fin 64)
    (h : idx (ix3 n 0 0) = BitVec.ofNat 32 k.val) :
    Host.gather gather_S2000x64_S2000x1x1_S2000x1_n_1_0_0_1_2_11 x idx (ix2 n 0) = x (ix2 n k) := by
  have hk : (BitVec.ofNat 32 k.val).toInt.toNat = k.val := by rw [word_toInt _ (by omega)]; rfl
  unfold Host.gather
  congr 1
  funext a
  refine Fin.ext ?_
  show (gather_S2000x64_S2000x1x1_S2000x1_n_1_0_0_1_2_11).start (ix2 n 0) idx a
      + (gather_S2000x64_S2000x1x1_S2000x1_n_1_0_0_1_2_11).batchCoord (ix2 n 0) a
      + (gather_S2000x64_S2000x1x1_S2000x1_n_1_0_0_1_2_11).offCoord (ix2 n 0) a = _
  match a with
  | ⟨0, h0a⟩ =>
    rw [GatherDims.start_batching _ _ _ _ (show (0 : Fin 2) ∈ [(0 : Fin 2)] by decide),
      GatherDims.offCoord_eq_zero _ _ _ (fun h => ((GatherDims.mem_sKept _ _).mp h).2 (show (0 : Fin 2) ∈ [(0 : Fin 2)] by decide))]
    simp only [Nat.zero_add]
    rfl
  | ⟨1, h1a⟩ =>
    rw [GatherDims.batchCoord_eq_zero _ _ _ (show (1 : Fin 2) ∉ [(0 : Fin 2)] by decide),
      GatherDims.offCoord_eq_zero _ _ _ (fun h => ((GatherDims.mem_sKept _ _).mp h).1 (show (1 : Fin 2) ∈ [(1 : Fin 2)] by decide))]
    unfold GatherDims.start
    rw [dif_pos (show (⟨1, h1a⟩ : Fin 2) ∈ (gather_S2000x64_S2000x1x1_S2000x1_n_1_0_0_1_2_11).startIndexMap from (show (1 : Fin 2) ∈ [(1 : Fin 2)] by decide))]
    have hsi : ∀ h, (gather_S2000x64_S2000x1x1_S2000x1_n_1_0_0_1_2_11).siIdx (ix2 n 0)
        ⟨List.idxOf (1 : Fin 2) (gather_S2000x64_S2000x1x1_S2000x1_n_1_0_0_1_2_11).startIndexMap, h⟩ = ix3 n 0 0 := by
      intro h; funext b; refine Fin.ext ?_
      match b with
      | ⟨0, _⟩ => rfl
      | ⟨1, _⟩ => rfl
      | ⟨2, _⟩ => rfl
    erw [hsi]
    rw [h, hk]
    have := k.isLt
    show min k.val (64 - 1) + 0 + 0 = k.val
    omega

/-- The start index of a row is the index itself. -/
theorem start_at (i : IVec S2000x1 32) (n : Fin 2000) (k : Fin 64) (h : i (ix2 n 0) = BitVec.ofNat 32 k.val) :
    startA i (ix3 n 0 0) = BitVec.ofNat 32 k.val := by
  pointwise [startA]
  rw [h, word_nonneg _ (by omega)]
  rfl

/-- The entry that the index of a row names is what is taken. -/
theorem take_at (x : FVec Ideal S2000x64 .f32) (i : IVec S2000x1 32) (n : Fin 2000) (k : Fin 64) (h : i (ix2 n 0) = BitVec.ofNat 32 k.val) :
    takeA x i (ix2 n 0) = x (ix2 n k) := by
  have hs := start_at i n k h
  have g := gather_at x (startA i) n k hs
  have hm : Host.reduce IntOp.andi (andi (cmpi .sge (startA i) (broadcastInDim S2000x1x1 ![] bcast_S_S2000x1x1 (constantI S_ 32 0#32)))
        (cmpi .sle (startA i) (broadcastInDim S2000x1x1 ![0, 1, 2] bcast_S1x1x1_S2000x1x1_0_1_2 (broadcastInDim S1x1x1 ![2] bcast_S1_S1x1x1_2 (constantI S1 32 63#32)))))
      (constantI S_ 1 1#1) reducesTo_S2000x1x1_S2000x1_d2 h_S_ (ix2 n 0) = 1#1 := by
    rw [Host.reduce_eq_foldl]
    refine all_ones _ _ fun q hq => ?_
    have hd := of_decide_eq_true (List.mem_filter.1 hq).2
    have h0 : q 0 = n := Fin.ext (congrArg (fun q : S2000x1.Idx => (q 0).val) hd)
    have e : q = ix3 n 0 0 := by
      funext b
      match b with
      | ⟨0, _⟩ => exact h0
      | ⟨1, _⟩ => exact Subsingleton.elim (α := Fin 1) _ _
      | ⟨2, _⟩ => exact Subsingleton.elim (α := Fin 1) _ _
    rw [e]
    show IntOp.andi (IntOp.cmpi .sge (startA i (ix3 n 0 0)) 0#32) (IntOp.cmpi .sle (startA i (ix3 n 0 0)) 63#32) = 1#1
    rw [hs]
    exact word_range _ k.isLt
  show Scalar.select (Host.reduce IntOp.andi _ _ _ _ (ix2 n 0)) (Host.gather _ _ _ (ix2 n 0)) _ = _
  rw [hm, g]
  rfl

/-- The reference's two results at a row: the number of the first largest overlap, and that overlap. -/
theorem results_at (x : FVec Ideal S2000x64 .f32) (n : Fin 2000) (hu : ∀ k, ⊥ < rowU x n k) :
    ∃ i, Top (rowU x n) (· < 64) i ∧ argA x (ix1 n) = BitVec.ofNat 32 i ∧ topA x (ix1 n) = rowU x n i := by
  obtain ⟨i, ht, ha⟩ := arg_at x n hu
  refine ⟨i, ht, ha, ?_⟩
  have hi : i < 64 := ht.1
  have hb : broadcastInDim S2000x1 ![0] bcast_S2000_S2000x1_0 (argA x) (ix2 n 0) = BitVec.ofNat 32 (⟨i, hi⟩ : Fin 64).val := by
    pointwise
    exact ha
  have t := take_at x _ n ⟨i, hi⟩ hb
  unfold topA
  revert t
  generalize takeA x _ = w
  intro t
  pointwise
  rw [t, rowU, dif_pos hi]

end Cert.Overlap.Ref

end
-- ==== Proof.Overlap.Agree.lean ====
/- The overlap slice and its reference leave the same numbers and overlaps. -/
module

public import proofs.«01_k».proof.Proof.Overlap.Run
public import proofs.«01_k».proof.Proof.Overlap.RefAt
public import proofs.«01_k».proof.Defs

@[expose] public section

set_option maxRecDepth 16384

noncomputable section

namespace Cert.Overlap

open Idealize.ShloMosaic Idealize.ShloMosaic.TcCoe Idealize.SL.Sem
open Cert.Kernel4Ideal Cert.Kernel4Ideal.Gen

/-- The precondition's shape facts. -/
theorem boxes_facts : Cert.Pre_boxes.Facts where
  slices_S2000x4_S2000x2_0_2 := by decide
  bcast_S_S2000x2 := by decide
  slices_S64x4_S64x2_0_2 := by decide
  bcast_S_S64x2 := by decide

/-- What compares above the word of 0 is positive. -/
theorem pos_of_gt (x : EReal) (h : Ideal.cmp .ogt x (Ideal.ofBits .f32 0x00000000#32) = 1#1) : 0 < x := by
  have e : Ideal.ofBits .f32 0x00000000#32 = 0 := by simp [Ideal.ofBits, Ideal.ieee]
  rw [e] at h
  by_contra hn
  simp [Ideal.cmp, hn] at h

variable (m : (ℓ : Loc nD τ sig) → Buf (Elt Ideal) ℓ) (c : Dev nD)

/-- Every overlap of row `n`, by the number of the ground-truth box. -/
def rowE (n : Fin 2000) (k : ℕ) : EReal :=
  iouE (inPred m c (ix2 n 0)) (inPred m c (ix2 n 1)) (inPred m c (ix2 n 2)) (inPred m c (ix2 n 3))
    (row64 (fun q => inGt m c (ix2 (q 1) 0)) k) (row64 (fun q => inGt m c (ix2 (q 1) 1)) k)
    (row64 (fun q => inGt m c (ix2 (q 1) 2)) k) (row64 (fun q => inGt m c (ix2 (q 1) 3)) k)

/-- Of a number past the last the overlap is that with box 0. -/
theorem rowE_eq (n : Fin 2000) (k : ℕ) : ∃ b : Fin 64, (∀ h : k < 64, b = ⟨k, h⟩) ∧ (¬ k < 64 → b = 0) ∧
    rowE m c n k = iouE (inPred m c (ix2 n 0)) (inPred m c (ix2 n 1)) (inPred m c (ix2 n 2)) (inPred m c (ix2 n 3))
      (inGt m c (ix2 b 0)) (inGt m c (ix2 b 1)) (inGt m c (ix2 b 2)) (inGt m c (ix2 b 3)) := by
  by_cases h : k < 64
  · refine ⟨⟨k, h⟩, fun _ => rfl, fun a => absurd h a, ?_⟩
    simp only [rowE, row64, dif_pos h]
    rfl
  · refine ⟨0, fun a => absurd a h, fun _ => rfl, ?_⟩
    simp only [rowE, row64, dif_neg h]
    rfl

section
variable (h : haveI := boxes_facts; Cert.Pre_Kernel4Ideal_boxes m)
include h

/-- No overlap is negative. -/
theorem rowE_nonneg (n : Fin 2000) (k : ℕ) : 0 ≤ rowE m c n k := by
  have pp : ∀ j : Fin 2, 0 < inPred m c (ix2 n ⟨2 + j.val, by omega⟩) := fun j => by
    have a := congrFun (h c).1 (ix2 n j)
    refine pos_of_gt _ (Eq.trans ?_ a)
    refine congrArg (fun z => Ideal.cmp .ogt (inPred m c z) _) ?_
    funext d
    match d with
    | ⟨0, _⟩ => exact Fin.ext (Nat.zero_add _).symm
    | ⟨1, _⟩ => rfl
  have gp : ∀ (b : Fin 64) (j : Fin 2), 0 < inGt m c (ix2 b ⟨2 + j.val, by omega⟩) := fun b j => by
    have a := congrFun (h c).2 (ix2 b j)
    refine pos_of_gt _ (Eq.trans ?_ a)
    refine congrArg (fun z => Ideal.cmp .ogt (inGt m c z) _) ?_
    funext d
    match d with
    | ⟨0, _⟩ => exact Fin.ext (Nat.zero_add _).symm
    | ⟨1, _⟩ => rfl
  obtain ⟨b, _, _, e⟩ := rowE_eq m c n k
  rw [e]
  exact iou_nonneg _ _ _ _ _ _ _ _ (pp 0) (pp 1) (gp b 0) (gp b 1)

/-- What the call leaves at row `n`: the number of the first largest overlap, and that overlap. -/
theorem left (n : Fin 2000) : ∃ i, Top (rowE m c n) (· < 64) i
    ∧ outIdx m c (ix2 (rowOf n) (laneOf n)) = BitVec.ofNat 32 i ∧ outIou m c (ix2 (rowOf n) (laneOf n)) = rowE m c n i := by
  have hu : ∀ k, Ideal.ofBits .f32 0xBF800000#32 < rowE m c n k := fun k => by
    rw [start_word]
    refine lt_of_lt_of_le ?_ (rowE_nonneg m c h n k)
    exact_mod_cast (by norm_num : (-1 : ℝ) < 0)
  obtain ⟨i, t, v, w⟩ := best_top (rowE m c n) hu 63
  refine ⟨i, t, ?_, ?_⟩
  · refine (congrFun (arr_8 m c) _).trans ((out_8 _ _ _ _ _ _ _ _ _ _).trans ?_)
    rw [at_0, at_1, at_2, at_3, at_4, at_5, at_6, at_7]
    exact w
  · refine (congrFun (arr_9 m c) _).trans ((out_9 _ _ _ _ _ _ _ _ _ _).trans ?_)
    rw [at_0, at_1, at_2, at_3, at_4, at_5, at_6, at_7]
    exact v

end

variable (m' : (ℓ : Loc Cert.Reference4Ideal.nD Cert.Reference4Ideal.τ Cert.Reference4Ideal.sig) → Buf (Elt Ideal) ℓ)
  (sp : Ref.argPred m' c = inPred m c) (sg : Ref.argGt m' c = inGt m c)
include sp sg

/-- The reference's overlaps of a row are those of the call. -/
theorem row_same (n : Fin 2000) : Ref.rowU (Ref.iouA (Ref.argPred m' c) (Ref.argGt m' c)) n = rowE m c n := by
  funext k
  obtain ⟨b, h1, h2, e⟩ := rowE_eq m c n k
  rw [e, sp, sg, ← Ref.iou_at]
  unfold Ref.rowU
  by_cases h : k < 64
  · rw [dif_pos h, h1 h]
  · rw [dif_neg h, h2 h]

variable (h : haveI := boxes_facts; Cert.Pre_Kernel4Ideal_boxes m)
include h

/-- At a row the two results of both are equal. -/
theorem same_at (n : Fin 2000) : Ref.argA (Ref.iouA (Ref.argPred m' c) (Ref.argGt m' c)) (ix1 n) = flat (e := .i32) (outIdx m c) (ix1 n)
    ∧ Ref.topA (Ref.iouA (Ref.argPred m' c) (Ref.argGt m' c)) (ix1 n) = flat (e := .f32) (outIou m c) (ix1 n) := by
  have r := row_same m c m' sp sg n
  obtain ⟨i, t, a, b⟩ := left m c h n
  obtain ⟨j, t', a', b'⟩ := Ref.results_at (Ref.iouA (Ref.argPred m' c) (Ref.argGt m' c)) n
    (fun k => lt_of_lt_of_le EReal.bot_lt_zero (by rw [r]; exact rowE_nonneg m c h n k))
  rw [r] at t' b'
  have e : j = i := t'.unique t
  rw [e] at a' b'
  exact ⟨a'.trans (a.symm.trans (flat_at (e := .i32) _ n).symm), b'.trans (b.symm.trans (flat_at (e := .f32) _ n).symm)⟩

/-- The numbers of the largest overlaps are equal. -/
theorem idx_same : Ref.argA (Ref.iouA (Ref.argPred m' c) (Ref.argGt m' c)) = flat (e := .i32) (outIdx m c) := by
  funext i
  idx_vars i
  exact (same_at m c m' sp sg h i0).1

/-- The largest overlaps are equal. -/
theorem iou_same : Ref.topA (Ref.iouA (Ref.argPred m' c) (Ref.argGt m' c)) = flat (e := .f32) (outIou m c) := by
  funext i
  idx_vars i
  exact (same_at m c m' sp sg h i0).2

end Cert.Overlap

end
-- ==== Proof.lean ====
/- The claims about the head call and about two parts of the geometry call: kernel, ideal reading and reference each
   run without fault and leave their arguments and counters as they were, the ideal reading is the kernel over the extended
   reals, and the ideal kernel and the reference compute the same results: class probabilities, selected box regressions and
   scores of the head; standardised regressions, decoded boxes and the box and label targets of the geometry call. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Head.Agree
public import Idealize.ShloMosaic.Adequacy
public import Idealize.ShloMosaic.Init
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Geo.Agree
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Target.Agree
public import proofs.«01_k».proof.Proof.Overlap.Agree
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal

@[expose] public section

noncomputable section

set_option maxRecDepth 16384

namespace Cert.Proof

open Idealize.ShloMosaic Idealize.ShloMosaic.TcCoe Idealize.SL.Sem

instance : Cert.Pre_tame.Facts := Cert.Head.tame_facts

instance : Cert.Pre_chosen.Facts := Cert.Target.chosen_facts

instance : Cert.Pre_boxes.Facts := Cert.Overlap.boxes_facts

/-- The reference runs and ends with its arguments unchanged; it declares no semaphore. -/
theorem frame_reference : Cert.quiescent_ReferenceIdeal := fun m g _ =>
  (θ_run Cert.ReferenceIdeal.defs _ _).mono (fun r h => ⟨fun c => (h c).2.2.2, sem_eq_zero_of_no_sems (by decide) r.2⟩)
    (Cert.ReferenceIdeal.Value.run (F := Ideal) m g)

/-- Kernel and reference end with equal class probabilities, selected regressions and scores. -/
theorem algebraic : Cert.algebraic_KernelIdeal_ReferenceIdeal_pre_tame := by
  intro m g m' g' hpre hagree
  have s : ∀ c, Cert.Head.Same m m' c := fun c =>
    have h := hagree c
    ⟨h.1, h.2.1, h.2.2.1, h.2.2.2.1, h.2.2.2.2.1, h.2.2.2.2.2.1, h.2.2.2.2.2.2.1, h.2.2.2.2.2.2.2.1, h.2.2.2.2.2.2.2.2.1,
      h.2.2.2.2.2.2.2.2.2⟩
  refine ⟨_, _, _,
    (θ_run Cert.KernelIdeal.defs _ _).mono (fun r h c => ⟨(h.1 c).1, (h.1 c).2.1, (h.1 c).2.2, h.2.1 c⟩)
      (θ_run_and (Cert.Head.results m g) (Cert.KernelIdeal.Gen.frame (F := Ideal) m g)),
    (θ_run Cert.ReferenceIdeal.defs _ _).mono (fun r h c => ⟨(h c).1.trans (Cert.Head.cls_same m m' c (s c)),
      (h c).2.1.trans (Cert.Head.loc_same m m' c (s c) hpre), (h c).2.2.1.trans (Cert.Head.score_same m m' c (s c) hpre), (h c).2.2.2⟩)
      (Cert.ReferenceIdeal.Value.run (F := Ideal) m' g')⟩

/-- The geometry call's reference runs and ends with its arguments unchanged; it declares no semaphore. -/
theorem frame_reference2 : Cert.quiescent_Reference2Ideal := fun m g _ =>
  (θ_run Cert.Reference2Ideal.defs _ _).mono (fun r h => ⟨fun c => (h c).2.2, sem_eq_zero_of_no_sems (by decide) r.2⟩)
    (Cert.Reference2Ideal.Value.run (F := Ideal) m g)

/-- The geometry call and its reference end with equal standardised regressions and decoded boxes. -/
theorem algebraic2 : Cert.algebraic_Kernel2Ideal_Reference2Ideal := by
  intro m g m' g' _ hagree
  refine ⟨_, _,
    (θ_run Cert.Kernel2Ideal.defs _ _).mono (fun r h c => ⟨(h.1 c).1, (h.1 c).2, h.2.1 c⟩)
      (θ_run_and (Cert.Geo.results m g) (Cert.Kernel2Ideal.Gen.frame (F := Ideal) m g)),
    (θ_run Cert.Reference2Ideal.defs _ _).mono (fun r h c => ⟨(h c).1.trans (Cert.Geo.loc_same m m' c (hagree c).1),
      (h c).2.1.trans (Cert.Geo.box_same m m' c (hagree c).1 (hagree c).2), (h c).2.2⟩)
      (Cert.Reference2Ideal.Value.run (F := Ideal) m' g')⟩

/-- The targets' reference runs and ends with its arguments unchanged; it declares no semaphore. -/
theorem frame_reference3 : Cert.quiescent_Reference3Ideal := fun m g _ =>
  (θ_run Cert.Reference3Ideal.defs _ _).mono (fun r h => ⟨fun c => (h c).2.2, sem_eq_zero_of_no_sems (by decide) r.2⟩)
    (Cert.Reference3Ideal.Value.run (F := Ideal) m g)

/-- The targets' part of the geometry call and its reference end with equal box and label targets. -/
theorem algebraic3 : Cert.algebraic_Kernel3Ideal_Reference3Ideal_pre_chosen := by
  intro m g m' g' hpre hagree
  have s : ∀ c, Cert.Target.Same m m' c := fun c =>
    have h := hagree c
    ⟨h.1, h.2.1, h.2.2.1, h.2.2.2.1, h.2.2.2.2⟩
  refine ⟨_, _,
    (θ_run Cert.Kernel3Ideal.defs _ _).mono (fun r h c => ⟨(h.1 c).1, (h.1 c).2, h.2.1 c⟩)
      (θ_run_and (Cert.Target.results m g) (Cert.Kernel3Ideal.Gen.frame (F := Ideal) m g)),
    (θ_run Cert.Reference3Ideal.defs _ _).mono (fun r h c => ⟨(h c).1.trans (Cert.Target.loc_same m m' c (s c) hpre),
      (h c).2.1.trans (Cert.Target.lab_same m m' c (s c) hpre), (h c).2.2⟩)
      (Cert.Reference3Ideal.Value.run (F := Ideal) m' g')⟩

/-- The overlaps' reference runs and ends with its arguments unchanged; it declares no semaphore. -/
theorem frame_reference4 : Cert.quiescent_Reference4Ideal := fun m g _ =>
  (θ_run Cert.Reference4Ideal.defs _ _).mono (fun r h => ⟨fun c => (h c).2.2, sem_eq_zero_of_no_sems (by decide) r.2⟩)
    (Cert.Overlap.Ref.run (F := Ideal) m g)

/-- The overlaps' part of the geometry call and its reference end with equal numbers of the best boxes and equal largest overlaps. -/
theorem algebraic4 : Cert.algebraic_Kernel4Ideal_Reference4Ideal_pre_boxes := by
  intro m g m' g' hpre hagree
  refine ⟨_, _,
    (θ_run Cert.Kernel4Ideal.defs _ _).mono (fun r h c => ⟨(h.1 c).1, (h.1 c).2, h.2.1 c⟩)
      (θ_run_and (Cert.Overlap.results m g) (Cert.Kernel4Ideal.Gen.frame (F := Ideal) m g)),
    (θ_run Cert.Reference4Ideal.defs _ _).mono (fun r h c => ⟨(h c).1.trans (Cert.Overlap.idx_same m c m' (hagree c).1 (hagree c).2 hpre),
      (h c).2.1.trans (Cert.Overlap.iou_same m c m' (hagree c).1 (hagree c).2 hpre), (h c).2.2⟩)
      (Cert.Overlap.Ref.run (F := Ideal) m' g')⟩

/-- Every claim: the frames (the ideal ones of the head, of the targets and of the overlaps also under their preconditions), the naming of the mask, and the equality of the results of the four programs. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Head.tame_facts, Cert.Target.chosen_facts, Cert.Overlap.boxes_facts,
  fun m g _ => Cert.Kernel.Gen.frame m g, fun m g _ => Cert.KernelIdeal.Gen.frame m g, fun m g _ => Cert.KernelIdeal.Gen.frame m g,
  frame_reference, fun m g _ => frame_reference m g trivial,
  fun m g _ => Cert.Kernel2.Gen.frame m g, fun m g _ => Cert.Kernel2Ideal.Gen.frame m g, frame_reference2,
  fun m g _ => Cert.Kernel3.Gen.frame m g, fun m g _ => Cert.Kernel3Ideal.Gen.frame m g, fun m g _ => Cert.Kernel3Ideal.Gen.frame m g,
  frame_reference3, fun m g _ => frame_reference3 m g trivial,
  fun m g _ => Cert.Kernel4.Gen.frame m g, fun m g _ => Cert.Kernel4Ideal.Gen.frame m g, fun m g _ => Cert.Kernel4Ideal.Gen.frame m g,
  frame_reference4, fun m g _ => frame_reference4 m g trivial,
  IdealRules.named_const.statement Cert.KernelIdeal.κ "mask" .f32 0xF149F2CA#32 ⊥ rfl, algebraic, trivial, algebraic2, trivial, algebraic3, trivial, algebraic4⟩

end Cert.Proof

end
